-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S120x256 : Shape := ⟨2, ![120, 256]⟩
abbrev S120 : Shape := ⟨1, ![120]⟩
abbrev S120x32x512 : Shape := ⟨3, ![120, 32, 512]⟩
abbrev S120x32x64 : Shape := ⟨3, ![120, 32, 64]⟩
abbrev S120x512 : Shape := ⟨2, ![120, 512]⟩
abbrev S120x64 : Shape := ⟨2, ![120, 64]⟩
abbrev S38400x24x128 : Shape := ⟨3, ![38400, 24, 128]⟩
abbrev S_ : Shape := ⟨0, ![]⟩

class Facts : Prop where
  bcast_S_S120x256 : S_.BroadcastsInDim S120x256 (![] : Fin 0 → Fin S120x256.rank)
  bcast_S_S120 : S_.BroadcastsInDim S120 (![] : Fin 0 → Fin S120.rank)

variable [Facts]

def fn {F : FTy → Type} [FloatOps F] (main_arg0 : IVec S120x256 32) (main_arg1 : IVec S120 32) (main_arg2 : FVec F S120x32x512 .bf16) (main_arg3 : FVec F S120x32x64 .bf16) (main_arg4 : FVec F S120x512 .bf16) (main_arg5 : FVec F S120x64 .bf16) (main_arg6 : IVec S38400x24x128 32) : IVec S120x256 1 × IVec S120 1 :=
  let main_c : IVec S_ 32 := constantI S_ 32 0#32
  let main_v0 : IVec S120x256 32 := broadcastInDim S120x256 ![] bcast_S_S120x256 main_c
  let main_v1 : IVec S120x256 1 := cmpi .sge main_arg0 main_v0
  let main_c_0 : IVec S_ 32 := constantI S_ 32 38400#32
  let main_v2 : IVec S120x256 32 := broadcastInDim S120x256 ![] bcast_S_S120x256 main_c_0
  let main_v3 : IVec S120x256 1 := cmpi .slt main_arg0 main_v2
  let main_v4 : IVec S120x256 1 := andi main_v1 main_v3
  let main_c_1 : IVec S_ 32 := constantI S_ 32 0#32
  let main_v5 : IVec S120 32 := broadcastInDim S120 ![] bcast_S_S120 main_c_1
  let main_v6 : IVec S120 1 := cmpi .sge main_arg1 main_v5
  let main_c_2 : IVec S_ 32 := constantI S_ 32 4096#32
  let main_v7 : IVec S120 32 := broadcastInDim S120 ![] bcast_S_S120 main_c_2
  let main_v8 : IVec S120 1 := cmpi .sle main_arg1 main_v7
  let main_v9 : IVec S120 1 := andi main_v6 main_v8
  (main_v4, main_v9)
-- ==== Pre_in_range_finite.lean ====
abbrev S120x256 : Shape := ⟨2, ![120, 256]⟩
abbrev S120 : Shape := ⟨1, ![120]⟩
abbrev S120x32x512 : Shape := ⟨3, ![120, 32, 512]⟩
abbrev S120x32x64 : Shape := ⟨3, ![120, 32, 64]⟩
abbrev S120x512 : Shape := ⟨2, ![120, 512]⟩
abbrev S120x64 : Shape := ⟨2, ![120, 64]⟩
abbrev S38400x24x128 : Shape := ⟨3, ![38400, 24, 128]⟩
abbrev S_ : Shape := ⟨0, ![]⟩
abbrev S38400x8x128 : Shape := ⟨3, ![38400, 8, 128]⟩
abbrev S38400x16x128 : Shape := ⟨3, ![38400, 16, 128]⟩

class Facts : Prop where
  bcast_S_S120x256 : S_.BroadcastsInDim S120x256 (![] : Fin 0 → Fin S120x256.rank)
  bcast_S_S120 : S_.BroadcastsInDim S120 (![] : Fin 0 → Fin S120.rank)
  bcast_S_S120x32x512 : S_.BroadcastsInDim S120x32x512 (![] : Fin 0 → Fin S120x32x512.rank)
  bcast_S_S120x32x64 : S_.BroadcastsInDim S120x32x64 (![] : Fin 0 → Fin S120x32x64.rank)
  bcast_S_S120x512 : S_.BroadcastsInDim S120x512 (![] : Fin 0 → Fin S120x512.rank)
  bcast_S_S120x64 : S_.BroadcastsInDim S120x64 (![] : Fin 0 → Fin S120x64.rank)
  slices_S38400x24x128_S38400x8x128_0_16_0 : S38400x24x128.Slices ![0, 16, 0] S38400x8x128
  bcast_S_S38400x8x128 : S_.BroadcastsInDim S38400x8x128 (![] : Fin 0 → Fin S38400x8x128.rank)
  slices_S38400x24x128_S38400x16x128_0_0_0 : S38400x24x128.Slices ![0, 0, 0] S38400x16x128
  bcast_S_S38400x16x128 : S_.BroadcastsInDim S38400x16x128 (![] : Fin 0 → Fin S38400x16x128.rank)

variable [Facts]

def fn_part3 {F : FTy → Type} [FloatOps F] (main_arg6 : IVec S38400x24x128 32) (main_v4 : IVec S120x256 1) (main_v9 : IVec S120 1) (main_v12 : IVec S120x32x512 1) (main_v15 : IVec S120x32x64 1) (main_v18 : IVec S120x512 1) (main_v21 : IVec S120x64 1) (main_v26 : IVec S38400x8x128 1) (main_v33 : IVec S38400x8x128 1) (main_v38 : IVec S38400x16x128 1) (main_v45 : IVec S38400x16x128 1) (main_v50 : IVec S38400x16x128 32) (main_c_18 : IVec S_ 32) : IVec S120x256 1 × IVec S120 1 × IVec S120x32x512 1 × IVec S120x32x64 1 × IVec S120x512 1 × IVec S120x64 1 × IVec S38400x8x128 1 × IVec S38400x8x128 1 × IVec S38400x16x128 1 × IVec S38400x16x128 1 × IVec S38400x16x128 1 × IVec S38400x16x128 1 :=
  let main_v51 : IVec S38400x16x128 32 := broadcastInDim S38400x16x128 ![] bcast_S_S38400x16x128 main_c_18
  let main_v52 : IVec S38400x16x128 1 := cmpi .ne main_v50 main_v51
  let main_v53 : IVec S38400x16x128 32 := (extractStridedSlice S38400x16x128 ![0, 0, 0] · slices_S38400x24x128_S38400x16x128_0_0_0) main_arg6
  let main_c_19 : IVec S_ 32 := constantI S_ 32 24#32
  let main_v54 : IVec S38400x16x128 32 := broadcastInDim S38400x16x128 ![] bcast_S_S38400x16x128 main_c_19
  let main_v55 : IVec S38400x16x128 32 := Host.shrui main_v53 main_v54
  let main_c_20 : IVec S_ 32 := constantI S_ 32 127#32
  let main_v56 : IVec S38400x16x128 32 := broadcastInDim S38400x16x128 ![] bcast_S_S38400x16x128 main_c_20
  let main_v57 : IVec S38400x16x128 32 := andi main_v55 main_v56
  let main_c_21 : IVec S_ 32 := constantI S_ 32 127#32
  let main_v58 : IVec S38400x16x128 32 := broadcastInDim S38400x16x128 ![] bcast_S_S38400x16x128 main_c_21
  let main_v59 : IVec S38400x16x128 1 := cmpi .ne main_v57 main_v58
  (main_v4, main_v9, main_v12, main_v15, main_v18, main_v21, main_v26, main_v33, main_v38, main_v45, main_v52, main_v59)

def fn_part2 {F : FTy → Type} [FloatOps F] (main_arg6 : IVec S38400x24x128 32) (main_v4 : IVec S120x256 1) (main_v9 : IVec S120 1) (main_v12 : IVec S120x32x512 1) (main_v15 : IVec S120x32x64 1) (main_v18 : IVec S120x512 1) (main_v21 : IVec S120x64 1) (main_v26 : IVec S38400x8x128 1) (main_v33 : IVec S38400x8x128 1) (main_v34 : IVec S38400x16x128 32) : IVec S120x256 1 × IVec S120 1 × IVec S120x32x512 1 × IVec S120x32x64 1 × IVec S120x512 1 × IVec S120x64 1 × IVec S38400x8x128 1 × IVec S38400x8x128 1 × IVec S38400x16x128 1 × IVec S38400x16x128 1 × IVec S38400x16x128 1 × IVec S38400x16x128 1 :=
  let main_c_11 : IVec S_ 32 := constantI S_ 32 127#32
  let main_v35 : IVec S38400x16x128 32 := broadcastInDim S38400x16x128 ![] bcast_S_S38400x16x128 main_c_11
  let main_v36 : IVec S38400x16x128 32 := andi main_v34 main_v35
  let main_c_12 : IVec S_ 32 := constantI S_ 32 127#32
  let main_v37 : IVec S38400x16x128 32 := broadcastInDim S38400x16x128 ![] bcast_S_S38400x16x128 main_c_12
  let main_v38 : IVec S38400x16x128 1 := cmpi .ne main_v36 main_v37
  let main_v39 : IVec S38400x16x128 32 := (extractStridedSlice S38400x16x128 ![0, 0, 0] · slices_S38400x24x128_S38400x16x128_0_0_0) main_arg6
  let main_c_13 : IVec S_ 32 := constantI S_ 32 8#32
  let main_v40 : IVec S38400x16x128 32 := broadcastInDim S38400x16x128 ![] bcast_S_S38400x16x128 main_c_13
  let main_v41 : IVec S38400x16x128 32 := Host.shrui main_v39 main_v40
  let main_c_14 : IVec S_ 32 := constantI S_ 32 127#32
  let main_v42 : IVec S38400x16x128 32 := broadcastInDim S38400x16x128 ![] bcast_S_S38400x16x128 main_c_14
  let main_v43 : IVec S38400x16x128 32 := andi main_v41 main_v42
  let main_c_15 : IVec S_ 32 := constantI S_ 32 127#32
  let main_v44 : IVec S38400x16x128 32 := broadcastInDim S38400x16x128 ![] bcast_S_S38400x16x128 main_c_15
  let main_v45 : IVec S38400x16x128 1 := cmpi .ne main_v43 main_v44
  let main_v46 : IVec S38400x16x128 32 := (extractStridedSlice S38400x16x128 ![0, 0, 0] · slices_S38400x24x128_S38400x16x128_0_0_0) main_arg6
  let main_c_16 : IVec S_ 32 := constantI S_ 32 16#32
  let main_v47 : IVec S38400x16x128 32 := broadcastInDim S38400x16x128 ![] bcast_S_S38400x16x128 main_c_16
  let main_v48 : IVec S38400x16x128 32 := Host.shrui main_v46 main_v47
  let main_c_17 : IVec S_ 32 := constantI S_ 32 127#32
  let main_v49 : IVec S38400x16x128 32 := broadcastInDim S38400x16x128 ![] bcast_S_S38400x16x128 main_c_17
  let main_v50 : IVec S38400x16x128 32 := andi main_v48 main_v49
  let main_c_18 : IVec S_ 32 := constantI S_ 32 127#32
  fn_part3 (F := F) main_arg6 main_v4 main_v9 main_v12 main_v15 main_v18 main_v21 main_v26 main_v33 main_v38 main_v45 main_v50 main_c_18

def fn_part1 {F : FTy → Type} [FloatOps F] (main_arg5 : FVec F S120x64 .bf16) (main_arg6 : IVec S38400x24x128 32) (main_v4 : IVec S120x256 1) (main_v9 : IVec S120 1) (main_v12 : IVec S120x32x512 1) (main_v15 : IVec S120x32x64 1) (main_v16 : FVec F S120x512 .bf16) (main_cst_4 : FVec F S_ .bf16) : IVec S120x256 1 × IVec S120 1 × IVec S120x32x512 1 × IVec S120x32x64 1 × IVec S120x512 1 × IVec S120x64 1 × IVec S38400x8x128 1 × IVec S38400x8x128 1 × IVec S38400x16x128 1 × IVec S38400x16x128 1 × IVec S38400x16x128 1 × IVec S38400x16x128 1 :=
  let main_v17 : FVec F S120x512 .bf16 := broadcastInDim S120x512 ![] bcast_S_S120x512 main_cst_4
  let main_v18 : IVec S120x512 1 := cmpf .olt main_v16 main_v17
  let main_v19 : FVec F S120x64 .bf16 := Host.absf main_arg5
  let main_cst_5 : FVec F S_ .bf16 := constant S_ .bf16 0x7F80#16
  let main_v20 : FVec F S120x64 .bf16 := broadcastInDim S120x64 ![] bcast_S_S120x64 main_cst_5
  let main_v21 : IVec S120x64 1 := cmpf .olt main_v19 main_v20
  let main_v22 : IVec S38400x8x128 32 := (extractStridedSlice S38400x8x128 ![0, 16, 0] · slices_S38400x24x128_S38400x8x128_0_16_0) main_arg6
  let main_c_6 : IVec S_ 32 := constantI S_ 32 32640#32
  let main_v23 : IVec S38400x8x128 32 := broadcastInDim S38400x8x128 ![] bcast_S_S38400x8x128 main_c_6
  let main_v24 : IVec S38400x8x128 32 := andi main_v22 main_v23
  let main_c_7 : IVec S_ 32 := constantI S_ 32 32640#32
  let main_v25 : IVec S38400x8x128 32 := broadcastInDim S38400x8x128 ![] bcast_S_S38400x8x128 main_c_7
  let main_v26 : IVec S38400x8x128 1 := cmpi .ne main_v24 main_v25
  let main_v27 : IVec S38400x8x128 32 := (extractStridedSlice S38400x8x128 ![0, 16, 0] · slices_S38400x24x128_S38400x8x128_0_16_0) main_arg6
  let main_c_8 : IVec S_ 32 := constantI S_ 32 16#32
  let main_v28 : IVec S38400x8x128 32 := broadcastInDim S38400x8x128 ![] bcast_S_S38400x8x128 main_c_8
  let main_v29 : IVec S38400x8x128 32 := Host.shrui main_v27 main_v28
  let main_c_9 : IVec S_ 32 := constantI S_ 32 32640#32
  let main_v30 : IVec S38400x8x128 32 := broadcastInDim S38400x8x128 ![] bcast_S_S38400x8x128 main_c_9
  let main_v31 : IVec S38400x8x128 32 := andi main_v29 main_v30
  let main_c_10 : IVec S_ 32 := constantI S_ 32 32640#32
  let main_v32 : IVec S38400x8x128 32 := broadcastInDim S38400x8x128 ![] bcast_S_S38400x8x128 main_c_10
  let main_v33 : IVec S38400x8x128 1 := cmpi .ne main_v31 main_v32
  let main_v34 : IVec S38400x16x128 32 := (extractStridedSlice S38400x16x128 ![0, 0, 0] · slices_S38400x24x128_S38400x16x128_0_0_0) main_arg6
  fn_part2 (F := F) main_arg6 main_v4 main_v9 main_v12 main_v15 main_v18 main_v21 main_v26 main_v33 main_v34

def fn {F : FTy → Type} [FloatOps F] (main_arg0 : IVec S120x256 32) (main_arg1 : IVec S120 32) (main_arg2 : FVec F S120x32x512 .bf16) (main_arg3 : FVec F S120x32x64 .bf16) (main_arg4 : FVec F S120x512 .bf16) (main_arg5 : FVec F S120x64 .bf16) (main_arg6 : IVec S38400x24x128 32) : IVec S120x256 1 × IVec S120 1 × IVec S120x32x512 1 × IVec S120x32x64 1 × IVec S120x512 1 × IVec S120x64 1 × IVec S38400x8x128 1 × IVec S38400x8x128 1 × IVec S38400x16x128 1 × IVec S38400x16x128 1 × IVec S38400x16x128 1 × IVec S38400x16x128 1 :=
  let main_c : IVec S_ 32 := constantI S_ 32 0#32
  let main_v0 : IVec S120x256 32 := broadcastInDim S120x256 ![] bcast_S_S120x256 main_c
  let main_v1 : IVec S120x256 1 := cmpi .sge main_arg0 main_v0
  let main_c_0 : IVec S_ 32 := constantI S_ 32 38400#32
  let main_v2 : IVec S120x256 32 := broadcastInDim S120x256 ![] bcast_S_S120x256 main_c_0
  let main_v3 : IVec S120x256 1 := cmpi .slt main_arg0 main_v2
  let main_v4 : IVec S120x256 1 := andi main_v1 main_v3
  let main_c_1 : IVec S_ 32 := constantI S_ 32 0#32
  let main_v5 : IVec S120 32 := broadcastInDim S120 ![] bcast_S_S120 main_c_1
  let main_v6 : IVec S120 1 := cmpi .sge main_arg1 main_v5
  let main_c_2 : IVec S_ 32 := constantI S_ 32 4096#32
  let main_v7 : IVec S120 32 := broadcastInDim S120 ![] bcast_S_S120 main_c_2
  let main_v8 : IVec S120 1 := cmpi .sle main_arg1 main_v7
  let main_v9 : IVec S120 1 := andi main_v6 main_v8
  let main_v10 : FVec F S120x32x512 .bf16 := Host.absf main_arg2
  let main_cst : FVec F S_ .bf16 := constant S_ .bf16 0x7F80#16
  let main_v11 : FVec F S120x32x512 .bf16 := broadcastInDim S120x32x512 ![] bcast_S_S120x32x512 main_cst
  let main_v12 : IVec S120x32x512 1 := cmpf .olt main_v10 main_v11
  let main_v13 : FVec F S120x32x64 .bf16 := Host.absf main_arg3
  let main_cst_3 : FVec F S_ .bf16 := constant S_ .bf16 0x7F80#16
  let main_v14 : FVec F S120x32x64 .bf16 := broadcastInDim S120x32x64 ![] bcast_S_S120x32x64 main_cst_3
  let main_v15 : IVec S120x32x64 1 := cmpf .olt main_v13 main_v14
  let main_v16 : FVec F S120x512 .bf16 := Host.absf main_arg4
  let main_cst_4 : FVec F S_ .bf16 := constant S_ .bf16 0x7F80#16
  fn_part1 (F := F) main_arg5 main_arg6 main_v4 main_v9 main_v12 main_v15 main_v16 main_cst_4
-- ==== Kernel.lean ====
abbrev S120x256 : Shape := ⟨2, ![120, 256]⟩
abbrev S120 : Shape := ⟨1, ![120]⟩
abbrev S120x32x512 : Shape := ⟨3, ![120, 32, 512]⟩
abbrev S120x32x64 : Shape := ⟨3, ![120, 32, 64]⟩
abbrev S120x512 : Shape := ⟨2, ![120, 512]⟩
abbrev S120x64 : Shape := ⟨2, ![120, 64]⟩
abbrev S38400x24x128 : Shape := ⟨3, ![38400, 24, 128]⟩
abbrev S_ : Shape := ⟨0, ![]⟩
abbrev S120x48x128 : Shape := ⟨3, ![120, 48, 128]⟩
abbrev S1 : Shape := ⟨1, ![1]⟩
abbrev S2 : Shape := ⟨1, ![2]⟩
abbrev S48x128 : Shape := ⟨2, ![48, 128]⟩
abbrev S48 : Shape := ⟨1, ![48]⟩
abbrev S48x1 : Shape := ⟨2, ![48, 1]⟩
abbrev S1x48x128 : Shape := ⟨3, ![1, 48, 128]⟩
abbrev S120x128 : Shape := ⟨2, ![120, 128]⟩
abbrev S120x1x128 : Shape := ⟨3, ![120, 1, 128]⟩
abbrev S120x1x512 : Shape := ⟨3, ![120, 1, 512]⟩
abbrev S120x1x32 : Shape := ⟨3, ![120, 1, 32]⟩
abbrev S1x32x512 : Shape := ⟨3, ![1, 32, 512]⟩
abbrev S1x1x512 : Shape := ⟨3, ![1, 1, 512]⟩
abbrev S1x1x128 : Shape := ⟨3, ![1, 1, 128]⟩
abbrev S1x1x32 : Shape := ⟨3, ![1, 1, 32]⟩
abbrev S2x256x24x128 : Shape := ⟨4, ![2, 256, 24, 128]⟩
abbrev S1x1 : Shape := ⟨2, ![1, 1]⟩
abbrev S1x1x24x128 : Shape := ⟨4, ![1, 1, 24, 128]⟩
abbrev S24x128 : Shape := ⟨2, ![24, 128]⟩
abbrev S1x24x128 : Shape := ⟨3, ![1, 24, 128]⟩
abbrev S32x512 : Shape := ⟨2, ![32, 512]⟩
abbrev S1x512 : Shape := ⟨2, ![1, 512]⟩
abbrev S32 : Shape := ⟨1, ![32]⟩
abbrev S32x1 : Shape := ⟨2, ![32, 1]⟩
abbrev S32x128 : Shape := ⟨2, ![32, 128]⟩
abbrev S1x128 : Shape := ⟨2, ![1, 128]⟩
abbrev S1x16x8x128 : Shape := ⟨4, ![1, 16, 8, 128]⟩
abbrev S16x8x128 : Shape := ⟨3, ![16, 8, 128]⟩
abbrev S128x128 : Shape := ⟨2, ![128, 128]⟩
abbrev S256x128 : Shape := ⟨2, ![256, 128]⟩
abbrev S48x256 : Shape := ⟨2, ![48, 256]⟩
abbrev S32x256 : Shape := ⟨2, ![32, 256]⟩
abbrev S1x16x4x128 : Shape := ⟨4, ![1, 16, 4, 128]⟩
abbrev S16x4x128 : Shape := ⟨3, ![16, 4, 128]⟩
abbrev S64x128 : Shape := ⟨2, ![64, 128]⟩
abbrev S1x256 : Shape := ⟨2, ![1, 256]⟩
abbrev S128x32 : Shape := ⟨2, ![128, 32]⟩
abbrev S1x32 : Shape := ⟨2, ![1, 32]⟩

abbrev nBuf : Space → Nat
  | .hbm => 43
  | .vmem => 13
  | .smem => 2
  | _ => 0

abbrev bufTy : (tb : Table) → Fin (tcTables nBuf tb) → BufTy
  | .hbm, ⟨0, _⟩ => ⟨S120x32x512, .bf16⟩
  | .hbm, ⟨1, _⟩ => ⟨S120x32x64, .bf16⟩
  | .hbm, ⟨2, _⟩ => ⟨S120x512, .bf16⟩
  | .hbm, ⟨3, _⟩ => ⟨S120x64, .bf16⟩
  | .hbm, ⟨4, _⟩ => ⟨S38400x24x128, .i32⟩
  | .hbm, ⟨5, _⟩ => ⟨S_, .bf16⟩
  | .hbm, ⟨6, _⟩ => ⟨S120x48x128, .bf16⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S120x48x128, .bf16⟩
  | .hbm, ⟨13, _⟩ => ⟨S48x128, .i32⟩
  | .hbm, ⟨14, _⟩ => ⟨S48x128, .i32⟩
  | .hbm, ⟨15, _⟩ => ⟨S_, .i32⟩
  | .hbm, ⟨16, _⟩ => ⟨S48x128, .i32⟩
  | .hbm, ⟨17, _⟩ => ⟨S48x128, .i32⟩
  | .hbm, ⟨18, _⟩ => ⟨S48x128, .i1⟩
  | .hbm, ⟨19, _⟩ => ⟨S48x128, .bf16⟩
  | .hbm, ⟨20, _⟩ => ⟨S48, .i32⟩
  | .hbm, ⟨21, _⟩ => ⟨S_, .i32⟩
  | .hbm, ⟨22, _⟩ => ⟨S48, .i32⟩
  | .hbm, ⟨23, _⟩ => ⟨S48, .i1⟩
  | .hbm, ⟨24, _⟩ => ⟨S48, .i32⟩
  | .hbm, ⟨25, _⟩ => ⟨S_, .i32⟩
  | .hbm, ⟨26, _⟩ => ⟨S48, .i32⟩
  | .hbm, ⟨27, _⟩ => ⟨S48, .i1⟩
  | .hbm, ⟨28, _⟩ => ⟨S48, .i1⟩
  | .hbm, ⟨29, _⟩ => ⟨S48, .bf16⟩
  | .hbm, ⟨30, _⟩ => ⟨S48x1, .bf16⟩
  | .hbm, ⟨31, _⟩ => ⟨S48x128, .bf16⟩
  | .hbm, ⟨32, _⟩ => ⟨S48x128, .bf16⟩
  | .hbm, ⟨33, _⟩ => ⟨S1x48x128, .bf16⟩
  | .hbm, ⟨34, _⟩ => ⟨S120x48x128, .bf16⟩
  | .hbm, ⟨35, _⟩ => ⟨S120x48x128, .bf16⟩
  | .hbm, ⟨36, _⟩ => ⟨S_, .i32⟩
  | .hbm, ⟨37, _⟩ => ⟨S_, .bf16⟩
  | .hbm, ⟨38, _⟩ => ⟨S120x128, .bf16⟩
  | .hbm, ⟨39, _⟩ => ⟨S120x1x128, .bf16⟩
  | .hbm, ⟨40, _⟩ => ⟨S120x1x512, .bf16⟩
  | .hbm, ⟨41, _⟩ => ⟨S120x32x512, .bf16⟩
  | .hbm, ⟨42, _⟩ => ⟨S120x1x32, .f32⟩
  | .local _ .vmem, ⟨0, _⟩ => ⟨S1x32x512, .bf16⟩
  | .local _ .vmem, ⟨1, _⟩ => ⟨S1x32x512, .bf16⟩
  | .local _ .vmem, ⟨2, _⟩ => ⟨S1x48x128, .bf16⟩
  | .local _ .vmem, ⟨3, _⟩ => ⟨S1x48x128, .bf16⟩
  | .local _ .vmem, ⟨4, _⟩ => ⟨S1x1x512, .bf16⟩
  | .local _ .vmem, ⟨5, _⟩ => ⟨S1x1x512, .bf16⟩
  | .local _ .vmem, ⟨6, _⟩ => ⟨S1x1x128, .bf16⟩
  | .local _ .vmem, ⟨7, _⟩ => ⟨S1x1x128, .bf16⟩
  | .local _ .vmem, ⟨8, _⟩ => ⟨S1x32x512, .bf16⟩
  | .local _ .vmem, ⟨9, _⟩ => ⟨S1x32x512, .bf16⟩
  | .local _ .vmem, ⟨10, _⟩ => ⟨S1x1x32, .f32⟩
  | .local _ .vmem, ⟨11, _⟩ => ⟨S1x1x32, .f32⟩
  | .local _ .vmem, ⟨12, _⟩ => ⟨S2x256x24x128, .i32⟩
  | .local _ .smem, ⟨0, _⟩ => ⟨S120x256, .i32⟩
  | .local _ .smem, ⟨1, _⟩ => ⟨S120, .i32⟩
  | _, _ => ⟨S120x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![120], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop (v126 : BitVec 32) : Scf.Loop 32 :=
  let c0_i32_79 : BitVec 32 := 0#32
  let c16_i32_64 : BitVec 32 := 16#32
  let v127 : BitVec 32 := Scalar.addi v126 c16_i32_64
  let c1_i32_65 : BitVec 32 := 1#32
  let v128 : BitVec 32 := Scalar.subi v127 c1_i32_65
  let c0_i32_67 : BitVec 32 := 0#32
  let v130 : BitVec 1 := Scalar.cmpi .sgt v128 c0_i32_67
  let v131 : BitVec 32 := Scalar.extui v130
  let c0_i32_68 : BitVec 32 := 0#32
  let v132 : BitVec 1 := Scalar.cmpi .slt v128 c0_i32_68
  let v133 : BitVec 32 := Scalar.extui v132
  let v134 : BitVec 32 := Scalar.subi v131 v133
  let c16_i32_66 : BitVec 32 := 16#32
  let c0_i32_69 : BitVec 32 := 0#32
  let v135 : BitVec 1 := Scalar.cmpi .sgt c16_i32_66 c0_i32_69
  let v136 : BitVec 32 := Scalar.extui v135
  let c0_i32_70 : BitVec 32 := 0#32
  let v137 : BitVec 1 := Scalar.cmpi .slt c16_i32_66 c0_i32_70
  let v138 : BitVec 32 := Scalar.extui v137
  let v139 : BitVec 32 := Scalar.subi v136 v138
  let v140 : BitVec 1 := Scalar.cmpi .ne v134 v139
  let v141 : BitVec 32 := Scalar.remsi v128 c16_i32_66
  let c0_i32_71 : BitVec 32 := 0#32
  let v142 : BitVec 1 := Scalar.cmpi .ne v141 c0_i32_71
  let v143 : BitVec 1 := Scalar.andi v140 v142
  let v129 : BitVec 32 := Scalar.divsi v128 c16_i32_66
  let c1_i32_72 : BitVec 32 := 1#32
  let v144 : BitVec 32 := Scalar.subi v129 c1_i32_72
  let v145 : BitVec 32 := Scalar.select v143 v144 v129
  let c0_i32_73 : BitVec 32 := 0#32
  let v146 : BitVec 32 := Scalar.subi v145 c0_i32_73
  let c1_i32_74 : BitVec 32 := 1#32
  let c1_i32_75 : BitVec 32 := 1#32
  let v147 : BitVec 32 := Scalar.subi c1_i32_74 c1_i32_75
  let v148 : BitVec 32 := Scalar.addi v146 v147
  let c1_i32_76 : BitVec 32 := 1#32
  let v149 : BitVec 32 := Scalar.divsi v148 c1_i32_76
  let v150 : BitVec 32 := Scalar.subi v149 c0_i32_79
  let c1_i32_80 : BitVec 32 := 1#32
  let v152 : BitVec 32 := Scalar.divsi v150 c1_i32_80
  let v153 : BitVec 32 := Scalar.muli v152 c1_i32_80
  let v154 : BitVec 32 := Scalar.addi c0_i32_79 v153
  let c1_i32_81 : BitVec 32 := 1#32
  ⟨c0_i32_79, v154, c1_i32_81⟩

def k0_off1 (v126 : BitVec 32) (k0_t1 : Fin (k0_t1_loop v126).trips) : Fin 2 → Nat :=
  let c0_83 : Index := 0#32
  let c0_i32_78 : BitVec 32 := 0#32
  let c0_i32_79 : BitVec 32 := 0#32
  let c1_i32_81 : BitVec 32 := 1#32
  let arg12 : BitVec 32 := Scf.iv c0_i32_79 c1_i32_81 k0_t1
  let c1_i32_77 : BitVec 32 := 1#32
  let v155 : BitVec 32 := Scalar.muli arg12 c1_i32_77
  let v156 : BitVec 32 := Scalar.addi c0_i32_78 v155
  let v157 : Index := Scalar.indexCast v156
  ![0, v157.toNat]
def k0_off2 (v126 : BitVec 32) (k0_t1 : Fin (k0_t1_loop v126).trips) : Fin 4 → Nat :=
  let c0_i32_84 : BitVec 32 := 0#32
  let c0_i32_78 : BitVec 32 := 0#32
  let c0_i32_79 : BitVec 32 := 0#32
  let c1_i32_81 : BitVec 32 := 1#32
  let arg12 : BitVec 32 := Scf.iv c0_i32_79 c1_i32_81 k0_t1
  let c1_i32_77 : BitVec 32 := 1#32
  let v155 : BitVec 32 := Scalar.muli arg12 c1_i32_77
  let v156 : BitVec 32 := Scalar.addi c0_i32_78 v155
  let c0_i32_86 : BitVec 32 := 0#32
  let c0_i32_87 : BitVec 32 := 0#32
  ![0, v156.toNat, 0, 0]
def k0_off3 (v158 : BitVec 32) : Fin 3 → Nat :=
  let c0_i32_88 : BitVec 32 := 0#32
  let c0_i32_89 : BitVec 32 := 0#32
  ![v158.toNat, 0, 0]

def k0_chk2 (i : grid0.Coords) (v158 : BitVec 32) : Prop :=
  (∀ (k0_h1 : k0_cond1 i = 1#1), ∀ a, (k0_off3 v158) a + S1x24x128.size a ≤ S38400x24x128.size a)
theorem k0_off3_inb : ∀ (i : grid0.Coords) (v158 : BitVec 32) (k0_hw2 : k0_chk2 i v158), ∀ (k0_h1 : k0_cond1 i = 1#1), ∀ a, (k0_off3 v158) a + S1x24x128.size a ≤ S38400x24x128.size a := fun i v158 k0_hw2 k0_h1 => k0_hw2 k0_h1

@[reducible] def k0_t2_loop (v126 : BitVec 32) : Scf.Loop 32 :=
  let c0_i32_79 : BitVec 32 := 0#32
  let c16_i32_64 : BitVec 32 := 16#32
  let v127 : BitVec 32 := Scalar.addi v126 c16_i32_64
  let c1_i32_65 : BitVec 32 := 1#32
  let v128 : BitVec 32 := Scalar.subi v127 c1_i32_65
  let c0_i32_67 : BitVec 32 := 0#32
  let v130 : BitVec 1 := Scalar.cmpi .sgt v128 c0_i32_67
  let v131 : BitVec 32 := Scalar.extui v130
  let c0_i32_68 : BitVec 32 := 0#32
  let v132 : BitVec 1 := Scalar.cmpi .slt v128 c0_i32_68
  let v133 : BitVec 32 := Scalar.extui v132
  let v134 : BitVec 32 := Scalar.subi v131 v133
  let c16_i32_66 : BitVec 32 := 16#32
  let c0_i32_69 : BitVec 32 := 0#32
  let v135 : BitVec 1 := Scalar.cmpi .sgt c16_i32_66 c0_i32_69
  let v136 : BitVec 32 := Scalar.extui v135
  let c0_i32_70 : BitVec 32 := 0#32
  let v137 : BitVec 1 := Scalar.cmpi .slt c16_i32_66 c0_i32_70
  let v138 : BitVec 32 := Scalar.extui v137
  let v139 : BitVec 32 := Scalar.subi v136 v138
  let v140 : BitVec 1 := Scalar.cmpi .ne v134 v139
  let v141 : BitVec 32 := Scalar.remsi v128 c16_i32_66
  let c0_i32_71 : BitVec 32 := 0#32
  let v142 : BitVec 1 := Scalar.cmpi .ne v141 c0_i32_71
  let v143 : BitVec 1 := Scalar.andi v140 v142
  let v129 : BitVec 32 := Scalar.divsi v128 c16_i32_66
  let c1_i32_72 : BitVec 32 := 1#32
  let v144 : BitVec 32 := Scalar.subi v129 c1_i32_72
  let v145 : BitVec 32 := Scalar.select v143 v144 v129
  let c0_i32_73 : BitVec 32 := 0#32
  let v146 : BitVec 32 := Scalar.subi v145 c0_i32_73
  let c1_i32_74 : BitVec 32 := 1#32
  let c1_i32_75 : BitVec 32 := 1#32
  let v147 : BitVec 32 := Scalar.subi c1_i32_74 c1_i32_75
  let v148 : BitVec 32 := Scalar.addi v146 v147
  let c1_i32_76 : BitVec 32 := 1#32
  let v149 : BitVec 32 := Scalar.divsi v148 c1_i32_76
  let v150 : BitVec 32 := Scalar.subi v149 c0_i32_79
  let c1_i32_80 : BitVec 32 := 1#32
  let v152 : BitVec 32 := Scalar.divsi v150 c1_i32_80
  let v153 : BitVec 32 := Scalar.muli v152 c1_i32_80
  let v154 : BitVec 32 := Scalar.addi c0_i32_79 v153
  let v151 : BitVec 32 := Scalar.addi c0_i32_79 v150
  let c1_i32_82 : BitVec 32 := 1#32
  ⟨v154, v151, c1_i32_82⟩
def k0_off4 (v126 : BitVec 32) (k0_t2 : Fin (k0_t2_loop v126).trips) : Fin 2 → Nat :=
  let c0_83 : Index := 0#32
  let c0_i32_78 : BitVec 32 := 0#32
  let c0_i32_79 : BitVec 32 := 0#32
  let c16_i32_64 : BitVec 32 := 16#32
  let v127 : BitVec 32 := Scalar.addi v126 c16_i32_64
  let c1_i32_65 : BitVec 32 := 1#32
  let v128 : BitVec 32 := Scalar.subi v127 c1_i32_65
  let c0_i32_67 : BitVec 32 := 0#32
  let v130 : BitVec 1 := Scalar.cmpi .sgt v128 c0_i32_67
  let v131 : BitVec 32 := Scalar.extui v130
  let c0_i32_68 : BitVec 32 := 0#32
  let v132 : BitVec 1 := Scalar.cmpi .slt v128 c0_i32_68
  let v133 : BitVec 32 := Scalar.extui v132
  let v134 : BitVec 32 := Scalar.subi v131 v133
  let c16_i32_66 : BitVec 32 := 16#32
  let c0_i32_69 : BitVec 32 := 0#32
  let v135 : BitVec 1 := Scalar.cmpi .sgt c16_i32_66 c0_i32_69
  let v136 : BitVec 32 := Scalar.extui v135
  let c0_i32_70 : BitVec 32 := 0#32
  let v137 : BitVec 1 := Scalar.cmpi .slt c16_i32_66 c0_i32_70
  let v138 : BitVec 32 := Scalar.extui v137
  let v139 : BitVec 32 := Scalar.subi v136 v138
  let v140 : BitVec 1 := Scalar.cmpi .ne v134 v139
  let v141 : BitVec 32 := Scalar.remsi v128 c16_i32_66
  let c0_i32_71 : BitVec 32 := 0#32
  let v142 : BitVec 1 := Scalar.cmpi .ne v141 c0_i32_71
  let v143 : BitVec 1 := Scalar.andi v140 v142
  let v129 : BitVec 32 := Scalar.divsi v128 c16_i32_66
  let c1_i32_72 : BitVec 32 := 1#32
  let v144 : BitVec 32 := Scalar.subi v129 c1_i32_72
  let v145 : BitVec 32 := Scalar.select v143 v144 v129
  let c0_i32_73 : BitVec 32 := 0#32
  let v146 : BitVec 32 := Scalar.subi v145 c0_i32_73
  let c1_i32_74 : BitVec 32 := 1#32
  let c1_i32_75 : BitVec 32 := 1#32
  let v147 : BitVec 32 := Scalar.subi c1_i32_74 c1_i32_75
  let v148 : BitVec 32 := Scalar.addi v146 v147
  let c1_i32_76 : BitVec 32 := 1#32
  let v149 : BitVec 32 := Scalar.divsi v148 c1_i32_76
  let v150 : BitVec 32 := Scalar.subi v149 c0_i32_79
  let c1_i32_80 : BitVec 32 := 1#32
  let v152 : BitVec 32 := Scalar.divsi v150 c1_i32_80
  let v153 : BitVec 32 := Scalar.muli v152 c1_i32_80
  let v154 : BitVec 32 := Scalar.addi c0_i32_79 v153
  let c1_i32_82 : BitVec 32 := 1#32
  let arg12 : BitVec 32 := Scf.iv v154 c1_i32_82 k0_t2
  let c1_i32_77 : BitVec 32 := 1#32
  let v155 : BitVec 32 := Scalar.muli arg12 c1_i32_77
  let v156 : BitVec 32 := Scalar.addi c0_i32_78 v155
  let v157 : Index := Scalar.indexCast v156
  ![0, v157.toNat]
def k0_off5 (v126 : BitVec 32) (k0_t2 : Fin (k0_t2_loop v126).trips) : Fin 4 → Nat :=
  let c0_i32_84 : BitVec 32 := 0#32
  let c0_i32_78 : BitVec 32 := 0#32
  let c0_i32_79 : BitVec 32 := 0#32
  let c16_i32_64 : BitVec 32 := 16#32
  let v127 : BitVec 32 := Scalar.addi v126 c16_i32_64
  let c1_i32_65 : BitVec 32 := 1#32
  let v128 : BitVec 32 := Scalar.subi v127 c1_i32_65
  let c0_i32_67 : BitVec 32 := 0#32
  let v130 : BitVec 1 := Scalar.cmpi .sgt v128 c0_i32_67
  let v131 : BitVec 32 := Scalar.extui v130
  let c0_i32_68 : BitVec 32 := 0#32
  let v132 : BitVec 1 := Scalar.cmpi .slt v128 c0_i32_68
  let v133 : BitVec 32 := Scalar.extui v132
  let v134 : BitVec 32 := Scalar.subi v131 v133
  let c16_i32_66 : BitVec 32 := 16#32
  let c0_i32_69 : BitVec 32 := 0#32
  let v135 : BitVec 1 := Scalar.cmpi .sgt c16_i32_66 c0_i32_69
  let v136 : BitVec 32 := Scalar.extui v135
  let c0_i32_70 : BitVec 32 := 0#32
  let v137 : BitVec 1 := Scalar.cmpi .slt c16_i32_66 c0_i32_70
  let v138 : BitVec 32 := Scalar.extui v137
  let v139 : BitVec 32 := Scalar.subi v136 v138
  let v140 : BitVec 1 := Scalar.cmpi .ne v134 v139
  let v141 : BitVec 32 := Scalar.remsi v128 c16_i32_66
  let c0_i32_71 : BitVec 32 := 0#32
  let v142 : BitVec 1 := Scalar.cmpi .ne v141 c0_i32_71
  let v143 : BitVec 1 := Scalar.andi v140 v142
  let v129 : BitVec 32 := Scalar.divsi v128 c16_i32_66
  let c1_i32_72 : BitVec 32 := 1#32
  let v144 : BitVec 32 := Scalar.subi v129 c1_i32_72
  let v145 : BitVec 32 := Scalar.select v143 v144 v129
  let c0_i32_73 : BitVec 32 := 0#32
  let v146 : BitVec 32 := Scalar.subi v145 c0_i32_73
  let c1_i32_74 : BitVec 32 := 1#32
  let c1_i32_75 : BitVec 32 := 1#32
  let v147 : BitVec 32 := Scalar.subi c1_i32_74 c1_i32_75
  let v148 : BitVec 32 := Scalar.addi v146 v147
  let c1_i32_76 : BitVec 32 := 1#32
  let v149 : BitVec 32 := Scalar.divsi v148 c1_i32_76
  let v150 : BitVec 32 := Scalar.subi v149 c0_i32_79
  let c1_i32_80 : BitVec 32 := 1#32
  let v152 : BitVec 32 := Scalar.divsi v150 c1_i32_80
  let v153 : BitVec 32 := Scalar.muli v152 c1_i32_80
  let v154 : BitVec 32 := Scalar.addi c0_i32_79 v153
  let c1_i32_82 : BitVec 32 := 1#32
  let arg12 : BitVec 32 := Scf.iv v154 c1_i32_82 k0_t2
  let c1_i32_77 : BitVec 32 := 1#32
  let v155 : BitVec 32 := Scalar.muli arg12 c1_i32_77
  let v156 : BitVec 32 := Scalar.addi c0_i32_78 v155
  let c0_i32_86 : BitVec 32 := 0#32
  let c0_i32_87 : BitVec 32 := 0#32
  ![0, v156.toNat, 0, 0]

def k0_chk1 (i : grid0.Coords) (v126 : BitVec 32) : Prop :=
  (∀ (k0_h1 : k0_cond1 i = 1#1), (k0_t1_loop v126).OK) ∧
  (∀ k0_t1 : Fin (k0_t1_loop v126).trips, ∀ (k0_h1 : k0_cond1 i = 1#1), ∀ a, (k0_off1 v126 k0_t1) a + S1x1.size a ≤ S120x256.size a) ∧
  (∀ k0_t1 : Fin (k0_t1_loop v126).trips, ∀ (k0_h1 : k0_cond1 i = 1#1), ∀ a, (k0_off2 v126 k0_t1) a + S1x1x24x128.size a ≤ S2x256x24x128.size a) ∧
  (∀ (k0_h1 : k0_cond1 i = 1#1), (k0_t2_loop v126).OK) ∧
  (∀ k0_t2 : Fin (k0_t2_loop v126).trips, ∀ (k0_h1 : k0_cond1 i = 1#1), ∀ a, (k0_off4 v126 k0_t2) a + S1x1.size a ≤ S120x256.size a) ∧
  (∀ k0_t2 : Fin (k0_t2_loop v126).trips, ∀ (k0_h1 : k0_cond1 i = 1#1), ∀ a, (k0_off5 v126 k0_t2) a + S1x1x24x128.size a ≤ S2x256x24x128.size a)
theorem k0_t1_ok : ∀ (i : grid0.Coords) (v126 : BitVec 32) (k0_hw1 : k0_chk1 i v126), ∀ (k0_h1 : k0_cond1 i = 1#1), (k0_t1_loop v126).OK := fun i v126 k0_hw1 k0_h1 => k0_hw1.1 k0_h1
theorem k0_off1_inb : ∀ (i : grid0.Coords) (v126 : BitVec 32) (k0_hw1 : k0_chk1 i v126) (k0_t1 : Fin (k0_t1_loop v126).trips), ∀ (k0_h1 : k0_cond1 i = 1#1), ∀ a, (k0_off1 v126 k0_t1) a + S1x1.size a ≤ S120x256.size a := fun i v126 k0_hw1 k0_t1 k0_h1 => k0_hw1.2.1 k0_t1 k0_h1
theorem k0_off2_inb : ∀ (i : grid0.Coords) (v126 : BitVec 32) (k0_hw1 : k0_chk1 i v126) (k0_t1 : Fin (k0_t1_loop v126).trips), ∀ (k0_h1 : k0_cond1 i = 1#1), ∀ a, (k0_off2 v126 k0_t1) a + S1x1x24x128.size a ≤ S2x256x24x128.size a := fun i v126 k0_hw1 k0_t1 k0_h1 => k0_hw1.2.2.1 k0_t1 k0_h1
theorem k0_t2_ok : ∀ (i : grid0.Coords) (v126 : BitVec 32) (k0_hw1 : k0_chk1 i v126), ∀ (k0_h1 : k0_cond1 i = 1#1), (k0_t2_loop v126).OK := fun i v126 k0_hw1 k0_h1 => k0_hw1.2.2.2.1 k0_h1
theorem k0_off4_inb : ∀ (i : grid0.Coords) (v126 : BitVec 32) (k0_hw1 : k0_chk1 i v126) (k0_t2 : Fin (k0_t2_loop v126).trips), ∀ (k0_h1 : k0_cond1 i = 1#1), ∀ a, (k0_off4 v126 k0_t2) a + S1x1.size a ≤ S120x256.size a := fun i v126 k0_hw1 k0_t2 k0_h1 => k0_hw1.2.2.2.2.1 k0_t2 k0_h1
theorem k0_off5_inb : ∀ (i : grid0.Coords) (v126 : BitVec 32) (k0_hw1 : k0_chk1 i v126) (k0_t2 : Fin (k0_t2_loop v126).trips), ∀ (k0_h1 : k0_cond1 i = 1#1), ∀ a, (k0_off5 v126 k0_t2) a + S1x1x24x128.size a ≤ S2x256x24x128.size a := fun i v126 k0_hw1 k0_t2 k0_h1 => k0_hw1.2.2.2.2.2 k0_t2 k0_h1

def k0_off6 (v158 : BitVec 32) : Fin 3 → Nat :=
  let c0_i32_88 : BitVec 32 := 0#32
  let c0_i32_89 : BitVec 32 := 0#32
  ![v158.toNat, 0, 0]

def k0_chk3 (i : grid0.Coords) (v158 : BitVec 32) : Prop :=
  (∀ (k0_h1 : k0_cond1 i = 1#1), ∀ a, (k0_off6 v158) a + S1x24x128.size a ≤ S38400x24x128.size a)
theorem k0_off6_inb : ∀ (i : grid0.Coords) (v158 : BitVec 32) (k0_hw3 : k0_chk3 i v158), ∀ (k0_h1 : k0_cond1 i = 1#1), ∀ a, (k0_off6 v158) a + S1x24x128.size a ≤ S38400x24x128.size a := fun i v158 k0_hw3 k0_h1 => k0_hw3 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c120_i32 : BitVec 32 := 120#32
  let v14 : BitVec 1 := Scalar.cmpi .slt v13 c120_i32
  let v15 : BitVec 32 := Scalar.extui v14
  let c0_i32_6 : BitVec 32 := 0#32
  let v16 : BitVec 1 := Scalar.cmpi .ne v15 c0_i32_6
  v16

def k0_off7 (i : grid0.Coords) : Fin 1 → Nat :=
  let arg0 : BitVec 32 := BitVec.ofNat 32 (i 0).val
  let c1_i32_58 : BitVec 32 := 1#32
  let v122 : BitVec 32 := Scalar.addi arg0 c1_i32_58
  let v124 : Index := Scalar.indexCast v122
  ![v124.toNat]
@[reducible] def k0_t3_loop (v125 : BitVec 32) : Scf.Loop 32 :=
  let c0_i32_75 : BitVec 32 := 0#32
  let c16_i32_60 : BitVec 32 := 16#32
  let v126 : BitVec 32 := Scalar.addi v125 c16_i32_60
  let c1_i32_61 : BitVec 32 := 1#32
  let v127 : BitVec 32 := Scalar.subi v126 c1_i32_61
  let c0_i32_63 : BitVec 32 := 0#32
  let v129 : BitVec 1 := Scalar.cmpi .sgt v127 c0_i32_63
  let v130 : BitVec 32 := Scalar.extui v129
  let c0_i32_64 : BitVec 32 := 0#32
  let v131 : BitVec 1 := Scalar.cmpi .slt v127 c0_i32_64
  let v132 : BitVec 32 := Scalar.extui v131
  let v133 : BitVec 32 := Scalar.subi v130 v132
  let c16_i32_62 : BitVec 32 := 16#32
  let c0_i32_65 : BitVec 32 := 0#32
  let v134 : BitVec 1 := Scalar.cmpi .sgt c16_i32_62 c0_i32_65
  let v135 : BitVec 32 := Scalar.extui v134
  let c0_i32_66 : BitVec 32 := 0#32
  let v136 : BitVec 1 := Scalar.cmpi .slt c16_i32_62 c0_i32_66
  let v137 : BitVec 32 := Scalar.extui v136
  let v138 : BitVec 32 := Scalar.subi v135 v137
  let v139 : BitVec 1 := Scalar.cmpi .ne v133 v138
  let v140 : BitVec 32 := Scalar.remsi v127 c16_i32_62
  let c0_i32_67 : BitVec 32 := 0#32
  let v141 : BitVec 1 := Scalar.cmpi .ne v140 c0_i32_67
  let v142 : BitVec 1 := Scalar.andi v139 v141
  let v128 : BitVec 32 := Scalar.divsi v127 c16_i32_62
  let c1_i32_68 : BitVec 32 := 1#32
  let v143 : BitVec 32 := Scalar.subi v128 c1_i32_68
  let v144 : BitVec 32 := Scalar.select v142 v143 v128
  let c0_i32_69 : BitVec 32 := 0#32
  let v145 : BitVec 32 := Scalar.subi v144 c0_i32_69
  let c1_i32_70 : BitVec 32 := 1#32
  let c1_i32_71 : BitVec 32 := 1#32
  let v146 : BitVec 32 := Scalar.subi c1_i32_70 c1_i32_71
  let v147 : BitVec 32 := Scalar.addi v145 v146
  let c1_i32_72 : BitVec 32 := 1#32
  let v148 : BitVec 32 := Scalar.divsi v147 c1_i32_72
  let v149 : BitVec 32 := Scalar.subi v148 c0_i32_75
  let c1_i32_76 : BitVec 32 := 1#32
  let v151 : BitVec 32 := Scalar.divsi v149 c1_i32_76
  let v152 : BitVec 32 := Scalar.muli v151 c1_i32_76
  let v153 : BitVec 32 := Scalar.addi c0_i32_75 v152
  let c1_i32_77 : BitVec 32 := 1#32
  ⟨c0_i32_75, v153, c1_i32_77⟩

def k0_off8 (i : grid0.Coords) (v125 : BitVec 32) (k0_t3 : Fin (k0_t3_loop v125).trips) : Fin 2 → Nat :=
  let arg0 : BitVec 32 := BitVec.ofNat 32 (i 0).val
  let c1_i32_58 : BitVec 32 := 1#32
  let v122 : BitVec 32 := Scalar.addi arg0 c1_i32_58
  let v156 : Index := Scalar.indexCast v122
  let c0_i32_74 : BitVec 32 := 0#32
  let c0_i32_75 : BitVec 32 := 0#32
  let c1_i32_77 : BitVec 32 := 1#32
  let arg12 : BitVec 32 := Scf.iv c0_i32_75 c1_i32_77 k0_t3
  let c1_i32_73 : BitVec 32 := 1#32
  let v154 : BitVec 32 := Scalar.muli arg12 c1_i32_73
  let v155 : BitVec 32 := Scalar.addi c0_i32_74 v154
  let v157 : Index := Scalar.indexCast v155
  ![v156.toNat, v157.toNat]
def k0_off9 (i : grid0.Coords) : Fin 1 → Nat :=
  let c1_i32_59 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v123 : BitVec 32 := Scalar.subi c1_i32_59 v9
  ![v123.toNat]
def k0_off10 (i : grid0.Coords) (v125 : BitVec 32) (k0_t3 : Fin (k0_t3_loop v125).trips) : Fin 4 → Nat :=
  let c1_i32_59 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v123 : BitVec 32 := Scalar.subi c1_i32_59 v9
  let c0_i32_74 : BitVec 32 := 0#32
  let c0_i32_75 : BitVec 32 := 0#32
  let c1_i32_77 : BitVec 32 := 1#32
  let arg12 : BitVec 32 := Scf.iv c0_i32_75 c1_i32_77 k0_t3
  let c1_i32_73 : BitVec 32 := 1#32
  let v154 : BitVec 32 := Scalar.muli arg12 c1_i32_73
  let v155 : BitVec 32 := Scalar.addi c0_i32_74 v154
  let c0_i32_79 : BitVec 32 := 0#32
  let c0_i32_80 : BitVec 32 := 0#32
  ![v123.toNat, v155.toNat, 0, 0]
def k0_off11 (v158 : BitVec 32) : Fin 3 → Nat :=
  let c0_i32_81 : BitVec 32 := 0#32
  let c0_i32_82 : BitVec 32 := 0#32
  ![v158.toNat, 0, 0]

def k0_chk5 (i : grid0.Coords) (v158 : BitVec 32) : Prop :=
  (∀ (k0_h2 : k0_cond2 i = 1#1), ∀ a, (k0_off11 v158) a + S1x24x128.size a ≤ S38400x24x128.size a)
theorem k0_off11_inb : ∀ (i : grid0.Coords) (v158 : BitVec 32) (k0_hw5 : k0_chk5 i v158), ∀ (k0_h2 : k0_cond2 i = 1#1), ∀ a, (k0_off11 v158) a + S1x24x128.size a ≤ S38400x24x128.size a := fun i v158 k0_hw5 k0_h2 => k0_hw5 k0_h2

@[reducible] def k0_t4_loop (v125 : BitVec 32) : Scf.Loop 32 :=
  let c0_i32_75 : BitVec 32 := 0#32
  let c16_i32_60 : BitVec 32 := 16#32
  let v126 : BitVec 32 := Scalar.addi v125 c16_i32_60
  let c1_i32_61 : BitVec 32 := 1#32
  let v127 : BitVec 32 := Scalar.subi v126 c1_i32_61
  let c0_i32_63 : BitVec 32 := 0#32
  let v129 : BitVec 1 := Scalar.cmpi .sgt v127 c0_i32_63
  let v130 : BitVec 32 := Scalar.extui v129
  let c0_i32_64 : BitVec 32 := 0#32
  let v131 : BitVec 1 := Scalar.cmpi .slt v127 c0_i32_64
  let v132 : BitVec 32 := Scalar.extui v131
  let v133 : BitVec 32 := Scalar.subi v130 v132
  let c16_i32_62 : BitVec 32 := 16#32
  let c0_i32_65 : BitVec 32 := 0#32
  let v134 : BitVec 1 := Scalar.cmpi .sgt c16_i32_62 c0_i32_65
  let v135 : BitVec 32 := Scalar.extui v134
  let c0_i32_66 : BitVec 32 := 0#32
  let v136 : BitVec 1 := Scalar.cmpi .slt c16_i32_62 c0_i32_66
  let v137 : BitVec 32 := Scalar.extui v136
  let v138 : BitVec 32 := Scalar.subi v135 v137
  let v139 : BitVec 1 := Scalar.cmpi .ne v133 v138
  let v140 : BitVec 32 := Scalar.remsi v127 c16_i32_62
  let c0_i32_67 : BitVec 32 := 0#32
  let v141 : BitVec 1 := Scalar.cmpi .ne v140 c0_i32_67
  let v142 : BitVec 1 := Scalar.andi v139 v141
  let v128 : BitVec 32 := Scalar.divsi v127 c16_i32_62
  let c1_i32_68 : BitVec 32 := 1#32
  let v143 : BitVec 32 := Scalar.subi v128 c1_i32_68
  let v144 : BitVec 32 := Scalar.select v142 v143 v128
  let c0_i32_69 : BitVec 32 := 0#32
  let v145 : BitVec 32 := Scalar.subi v144 c0_i32_69
  let c1_i32_70 : BitVec 32 := 1#32
  let c1_i32_71 : BitVec 32 := 1#32
  let v146 : BitVec 32 := Scalar.subi c1_i32_70 c1_i32_71
  let v147 : BitVec 32 := Scalar.addi v145 v146
  let c1_i32_72 : BitVec 32 := 1#32
  let v148 : BitVec 32 := Scalar.divsi v147 c1_i32_72
  let v149 : BitVec 32 := Scalar.subi v148 c0_i32_75
  let c1_i32_76 : BitVec 32 := 1#32
  let v151 : BitVec 32 := Scalar.divsi v149 c1_i32_76
  let v152 : BitVec 32 := Scalar.muli v151 c1_i32_76
  let v153 : BitVec 32 := Scalar.addi c0_i32_75 v152
  let v150 : BitVec 32 := Scalar.addi c0_i32_75 v149
  let c1_i32_78 : BitVec 32 := 1#32
  ⟨v153, v150, c1_i32_78⟩
def k0_off12 (i : grid0.Coords) (v125 : BitVec 32) (k0_t4 : Fin (k0_t4_loop v125).trips) : Fin 2 → Nat :=
  let arg0 : BitVec 32 := BitVec.ofNat 32 (i 0).val
  let c1_i32_58 : BitVec 32 := 1#32
  let v122 : BitVec 32 := Scalar.addi arg0 c1_i32_58
  let v156 : Index := Scalar.indexCast v122
  let c0_i32_74 : BitVec 32 := 0#32
  let c0_i32_75 : BitVec 32 := 0#32
  let c16_i32_60 : BitVec 32 := 16#32
  let v126 : BitVec 32 := Scalar.addi v125 c16_i32_60
  let c1_i32_61 : BitVec 32 := 1#32
  let v127 : BitVec 32 := Scalar.subi v126 c1_i32_61
  let c0_i32_63 : BitVec 32 := 0#32
  let v129 : BitVec 1 := Scalar.cmpi .sgt v127 c0_i32_63
  let v130 : BitVec 32 := Scalar.extui v129
  let c0_i32_64 : BitVec 32 := 0#32
  let v131 : BitVec 1 := Scalar.cmpi .slt v127 c0_i32_64
  let v132 : BitVec 32 := Scalar.extui v131
  let v133 : BitVec 32 := Scalar.subi v130 v132
  let c16_i32_62 : BitVec 32 := 16#32
  let c0_i32_65 : BitVec 32 := 0#32
  let v134 : BitVec 1 := Scalar.cmpi .sgt c16_i32_62 c0_i32_65
  let v135 : BitVec 32 := Scalar.extui v134
  let c0_i32_66 : BitVec 32 := 0#32
  let v136 : BitVec 1 := Scalar.cmpi .slt c16_i32_62 c0_i32_66
  let v137 : BitVec 32 := Scalar.extui v136
  let v138 : BitVec 32 := Scalar.subi v135 v137
  let v139 : BitVec 1 := Scalar.cmpi .ne v133 v138
  let v140 : BitVec 32 := Scalar.remsi v127 c16_i32_62
  let c0_i32_67 : BitVec 32 := 0#32
  let v141 : BitVec 1 := Scalar.cmpi .ne v140 c0_i32_67
  let v142 : BitVec 1 := Scalar.andi v139 v141
  let v128 : BitVec 32 := Scalar.divsi v127 c16_i32_62
  let c1_i32_68 : BitVec 32 := 1#32
  let v143 : BitVec 32 := Scalar.subi v128 c1_i32_68
  let v144 : BitVec 32 := Scalar.select v142 v143 v128
  let c0_i32_69 : BitVec 32 := 0#32
  let v145 : BitVec 32 := Scalar.subi v144 c0_i32_69
  let c1_i32_70 : BitVec 32 := 1#32
  let c1_i32_71 : BitVec 32 := 1#32
  let v146 : BitVec 32 := Scalar.subi c1_i32_70 c1_i32_71
  let v147 : BitVec 32 := Scalar.addi v145 v146
  let c1_i32_72 : BitVec 32 := 1#32
  let v148 : BitVec 32 := Scalar.divsi v147 c1_i32_72
  let v149 : BitVec 32 := Scalar.subi v148 c0_i32_75
  let c1_i32_76 : BitVec 32 := 1#32
  let v151 : BitVec 32 := Scalar.divsi v149 c1_i32_76
  let v152 : BitVec 32 := Scalar.muli v151 c1_i32_76
  let v153 : BitVec 32 := Scalar.addi c0_i32_75 v152
  let c1_i32_78 : BitVec 32 := 1#32
  let arg12 : BitVec 32 := Scf.iv v153 c1_i32_78 k0_t4
  let c1_i32_73 : BitVec 32 := 1#32
  let v154 : BitVec 32 := Scalar.muli arg12 c1_i32_73
  let v155 : BitVec 32 := Scalar.addi c0_i32_74 v154
  let v157 : Index := Scalar.indexCast v155
  ![v156.toNat, v157.toNat]
def k0_off13 (i : grid0.Coords) : Fin 1 → Nat :=
  let c1_i32_59 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v123 : BitVec 32 := Scalar.subi c1_i32_59 v9
  ![v123.toNat]
def k0_off14 (i : grid0.Coords) (v125 : BitVec 32) (k0_t4 : Fin (k0_t4_loop v125).trips) : Fin 4 → Nat :=
  let c1_i32_59 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v123 : BitVec 32 := Scalar.subi c1_i32_59 v9
  let c0_i32_74 : BitVec 32 := 0#32
  let c0_i32_75 : BitVec 32 := 0#32
  let c16_i32_60 : BitVec 32 := 16#32
  let v126 : BitVec 32 := Scalar.addi v125 c16_i32_60
  let c1_i32_61 : BitVec 32 := 1#32
  let v127 : BitVec 32 := Scalar.subi v126 c1_i32_61
  let c0_i32_63 : BitVec 32 := 0#32
  let v129 : BitVec 1 := Scalar.cmpi .sgt v127 c0_i32_63
  let v130 : BitVec 32 := Scalar.extui v129
  let c0_i32_64 : BitVec 32 := 0#32
  let v131 : BitVec 1 := Scalar.cmpi .slt v127 c0_i32_64
  let v132 : BitVec 32 := Scalar.extui v131
  let v133 : BitVec 32 := Scalar.subi v130 v132
  let c16_i32_62 : BitVec 32 := 16#32
  let c0_i32_65 : BitVec 32 := 0#32
  let v134 : BitVec 1 := Scalar.cmpi .sgt c16_i32_62 c0_i32_65
  let v135 : BitVec 32 := Scalar.extui v134
  let c0_i32_66 : BitVec 32 := 0#32
  let v136 : BitVec 1 := Scalar.cmpi .slt c16_i32_62 c0_i32_66
  let v137 : BitVec 32 := Scalar.extui v136
  let v138 : BitVec 32 := Scalar.subi v135 v137
  let v139 : BitVec 1 := Scalar.cmpi .ne v133 v138
  let v140 : BitVec 32 := Scalar.remsi v127 c16_i32_62
  let c0_i32_67 : BitVec 32 := 0#32
  let v141 : BitVec 1 := Scalar.cmpi .ne v140 c0_i32_67
  let v142 : BitVec 1 := Scalar.andi v139 v141
  let v128 : BitVec 32 := Scalar.divsi v127 c16_i32_62
  let c1_i32_68 : BitVec 32 := 1#32
  let v143 : BitVec 32 := Scalar.subi v128 c1_i32_68
  let v144 : BitVec 32 := Scalar.select v142 v143 v128
  let c0_i32_69 : BitVec 32 := 0#32
  let v145 : BitVec 32 := Scalar.subi v144 c0_i32_69
  let c1_i32_70 : BitVec 32 := 1#32
  let c1_i32_71 : BitVec 32 := 1#32
  let v146 : BitVec 32 := Scalar.subi c1_i32_70 c1_i32_71
  let v147 : BitVec 32 := Scalar.addi v145 v146
  let c1_i32_72 : BitVec 32 := 1#32
  let v148 : BitVec 32 := Scalar.divsi v147 c1_i32_72
  let v149 : BitVec 32 := Scalar.subi v148 c0_i32_75
  let c1_i32_76 : BitVec 32 := 1#32
  let v151 : BitVec 32 := Scalar.divsi v149 c1_i32_76
  let v152 : BitVec 32 := Scalar.muli v151 c1_i32_76
  let v153 : BitVec 32 := Scalar.addi c0_i32_75 v152
  let c1_i32_78 : BitVec 32 := 1#32
  let arg12 : BitVec 32 := Scf.iv v153 c1_i32_78 k0_t4
  let c1_i32_73 : BitVec 32 := 1#32
  let v154 : BitVec 32 := Scalar.muli arg12 c1_i32_73
  let v155 : BitVec 32 := Scalar.addi c0_i32_74 v154
  let c0_i32_79 : BitVec 32 := 0#32
  let c0_i32_80 : BitVec 32 := 0#32
  ![v123.toNat, v155.toNat, 0, 0]

def k0_chk4 (i : grid0.Coords) (v125 : BitVec 32) : Prop :=
  (∀ (k0_h2 : k0_cond2 i = 1#1), (k0_t3_loop v125).OK) ∧
  (∀ k0_t3 : Fin (k0_t3_loop v125).trips, ∀ (k0_h2 : k0_cond2 i = 1#1), ∀ a, (k0_off8 i v125 k0_t3) a + S1x1.size a ≤ S120x256.size a) ∧
  (∀ k0_t3 : Fin (k0_t3_loop v125).trips, ∀ (k0_h2 : k0_cond2 i = 1#1), ∀ a, (k0_off10 i v125 k0_t3) a + S1x1x24x128.size a ≤ S2x256x24x128.size a) ∧
  (∀ (k0_h2 : k0_cond2 i = 1#1), (k0_t4_loop v125).OK) ∧
  (∀ k0_t4 : Fin (k0_t4_loop v125).trips, ∀ (k0_h2 : k0_cond2 i = 1#1), ∀ a, (k0_off12 i v125 k0_t4) a + S1x1.size a ≤ S120x256.size a) ∧
  (∀ k0_t4 : Fin (k0_t4_loop v125).trips, ∀ (k0_h2 : k0_cond2 i = 1#1), ∀ a, (k0_off14 i v125 k0_t4) a + S1x1x24x128.size a ≤ S2x256x24x128.size a)
theorem k0_t3_ok : ∀ (i : grid0.Coords) (v125 : BitVec 32) (k0_hw4 : k0_chk4 i v125), ∀ (k0_h2 : k0_cond2 i = 1#1), (k0_t3_loop v125).OK := fun i v125 k0_hw4 k0_h2 => k0_hw4.1 k0_h2
theorem k0_off8_inb : ∀ (i : grid0.Coords) (v125 : BitVec 32) (k0_hw4 : k0_chk4 i v125) (k0_t3 : Fin (k0_t3_loop v125).trips), ∀ (k0_h2 : k0_cond2 i = 1#1), ∀ a, (k0_off8 i v125 k0_t3) a + S1x1.size a ≤ S120x256.size a := fun i v125 k0_hw4 k0_t3 k0_h2 => k0_hw4.2.1 k0_t3 k0_h2
theorem k0_off10_inb : ∀ (i : grid0.Coords) (v125 : BitVec 32) (k0_hw4 : k0_chk4 i v125) (k0_t3 : Fin (k0_t3_loop v125).trips), ∀ (k0_h2 : k0_cond2 i = 1#1), ∀ a, (k0_off10 i v125 k0_t3) a + S1x1x24x128.size a ≤ S2x256x24x128.size a := fun i v125 k0_hw4 k0_t3 k0_h2 => k0_hw4.2.2.1 k0_t3 k0_h2
theorem k0_t4_ok : ∀ (i : grid0.Coords) (v125 : BitVec 32) (k0_hw4 : k0_chk4 i v125), ∀ (k0_h2 : k0_cond2 i = 1#1), (k0_t4_loop v125).OK := fun i v125 k0_hw4 k0_h2 => k0_hw4.2.2.2.1 k0_h2
theorem k0_off12_inb : ∀ (i : grid0.Coords) (v125 : BitVec 32) (k0_hw4 : k0_chk4 i v125) (k0_t4 : Fin (k0_t4_loop v125).trips), ∀ (k0_h2 : k0_cond2 i = 1#1), ∀ a, (k0_off12 i v125 k0_t4) a + S1x1.size a ≤ S120x256.size a := fun i v125 k0_hw4 k0_t4 k0_h2 => k0_hw4.2.2.2.2.1 k0_t4 k0_h2
theorem k0_off14_inb : ∀ (i : grid0.Coords) (v125 : BitVec 32) (k0_hw4 : k0_chk4 i v125) (k0_t4 : Fin (k0_t4_loop v125).trips), ∀ (k0_h2 : k0_cond2 i = 1#1), ∀ a, (k0_off14 i v125 k0_t4) a + S1x1x24x128.size a ≤ S2x256x24x128.size a := fun i v125 k0_hw4 k0_t4 k0_h2 => k0_hw4.2.2.2.2.2 k0_t4 k0_h2

def k0_off15 (v158 : BitVec 32) : Fin 3 → Nat :=
  let c0_i32_81 : BitVec 32 := 0#32
  let c0_i32_82 : BitVec 32 := 0#32
  ![v158.toNat, 0, 0]

def k0_chk6 (i : grid0.Coords) (v158 : BitVec 32) : Prop :=
  (∀ (k0_h2 : k0_cond2 i = 1#1), ∀ a, (k0_off15 v158) a + S1x24x128.size a ≤ S38400x24x128.size a)
theorem k0_off15_inb : ∀ (i : grid0.Coords) (v158 : BitVec 32) (k0_hw6 : k0_chk6 i v158), ∀ (k0_h2 : k0_cond2 i = 1#1), ∀ a, (k0_off15 v158) a + S1x24x128.size a ≤ S38400x24x128.size a := fun i v158 k0_hw6 k0_h2 => k0_hw6 k0_h2

def k0_off16 (i : grid0.Coords) : Fin 1 → Nat :=
  let arg0 : BitVec 32 := BitVec.ofNat 32 (i 0).val
  let v17 : Index := Scalar.indexCast arg0
  ![v17.toNat]
@[reducible] def k0_t5_loop (v18 : BitVec 32) : Scf.Loop 32 :=
  let c0_i32_21 : BitVec 32 := 0#32
  let c16_i32 : BitVec 32 := 16#32
  let v19 : BitVec 32 := Scalar.addi v18 c16_i32
  let c1_i32_7 : BitVec 32 := 1#32
  let v20 : BitVec 32 := Scalar.subi v19 c1_i32_7
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c16_i32_8 : BitVec 32 := 16#32
  let c0_i32_11 : BitVec 32 := 0#32
  let v27 : BitVec 1 := Scalar.cmpi .sgt c16_i32_8 c0_i32_11
  let v28 : BitVec 32 := Scalar.extui v27
  let c0_i32_12 : BitVec 32 := 0#32
  let v29 : BitVec 1 := Scalar.cmpi .slt c16_i32_8 c0_i32_12
  let v30 : BitVec 32 := Scalar.extui v29
  let v31 : BitVec 32 := Scalar.subi v28 v30
  let v32 : BitVec 1 := Scalar.cmpi .ne v26 v31
  let v33 : BitVec 32 := Scalar.remsi v20 c16_i32_8
  let c0_i32_13 : BitVec 32 := 0#32
  let v34 : BitVec 1 := Scalar.cmpi .ne v33 c0_i32_13
  let v35 : BitVec 1 := Scalar.andi v32 v34
  let v21 : BitVec 32 := Scalar.divsi v20 c16_i32_8
  let c1_i32_14 : BitVec 32 := 1#32
  let v36 : BitVec 32 := Scalar.subi v21 c1_i32_14
  let v37 : BitVec 32 := Scalar.select v35 v36 v21
  let c0_i32_15 : BitVec 32 := 0#32
  let v38 : BitVec 32 := Scalar.subi v37 c0_i32_15
  let c1_i32_16 : BitVec 32 := 1#32
  let c1_i32_17 : BitVec 32 := 1#32
  let v39 : BitVec 32 := Scalar.subi c1_i32_16 c1_i32_17
  let v40 : BitVec 32 := Scalar.addi v38 v39
  let c1_i32_18 : BitVec 32 := 1#32
  let v41 : BitVec 32 := Scalar.divsi v40 c1_i32_18
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_23 : BitVec 32 := 1#32
  ⟨c0_i32_21, v46, c1_i32_23⟩

def k0_off17 (i : grid0.Coords) (v18 : BitVec 32) (k0_t5 : Fin (k0_t5_loop v18).trips) : Fin 2 → Nat :=
  let arg0 : BitVec 32 := BitVec.ofNat 32 (i 0).val
  let v124 : Index := Scalar.indexCast arg0
  let c0_i32_20 : BitVec 32 := 0#32
  let c0_i32_21 : BitVec 32 := 0#32
  let c1_i32_23 : BitVec 32 := 1#32
  let arg12 : BitVec 32 := Scf.iv c0_i32_21 c1_i32_23 k0_t5
  let c1_i32_19 : BitVec 32 := 1#32
  let v122 : BitVec 32 := Scalar.muli arg12 c1_i32_19
  let v123 : BitVec 32 := Scalar.addi c0_i32_20 v122
  let v125 : Index := Scalar.indexCast v123
  ![v124.toNat, v125.toNat]
def k0_off18 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off19 (i : grid0.Coords) (v18 : BitVec 32) (k0_t5 : Fin (k0_t5_loop v18).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_20 : BitVec 32 := 0#32
  let c0_i32_21 : BitVec 32 := 0#32
  let c1_i32_23 : BitVec 32 := 1#32
  let arg12 : BitVec 32 := Scf.iv c0_i32_21 c1_i32_23 k0_t5
  let c1_i32_19 : BitVec 32 := 1#32
  let v122 : BitVec 32 := Scalar.muli arg12 c1_i32_19
  let v123 : BitVec 32 := Scalar.addi c0_i32_20 v122
  let c0_i32_58 : BitVec 32 := 0#32
  let c0_i32_59 : BitVec 32 := 0#32
  ![v9.toNat, v123.toNat, 0, 0]
def k0_off20 (v126 : BitVec 32) : Fin 3 → Nat :=
  let c0_i32_60 : BitVec 32 := 0#32
  let c0_i32_61 : BitVec 32 := 0#32
  ![v126.toNat, 0, 0]

def k0_chk8 (v126 : BitVec 32) : Prop :=
  (∀ a, (k0_off20 v126) a + S1x24x128.size a ≤ S38400x24x128.size a)
theorem k0_off20_inb : ∀ (v126 : BitVec 32) (k0_hw8 : k0_chk8 v126), ∀ a, (k0_off20 v126) a + S1x24x128.size a ≤ S38400x24x128.size a := fun v126 k0_hw8 => k0_hw8

@[reducible] def k0_t6_loop (v18 : BitVec 32) : Scf.Loop 32 :=
  let c0_i32_21 : BitVec 32 := 0#32
  let c16_i32 : BitVec 32 := 16#32
  let v19 : BitVec 32 := Scalar.addi v18 c16_i32
  let c1_i32_7 : BitVec 32 := 1#32
  let v20 : BitVec 32 := Scalar.subi v19 c1_i32_7
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c16_i32_8 : BitVec 32 := 16#32
  let c0_i32_11 : BitVec 32 := 0#32
  let v27 : BitVec 1 := Scalar.cmpi .sgt c16_i32_8 c0_i32_11
  let v28 : BitVec 32 := Scalar.extui v27
  let c0_i32_12 : BitVec 32 := 0#32
  let v29 : BitVec 1 := Scalar.cmpi .slt c16_i32_8 c0_i32_12
  let v30 : BitVec 32 := Scalar.extui v29
  let v31 : BitVec 32 := Scalar.subi v28 v30
  let v32 : BitVec 1 := Scalar.cmpi .ne v26 v31
  let v33 : BitVec 32 := Scalar.remsi v20 c16_i32_8
  let c0_i32_13 : BitVec 32 := 0#32
  let v34 : BitVec 1 := Scalar.cmpi .ne v33 c0_i32_13
  let v35 : BitVec 1 := Scalar.andi v32 v34
  let v21 : BitVec 32 := Scalar.divsi v20 c16_i32_8
  let c1_i32_14 : BitVec 32 := 1#32
  let v36 : BitVec 32 := Scalar.subi v21 c1_i32_14
  let v37 : BitVec 32 := Scalar.select v35 v36 v21
  let c0_i32_15 : BitVec 32 := 0#32
  let v38 : BitVec 32 := Scalar.subi v37 c0_i32_15
  let c1_i32_16 : BitVec 32 := 1#32
  let c1_i32_17 : BitVec 32 := 1#32
  let v39 : BitVec 32 := Scalar.subi c1_i32_16 c1_i32_17
  let v40 : BitVec 32 := Scalar.addi v38 v39
  let c1_i32_18 : BitVec 32 := 1#32
  let v41 : BitVec 32 := Scalar.divsi v40 c1_i32_18
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let v43 : BitVec 32 := Scalar.addi c0_i32_21 v42
  let c1_i32_24 : BitVec 32 := 1#32
  ⟨v46, v43, c1_i32_24⟩
def k0_off21 (i : grid0.Coords) (v18 : BitVec 32) (k0_t6 : Fin (k0_t6_loop v18).trips) : Fin 2 → Nat :=
  let arg0 : BitVec 32 := BitVec.ofNat 32 (i 0).val
  let v124 : Index := Scalar.indexCast arg0
  let c0_i32_20 : BitVec 32 := 0#32
  let c0_i32_21 : BitVec 32 := 0#32
  let c16_i32 : BitVec 32 := 16#32
  let v19 : BitVec 32 := Scalar.addi v18 c16_i32
  let c1_i32_7 : BitVec 32 := 1#32
  let v20 : BitVec 32 := Scalar.subi v19 c1_i32_7
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c16_i32_8 : BitVec 32 := 16#32
  let c0_i32_11 : BitVec 32 := 0#32
  let v27 : BitVec 1 := Scalar.cmpi .sgt c16_i32_8 c0_i32_11
  let v28 : BitVec 32 := Scalar.extui v27
  let c0_i32_12 : BitVec 32 := 0#32
  let v29 : BitVec 1 := Scalar.cmpi .slt c16_i32_8 c0_i32_12
  let v30 : BitVec 32 := Scalar.extui v29
  let v31 : BitVec 32 := Scalar.subi v28 v30
  let v32 : BitVec 1 := Scalar.cmpi .ne v26 v31
  let v33 : BitVec 32 := Scalar.remsi v20 c16_i32_8
  let c0_i32_13 : BitVec 32 := 0#32
  let v34 : BitVec 1 := Scalar.cmpi .ne v33 c0_i32_13
  let v35 : BitVec 1 := Scalar.andi v32 v34
  let v21 : BitVec 32 := Scalar.divsi v20 c16_i32_8
  let c1_i32_14 : BitVec 32 := 1#32
  let v36 : BitVec 32 := Scalar.subi v21 c1_i32_14
  let v37 : BitVec 32 := Scalar.select v35 v36 v21
  let c0_i32_15 : BitVec 32 := 0#32
  let v38 : BitVec 32 := Scalar.subi v37 c0_i32_15
  let c1_i32_16 : BitVec 32 := 1#32
  let c1_i32_17 : BitVec 32 := 1#32
  let v39 : BitVec 32 := Scalar.subi c1_i32_16 c1_i32_17
  let v40 : BitVec 32 := Scalar.addi v38 v39
  let c1_i32_18 : BitVec 32 := 1#32
  let v41 : BitVec 32 := Scalar.divsi v40 c1_i32_18
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg12 : BitVec 32 := Scf.iv v46 c1_i32_24 k0_t6
  let c1_i32_19 : BitVec 32 := 1#32
  let v122 : BitVec 32 := Scalar.muli arg12 c1_i32_19
  let v123 : BitVec 32 := Scalar.addi c0_i32_20 v122
  let v125 : Index := Scalar.indexCast v123
  ![v124.toNat, v125.toNat]
def k0_off22 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off23 (i : grid0.Coords) (v18 : BitVec 32) (k0_t6 : Fin (k0_t6_loop v18).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_20 : BitVec 32 := 0#32
  let c0_i32_21 : BitVec 32 := 0#32
  let c16_i32 : BitVec 32 := 16#32
  let v19 : BitVec 32 := Scalar.addi v18 c16_i32
  let c1_i32_7 : BitVec 32 := 1#32
  let v20 : BitVec 32 := Scalar.subi v19 c1_i32_7
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c16_i32_8 : BitVec 32 := 16#32
  let c0_i32_11 : BitVec 32 := 0#32
  let v27 : BitVec 1 := Scalar.cmpi .sgt c16_i32_8 c0_i32_11
  let v28 : BitVec 32 := Scalar.extui v27
  let c0_i32_12 : BitVec 32 := 0#32
  let v29 : BitVec 1 := Scalar.cmpi .slt c16_i32_8 c0_i32_12
  let v30 : BitVec 32 := Scalar.extui v29
  let v31 : BitVec 32 := Scalar.subi v28 v30
  let v32 : BitVec 1 := Scalar.cmpi .ne v26 v31
  let v33 : BitVec 32 := Scalar.remsi v20 c16_i32_8
  let c0_i32_13 : BitVec 32 := 0#32
  let v34 : BitVec 1 := Scalar.cmpi .ne v33 c0_i32_13
  let v35 : BitVec 1 := Scalar.andi v32 v34
  let v21 : BitVec 32 := Scalar.divsi v20 c16_i32_8
  let c1_i32_14 : BitVec 32 := 1#32
  let v36 : BitVec 32 := Scalar.subi v21 c1_i32_14
  let v37 : BitVec 32 := Scalar.select v35 v36 v21
  let c0_i32_15 : BitVec 32 := 0#32
  let v38 : BitVec 32 := Scalar.subi v37 c0_i32_15
  let c1_i32_16 : BitVec 32 := 1#32
  let c1_i32_17 : BitVec 32 := 1#32
  let v39 : BitVec 32 := Scalar.subi c1_i32_16 c1_i32_17
  let v40 : BitVec 32 := Scalar.addi v38 v39
  let c1_i32_18 : BitVec 32 := 1#32
  let v41 : BitVec 32 := Scalar.divsi v40 c1_i32_18
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg12 : BitVec 32 := Scf.iv v46 c1_i32_24 k0_t6
  let c1_i32_19 : BitVec 32 := 1#32
  let v122 : BitVec 32 := Scalar.muli arg12 c1_i32_19
  let v123 : BitVec 32 := Scalar.addi c0_i32_20 v122
  let c0_i32_58 : BitVec 32 := 0#32
  let c0_i32_59 : BitVec 32 := 0#32
  ![v9.toNat, v123.toNat, 0, 0]

def k0_chk7 (i : grid0.Coords) (v18 : BitVec 32) : Prop :=
  ((k0_t5_loop v18).OK) ∧
  (∀ k0_t5 : Fin (k0_t5_loop v18).trips, ∀ a, (k0_off17 i v18 k0_t5) a + S1x1.size a ≤ S120x256.size a) ∧
  (∀ k0_t5 : Fin (k0_t5_loop v18).trips, ∀ a, (k0_off19 i v18 k0_t5) a + S1x1x24x128.size a ≤ S2x256x24x128.size a) ∧
  ((k0_t6_loop v18).OK) ∧
  (∀ k0_t6 : Fin (k0_t6_loop v18).trips, ∀ a, (k0_off21 i v18 k0_t6) a + S1x1.size a ≤ S120x256.size a) ∧
  (∀ k0_t6 : Fin (k0_t6_loop v18).trips, ∀ a, (k0_off23 i v18 k0_t6) a + S1x1x24x128.size a ≤ S2x256x24x128.size a)
theorem k0_t5_ok : ∀ (i : grid0.Coords) (v18 : BitVec 32) (k0_hw7 : k0_chk7 i v18), (k0_t5_loop v18).OK := fun i v18 k0_hw7 => k0_hw7.1
theorem k0_off17_inb : ∀ (i : grid0.Coords) (v18 : BitVec 32) (k0_hw7 : k0_chk7 i v18) (k0_t5 : Fin (k0_t5_loop v18).trips), ∀ a, (k0_off17 i v18 k0_t5) a + S1x1.size a ≤ S120x256.size a := fun i v18 k0_hw7 k0_t5 => k0_hw7.2.1 k0_t5
theorem k0_off19_inb : ∀ (i : grid0.Coords) (v18 : BitVec 32) (k0_hw7 : k0_chk7 i v18) (k0_t5 : Fin (k0_t5_loop v18).trips), ∀ a, (k0_off19 i v18 k0_t5) a + S1x1x24x128.size a ≤ S2x256x24x128.size a := fun i v18 k0_hw7 k0_t5 => k0_hw7.2.2.1 k0_t5
theorem k0_t6_ok : ∀ (i : grid0.Coords) (v18 : BitVec 32) (k0_hw7 : k0_chk7 i v18), (k0_t6_loop v18).OK := fun i v18 k0_hw7 => k0_hw7.2.2.2.1
theorem k0_off21_inb : ∀ (i : grid0.Coords) (v18 : BitVec 32) (k0_hw7 : k0_chk7 i v18) (k0_t6 : Fin (k0_t6_loop v18).trips), ∀ a, (k0_off21 i v18 k0_t6) a + S1x1.size a ≤ S120x256.size a := fun i v18 k0_hw7 k0_t6 => k0_hw7.2.2.2.2.1 k0_t6
theorem k0_off23_inb : ∀ (i : grid0.Coords) (v18 : BitVec 32) (k0_hw7 : k0_chk7 i v18) (k0_t6 : Fin (k0_t6_loop v18).trips), ∀ a, (k0_off23 i v18 k0_t6) a + S1x1x24x128.size a ≤ S2x256x24x128.size a := fun i v18 k0_hw7 k0_t6 => k0_hw7.2.2.2.2.2 k0_t6

def k0_off24 (v126 : BitVec 32) : Fin 3 → Nat :=
  let c0_i32_60 : BitVec 32 := 0#32
  let c0_i32_61 : BitVec 32 := 0#32
  ![v126.toNat, 0, 0]

def k0_chk9 (v126 : BitVec 32) : Prop :=
  (∀ a, (k0_off24 v126) a + S1x24x128.size a ≤ S38400x24x128.size a)
theorem k0_off24_inb : ∀ (v126 : BitVec 32) (k0_hw9 : k0_chk9 v126), ∀ a, (k0_off24 v126) a + S1x24x128.size a ≤ S38400x24x128.size a := fun v126 k0_hw9 => k0_hw9

def k0_off25 (i : grid0.Coords) : Fin 1 → Nat :=
  let arg0 : BitVec 32 := BitVec.ofNat 32 (i 0).val
  let v47 : Index := Scalar.indexCast arg0
  ![v47.toNat]
@[reducible] def k0_t7_loop (v48 : BitVec 32) : Scf.Loop 32 :=
  let c0_i32_47 : BitVec 32 := 0#32
  let c256_i32 : BitVec 32 := 256#32
  let v76 : BitVec 32 := Scalar.addi v48 c256_i32
  let c1_i32_39 : BitVec 32 := 1#32
  let v77 : BitVec 32 := Scalar.subi v76 c1_i32_39
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c256_i32_40 : BitVec 32 := 256#32
  let c0_i32_43 : BitVec 32 := 0#32
  let v84 : BitVec 1 := Scalar.cmpi .sgt c256_i32_40 c0_i32_43
  let v85 : BitVec 32 := Scalar.extui v84
  let c0_i32_44 : BitVec 32 := 0#32
  let v86 : BitVec 1 := Scalar.cmpi .slt c256_i32_40 c0_i32_44
  let v87 : BitVec 32 := Scalar.extui v86
  let v88 : BitVec 32 := Scalar.subi v85 v87
  let v89 : BitVec 1 := Scalar.cmpi .ne v83 v88
  let v90 : BitVec 32 := Scalar.remsi v77 c256_i32_40
  let c0_i32_45 : BitVec 32 := 0#32
  let v91 : BitVec 1 := Scalar.cmpi .ne v90 c0_i32_45
  let v92 : BitVec 1 := Scalar.andi v89 v91
  let v78 : BitVec 32 := Scalar.divsi v77 c256_i32_40
  let c1_i32_46 : BitVec 32 := 1#32
  let v93 : BitVec 32 := Scalar.subi v78 c1_i32_46
  let v94 : BitVec 32 := Scalar.select v92 v93 v78
  let v95 : BitVec 32 := Scalar.subi v94 c0_i32_47
  let c1_i32_48 : BitVec 32 := 1#32
  let v97 : BitVec 32 := Scalar.divsi v95 c1_i32_48
  let v98 : BitVec 32 := Scalar.muli v97 c1_i32_48
  let v99 : BitVec 32 := Scalar.addi c0_i32_47 v98
  let c1_i32_49 : BitVec 32 := 1#32
  ⟨c0_i32_47, v99, c1_i32_49⟩

def k0_off26 (i : grid0.Coords) (v48 : BitVec 32) (k0_t7 : Fin (k0_t7_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v123 : Index := Scalar.indexCast v9
  let c0_i32_47 : BitVec 32 := 0#32
  let c1_i32_49 : BitVec 32 := 1#32
  let arg12 : BitVec 32 := Scf.iv c0_i32_47 c1_i32_49 k0_t7
  let c16_i32_58 : BitVec 32 := 16#32
  let v122 : BitVec 32 := Scalar.muli arg12 c16_i32_58
  let v124 : Index := Scalar.indexCast v122
  let c16 : Index := 16#32
  let c0_59 : Index := 0#32
  ![v123.toNat, v124.toNat, 16, 0]
def k0_off27 (i : grid0.Coords) (v48 : BitVec 32) (k0_t7 : Fin (k0_t7_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v131 : Index := Scalar.indexCast v9
  let c0_i32_47 : BitVec 32 := 0#32
  let c1_i32_49 : BitVec 32 := 1#32
  let arg12 : BitVec 32 := Scf.iv c0_i32_47 c1_i32_49 k0_t7
  let c16_i32_58 : BitVec 32 := 16#32
  let v122 : BitVec 32 := Scalar.muli arg12 c16_i32_58
  let v132 : Index := Scalar.indexCast v122
  let c0_61 : Index := 0#32
  let c0_62 : Index := 0#32
  ![v131.toNat, v132.toNat, 0, 0]
def k0_off28 (i : grid0.Coords) (v48 : BitVec 32) (k0_t7 : Fin (k0_t7_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : Index := Scalar.indexCast v9
  let c0_i32_47 : BitVec 32 := 0#32
  let c1_i32_49 : BitVec 32 := 1#32
  let arg12 : BitVec 32 := Scf.iv c0_i32_47 c1_i32_49 k0_t7
  let c16_i32_58 : BitVec 32 := 16#32
  let v122 : BitVec 32 := Scalar.muli arg12 c16_i32_58
  let v144 : Index := Scalar.indexCast v122
  let c4 : Index := 4#32
  let c0_64 : Index := 0#32
  ![v143.toNat, v144.toNat, 4, 0]
def k0_off29 (i : grid0.Coords) (v48 : BitVec 32) (k0_t7 : Fin (k0_t7_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v155 : Index := Scalar.indexCast v9
  let c0_i32_47 : BitVec 32 := 0#32
  let c1_i32_49 : BitVec 32 := 1#32
  let arg12 : BitVec 32 := Scf.iv c0_i32_47 c1_i32_49 k0_t7
  let c16_i32_58 : BitVec 32 := 16#32
  let v122 : BitVec 32 := Scalar.muli arg12 c16_i32_58
  let v156 : Index := Scalar.indexCast v122
  let c8 : Index := 8#32
  let c0_66 : Index := 0#32
  ![v155.toNat, v156.toNat, 8, 0]
def k0_off30 (i : grid0.Coords) (v48 : BitVec 32) (k0_t7 : Fin (k0_t7_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v167 : Index := Scalar.indexCast v9
  let c0_i32_47 : BitVec 32 := 0#32
  let c1_i32_49 : BitVec 32 := 1#32
  let arg12 : BitVec 32 := Scf.iv c0_i32_47 c1_i32_49 k0_t7
  let c16_i32_58 : BitVec 32 := 16#32
  let v122 : BitVec 32 := Scalar.muli arg12 c16_i32_58
  let v168 : Index := Scalar.indexCast v122
  let c12 : Index := 12#32
  let c0_68 : Index := 0#32
  ![v167.toNat, v168.toNat, 12, 0]
@[reducible] def k0_t8_loop (v48 : BitVec 32) : Scf.Loop 32 :=
  let c0_i32_47 : BitVec 32 := 0#32
  let c256_i32 : BitVec 32 := 256#32
  let v76 : BitVec 32 := Scalar.addi v48 c256_i32
  let c1_i32_39 : BitVec 32 := 1#32
  let v77 : BitVec 32 := Scalar.subi v76 c1_i32_39
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c256_i32_40 : BitVec 32 := 256#32
  let c0_i32_43 : BitVec 32 := 0#32
  let v84 : BitVec 1 := Scalar.cmpi .sgt c256_i32_40 c0_i32_43
  let v85 : BitVec 32 := Scalar.extui v84
  let c0_i32_44 : BitVec 32 := 0#32
  let v86 : BitVec 1 := Scalar.cmpi .slt c256_i32_40 c0_i32_44
  let v87 : BitVec 32 := Scalar.extui v86
  let v88 : BitVec 32 := Scalar.subi v85 v87
  let v89 : BitVec 1 := Scalar.cmpi .ne v83 v88
  let v90 : BitVec 32 := Scalar.remsi v77 c256_i32_40
  let c0_i32_45 : BitVec 32 := 0#32
  let v91 : BitVec 1 := Scalar.cmpi .ne v90 c0_i32_45
  let v92 : BitVec 1 := Scalar.andi v89 v91
  let v78 : BitVec 32 := Scalar.divsi v77 c256_i32_40
  let c1_i32_46 : BitVec 32 := 1#32
  let v93 : BitVec 32 := Scalar.subi v78 c1_i32_46
  let v94 : BitVec 32 := Scalar.select v92 v93 v78
  let v95 : BitVec 32 := Scalar.subi v94 c0_i32_47
  let c1_i32_48 : BitVec 32 := 1#32
  let v97 : BitVec 32 := Scalar.divsi v95 c1_i32_48
  let v98 : BitVec 32 := Scalar.muli v97 c1_i32_48
  let v99 : BitVec 32 := Scalar.addi c0_i32_47 v98
  let v96 : BitVec 32 := Scalar.addi c0_i32_47 v95
  let c1_i32_50 : BitVec 32 := 1#32
  ⟨v99, v96, c1_i32_50⟩
def k0_off31 (i : grid0.Coords) (v48 : BitVec 32) (k0_t8 : Fin (k0_t8_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v123 : Index := Scalar.indexCast v9
  let c0_i32_47 : BitVec 32 := 0#32
  let c256_i32 : BitVec 32 := 256#32
  let v76 : BitVec 32 := Scalar.addi v48 c256_i32
  let c1_i32_39 : BitVec 32 := 1#32
  let v77 : BitVec 32 := Scalar.subi v76 c1_i32_39
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c256_i32_40 : BitVec 32 := 256#32
  let c0_i32_43 : BitVec 32 := 0#32
  let v84 : BitVec 1 := Scalar.cmpi .sgt c256_i32_40 c0_i32_43
  let v85 : BitVec 32 := Scalar.extui v84
  let c0_i32_44 : BitVec 32 := 0#32
  let v86 : BitVec 1 := Scalar.cmpi .slt c256_i32_40 c0_i32_44
  let v87 : BitVec 32 := Scalar.extui v86
  let v88 : BitVec 32 := Scalar.subi v85 v87
  let v89 : BitVec 1 := Scalar.cmpi .ne v83 v88
  let v90 : BitVec 32 := Scalar.remsi v77 c256_i32_40
  let c0_i32_45 : BitVec 32 := 0#32
  let v91 : BitVec 1 := Scalar.cmpi .ne v90 c0_i32_45
  let v92 : BitVec 1 := Scalar.andi v89 v91
  let v78 : BitVec 32 := Scalar.divsi v77 c256_i32_40
  let c1_i32_46 : BitVec 32 := 1#32
  let v93 : BitVec 32 := Scalar.subi v78 c1_i32_46
  let v94 : BitVec 32 := Scalar.select v92 v93 v78
  let v95 : BitVec 32 := Scalar.subi v94 c0_i32_47
  let c1_i32_48 : BitVec 32 := 1#32
  let v97 : BitVec 32 := Scalar.divsi v95 c1_i32_48
  let v98 : BitVec 32 := Scalar.muli v97 c1_i32_48
  let v99 : BitVec 32 := Scalar.addi c0_i32_47 v98
  let c1_i32_50 : BitVec 32 := 1#32
  let arg12 : BitVec 32 := Scf.iv v99 c1_i32_50 k0_t8
  let c16_i32_58 : BitVec 32 := 16#32
  let v122 : BitVec 32 := Scalar.muli arg12 c16_i32_58
  let v124 : Index := Scalar.indexCast v122
  let c16 : Index := 16#32
  let c0_59 : Index := 0#32
  ![v123.toNat, v124.toNat, 16, 0]
def k0_off32 (i : grid0.Coords) (v48 : BitVec 32) (k0_t8 : Fin (k0_t8_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v131 : Index := Scalar.indexCast v9
  let c0_i32_47 : BitVec 32 := 0#32
  let c256_i32 : BitVec 32 := 256#32
  let v76 : BitVec 32 := Scalar.addi v48 c256_i32
  let c1_i32_39 : BitVec 32 := 1#32
  let v77 : BitVec 32 := Scalar.subi v76 c1_i32_39
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c256_i32_40 : BitVec 32 := 256#32
  let c0_i32_43 : BitVec 32 := 0#32
  let v84 : BitVec 1 := Scalar.cmpi .sgt c256_i32_40 c0_i32_43
  let v85 : BitVec 32 := Scalar.extui v84
  let c0_i32_44 : BitVec 32 := 0#32
  let v86 : BitVec 1 := Scalar.cmpi .slt c256_i32_40 c0_i32_44
  let v87 : BitVec 32 := Scalar.extui v86
  let v88 : BitVec 32 := Scalar.subi v85 v87
  let v89 : BitVec 1 := Scalar.cmpi .ne v83 v88
  let v90 : BitVec 32 := Scalar.remsi v77 c256_i32_40
  let c0_i32_45 : BitVec 32 := 0#32
  let v91 : BitVec 1 := Scalar.cmpi .ne v90 c0_i32_45
  let v92 : BitVec 1 := Scalar.andi v89 v91
  let v78 : BitVec 32 := Scalar.divsi v77 c256_i32_40
  let c1_i32_46 : BitVec 32 := 1#32
  let v93 : BitVec 32 := Scalar.subi v78 c1_i32_46
  let v94 : BitVec 32 := Scalar.select v92 v93 v78
  let v95 : BitVec 32 := Scalar.subi v94 c0_i32_47
  let c1_i32_48 : BitVec 32 := 1#32
  let v97 : BitVec 32 := Scalar.divsi v95 c1_i32_48
  let v98 : BitVec 32 := Scalar.muli v97 c1_i32_48
  let v99 : BitVec 32 := Scalar.addi c0_i32_47 v98
  let c1_i32_50 : BitVec 32 := 1#32
  let arg12 : BitVec 32 := Scf.iv v99 c1_i32_50 k0_t8
  let c16_i32_58 : BitVec 32 := 16#32
  let v122 : BitVec 32 := Scalar.muli arg12 c16_i32_58
  let v132 : Index := Scalar.indexCast v122
  let c0_61 : Index := 0#32
  let c0_62 : Index := 0#32
  ![v131.toNat, v132.toNat, 0, 0]
def k0_off33 (i : grid0.Coords) (v48 : BitVec 32) (k0_t8 : Fin (k0_t8_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : Index := Scalar.indexCast v9
  let c0_i32_47 : BitVec 32 := 0#32
  let c256_i32 : BitVec 32 := 256#32
  let v76 : BitVec 32 := Scalar.addi v48 c256_i32
  let c1_i32_39 : BitVec 32 := 1#32
  let v77 : BitVec 32 := Scalar.subi v76 c1_i32_39
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c256_i32_40 : BitVec 32 := 256#32
  let c0_i32_43 : BitVec 32 := 0#32
  let v84 : BitVec 1 := Scalar.cmpi .sgt c256_i32_40 c0_i32_43
  let v85 : BitVec 32 := Scalar.extui v84
  let c0_i32_44 : BitVec 32 := 0#32
  let v86 : BitVec 1 := Scalar.cmpi .slt c256_i32_40 c0_i32_44
  let v87 : BitVec 32 := Scalar.extui v86
  let v88 : BitVec 32 := Scalar.subi v85 v87
  let v89 : BitVec 1 := Scalar.cmpi .ne v83 v88
  let v90 : BitVec 32 := Scalar.remsi v77 c256_i32_40
  let c0_i32_45 : BitVec 32 := 0#32
  let v91 : BitVec 1 := Scalar.cmpi .ne v90 c0_i32_45
  let v92 : BitVec 1 := Scalar.andi v89 v91
  let v78 : BitVec 32 := Scalar.divsi v77 c256_i32_40
  let c1_i32_46 : BitVec 32 := 1#32
  let v93 : BitVec 32 := Scalar.subi v78 c1_i32_46
  let v94 : BitVec 32 := Scalar.select v92 v93 v78
  let v95 : BitVec 32 := Scalar.subi v94 c0_i32_47
  let c1_i32_48 : BitVec 32 := 1#32
  let v97 : BitVec 32 := Scalar.divsi v95 c1_i32_48
  let v98 : BitVec 32 := Scalar.muli v97 c1_i32_48
  let v99 : BitVec 32 := Scalar.addi c0_i32_47 v98
  let c1_i32_50 : BitVec 32 := 1#32
  let arg12 : BitVec 32 := Scf.iv v99 c1_i32_50 k0_t8
  let c16_i32_58 : BitVec 32 := 16#32
  let v122 : BitVec 32 := Scalar.muli arg12 c16_i32_58
  let v144 : Index := Scalar.indexCast v122
  let c4 : Index := 4#32
  let c0_64 : Index := 0#32
  ![v143.toNat, v144.toNat, 4, 0]
def k0_off34 (i : grid0.Coords) (v48 : BitVec 32) (k0_t8 : Fin (k0_t8_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v155 : Index := Scalar.indexCast v9
  let c0_i32_47 : BitVec 32 := 0#32
  let c256_i32 : BitVec 32 := 256#32
  let v76 : BitVec 32 := Scalar.addi v48 c256_i32
  let c1_i32_39 : BitVec 32 := 1#32
  let v77 : BitVec 32 := Scalar.subi v76 c1_i32_39
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c256_i32_40 : BitVec 32 := 256#32
  let c0_i32_43 : BitVec 32 := 0#32
  let v84 : BitVec 1 := Scalar.cmpi .sgt c256_i32_40 c0_i32_43
  let v85 : BitVec 32 := Scalar.extui v84
  let c0_i32_44 : BitVec 32 := 0#32
  let v86 : BitVec 1 := Scalar.cmpi .slt c256_i32_40 c0_i32_44
  let v87 : BitVec 32 := Scalar.extui v86
  let v88 : BitVec 32 := Scalar.subi v85 v87
  let v89 : BitVec 1 := Scalar.cmpi .ne v83 v88
  let v90 : BitVec 32 := Scalar.remsi v77 c256_i32_40
  let c0_i32_45 : BitVec 32 := 0#32
  let v91 : BitVec 1 := Scalar.cmpi .ne v90 c0_i32_45
  let v92 : BitVec 1 := Scalar.andi v89 v91
  let v78 : BitVec 32 := Scalar.divsi v77 c256_i32_40
  let c1_i32_46 : BitVec 32 := 1#32
  let v93 : BitVec 32 := Scalar.subi v78 c1_i32_46
  let v94 : BitVec 32 := Scalar.select v92 v93 v78
  let v95 : BitVec 32 := Scalar.subi v94 c0_i32_47
  let c1_i32_48 : BitVec 32 := 1#32
  let v97 : BitVec 32 := Scalar.divsi v95 c1_i32_48
  let v98 : BitVec 32 := Scalar.muli v97 c1_i32_48
  let v99 : BitVec 32 := Scalar.addi c0_i32_47 v98
  let c1_i32_50 : BitVec 32 := 1#32
  let arg12 : BitVec 32 := Scf.iv v99 c1_i32_50 k0_t8
  let c16_i32_58 : BitVec 32 := 16#32
  let v122 : BitVec 32 := Scalar.muli arg12 c16_i32_58
  let v156 : Index := Scalar.indexCast v122
  let c8 : Index := 8#32
  let c0_66 : Index := 0#32
  ![v155.toNat, v156.toNat, 8, 0]
def k0_off35 (i : grid0.Coords) (v48 : BitVec 32) (k0_t8 : Fin (k0_t8_loop v48).trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v167 : Index := Scalar.indexCast v9
  let c0_i32_47 : BitVec 32 := 0#32
  let c256_i32 : BitVec 32 := 256#32
  let v76 : BitVec 32 := Scalar.addi v48 c256_i32
  let c1_i32_39 : BitVec 32 := 1#32
  let v77 : BitVec 32 := Scalar.subi v76 c1_i32_39
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c256_i32_40 : BitVec 32 := 256#32
  let c0_i32_43 : BitVec 32 := 0#32
  let v84 : BitVec 1 := Scalar.cmpi .sgt c256_i32_40 c0_i32_43
  let v85 : BitVec 32 := Scalar.extui v84
  let c0_i32_44 : BitVec 32 := 0#32
  let v86 : BitVec 1 := Scalar.cmpi .slt c256_i32_40 c0_i32_44
  let v87 : BitVec 32 := Scalar.extui v86
  let v88 : BitVec 32 := Scalar.subi v85 v87
  let v89 : BitVec 1 := Scalar.cmpi .ne v83 v88
  let v90 : BitVec 32 := Scalar.remsi v77 c256_i32_40
  let c0_i32_45 : BitVec 32 := 0#32
  let v91 : BitVec 1 := Scalar.cmpi .ne v90 c0_i32_45
  let v92 : BitVec 1 := Scalar.andi v89 v91
  let v78 : BitVec 32 := Scalar.divsi v77 c256_i32_40
  let c1_i32_46 : BitVec 32 := 1#32
  let v93 : BitVec 32 := Scalar.subi v78 c1_i32_46
  let v94 : BitVec 32 := Scalar.select v92 v93 v78
  let v95 : BitVec 32 := Scalar.subi v94 c0_i32_47
  let c1_i32_48 : BitVec 32 := 1#32
  let v97 : BitVec 32 := Scalar.divsi v95 c1_i32_48
  let v98 : BitVec 32 := Scalar.muli v97 c1_i32_48
  let v99 : BitVec 32 := Scalar.addi c0_i32_47 v98
  let c1_i32_50 : BitVec 32 := 1#32
  let arg12 : BitVec 32 := Scf.iv v99 c1_i32_50 k0_t8
  let c16_i32_58 : BitVec 32 := 16#32
  let v122 : BitVec 32 := Scalar.muli arg12 c16_i32_58
  let v168 : Index := Scalar.indexCast v122
  let c12 : Index := 12#32
  let c0_68 : Index := 0#32
  ![v167.toNat, v168.toNat, 12, 0]

def k0_chk10 (i : grid0.Coords) (v48 : BitVec 32) : Prop :=
  ((k0_t7_loop v48).OK) ∧
  (∀ k0_t7 : Fin (k0_t7_loop v48).trips, ∀ a, (k0_off26 i v48 k0_t7) a + S1x16x8x128.size a ≤ S2x256x24x128.size a) ∧
  (∀ k0_t7 : Fin (k0_t7_loop v48).trips, ∀ a, (k0_off27 i v48 k0_t7) a + S1x16x4x128.size a ≤ S2x256x24x128.size a) ∧
  (∀ k0_t7 : Fin (k0_t7_loop v48).trips, ∀ a, (k0_off28 i v48 k0_t7) a + S1x16x4x128.size a ≤ S2x256x24x128.size a) ∧
  (∀ k0_t7 : Fin (k0_t7_loop v48).trips, ∀ a, (k0_off29 i v48 k0_t7) a + S1x16x4x128.size a ≤ S2x256x24x128.size a) ∧
  (∀ k0_t7 : Fin (k0_t7_loop v48).trips, ∀ a, (k0_off30 i v48 k0_t7) a + S1x16x4x128.size a ≤ S2x256x24x128.size a) ∧
  ((k0_t8_loop v48).OK) ∧
  (∀ k0_t8 : Fin (k0_t8_loop v48).trips, ∀ a, (k0_off31 i v48 k0_t8) a + S1x16x8x128.size a ≤ S2x256x24x128.size a) ∧
  (∀ k0_t8 : Fin (k0_t8_loop v48).trips, ∀ a, (k0_off32 i v48 k0_t8) a + S1x16x4x128.size a ≤ S2x256x24x128.size a) ∧
  (∀ k0_t8 : Fin (k0_t8_loop v48).trips, ∀ a, (k0_off33 i v48 k0_t8) a + S1x16x4x128.size a ≤ S2x256x24x128.size a) ∧
  (∀ k0_t8 : Fin (k0_t8_loop v48).trips, ∀ a, (k0_off34 i v48 k0_t8) a + S1x16x4x128.size a ≤ S2x256x24x128.size a) ∧
  (∀ k0_t8 : Fin (k0_t8_loop v48).trips, ∀ a, (k0_off35 i v48 k0_t8) a + S1x16x4x128.size a ≤ S2x256x24x128.size a)
theorem k0_t7_ok : ∀ (i : grid0.Coords) (v48 : BitVec 32) (k0_hw10 : k0_chk10 i v48), (k0_t7_loop v48).OK := fun i v48 k0_hw10 => k0_hw10.1
theorem k0_off26_inb : ∀ (i : grid0.Coords) (v48 : BitVec 32) (k0_hw10 : k0_chk10 i v48) (k0_t7 : Fin (k0_t7_loop v48).trips), ∀ a, (k0_off26 i v48 k0_t7) a + S1x16x8x128.size a ≤ S2x256x24x128.size a := fun i v48 k0_hw10 k0_t7 => k0_hw10.2.1 k0_t7
theorem k0_off27_inb : ∀ (i : grid0.Coords) (v48 : BitVec 32) (k0_hw10 : k0_chk10 i v48) (k0_t7 : Fin (k0_t7_loop v48).trips), ∀ a, (k0_off27 i v48 k0_t7) a + S1x16x4x128.size a ≤ S2x256x24x128.size a := fun i v48 k0_hw10 k0_t7 => k0_hw10.2.2.1 k0_t7
theorem k0_off28_inb : ∀ (i : grid0.Coords) (v48 : BitVec 32) (k0_hw10 : k0_chk10 i v48) (k0_t7 : Fin (k0_t7_loop v48).trips), ∀ a, (k0_off28 i v48 k0_t7) a + S1x16x4x128.size a ≤ S2x256x24x128.size a := fun i v48 k0_hw10 k0_t7 => k0_hw10.2.2.2.1 k0_t7
theorem k0_off29_inb : ∀ (i : grid0.Coords) (v48 : BitVec 32) (k0_hw10 : k0_chk10 i v48) (k0_t7 : Fin (k0_t7_loop v48).trips), ∀ a, (k0_off29 i v48 k0_t7) a + S1x16x4x128.size a ≤ S2x256x24x128.size a := fun i v48 k0_hw10 k0_t7 => k0_hw10.2.2.2.2.1 k0_t7
theorem k0_off30_inb : ∀ (i : grid0.Coords) (v48 : BitVec 32) (k0_hw10 : k0_chk10 i v48) (k0_t7 : Fin (k0_t7_loop v48).trips), ∀ a, (k0_off30 i v48 k0_t7) a + S1x16x4x128.size a ≤ S2x256x24x128.size a := fun i v48 k0_hw10 k0_t7 => k0_hw10.2.2.2.2.2.1 k0_t7
theorem k0_t8_ok : ∀ (i : grid0.Coords) (v48 : BitVec 32) (k0_hw10 : k0_chk10 i v48), (k0_t8_loop v48).OK := fun i v48 k0_hw10 => k0_hw10.2.2.2.2.2.2.1
theorem k0_off31_inb : ∀ (i : grid0.Coords) (v48 : BitVec 32) (k0_hw10 : k0_chk10 i v48) (k0_t8 : Fin (k0_t8_loop v48).trips), ∀ a, (k0_off31 i v48 k0_t8) a + S1x16x8x128.size a ≤ S2x256x24x128.size a := fun i v48 k0_hw10 k0_t8 => k0_hw10.2.2.2.2.2.2.2.1 k0_t8
theorem k0_off32_inb : ∀ (i : grid0.Coords) (v48 : BitVec 32) (k0_hw10 : k0_chk10 i v48) (k0_t8 : Fin (k0_t8_loop v48).trips), ∀ a, (k0_off32 i v48 k0_t8) a + S1x16x4x128.size a ≤ S2x256x24x128.size a := fun i v48 k0_hw10 k0_t8 => k0_hw10.2.2.2.2.2.2.2.2.1 k0_t8
theorem k0_off33_inb : ∀ (i : grid0.Coords) (v48 : BitVec 32) (k0_hw10 : k0_chk10 i v48) (k0_t8 : Fin (k0_t8_loop v48).trips), ∀ a, (k0_off33 i v48 k0_t8) a + S1x16x4x128.size a ≤ S2x256x24x128.size a := fun i v48 k0_hw10 k0_t8 => k0_hw10.2.2.2.2.2.2.2.2.2.1 k0_t8
theorem k0_off34_inb : ∀ (i : grid0.Coords) (v48 : BitVec 32) (k0_hw10 : k0_chk10 i v48) (k0_t8 : Fin (k0_t8_loop v48).trips), ∀ a, (k0_off34 i v48 k0_t8) a + S1x16x4x128.size a ≤ S2x256x24x128.size a := fun i v48 k0_hw10 k0_t8 => k0_hw10.2.2.2.2.2.2.2.2.2.2.1 k0_t8
theorem k0_off35_inb : ∀ (i : grid0.Coords) (v48 : BitVec 32) (k0_hw10 : k0_chk10 i v48) (k0_t8 : Fin (k0_t8_loop v48).trips), ∀ a, (k0_off35 i v48 k0_t8) a + S1x16x4x128.size a ≤ S2x256x24x128.size a := fun i v48 k0_hw10 k0_t8 => k0_hw10.2.2.2.2.2.2.2.2.2.2.2 k0_t8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x48x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S120x256 : Shape := ⟨2, ![120, 256]⟩
abbrev S120 : Shape := ⟨1, ![120]⟩
abbrev S120x32x512 : Shape := ⟨3, ![120, 32, 512]⟩
abbrev S120x32x64 : Shape := ⟨3, ![120, 32, 64]⟩
abbrev S120x512 : Shape := ⟨2, ![120, 512]⟩
abbrev S120x64 : Shape := ⟨2, ![120, 64]⟩
abbrev S38400x24x128 : Shape := ⟨3, ![38400, 24, 128]⟩
abbrev S_ : Shape := ⟨0, ![]⟩
abbrev S120x256x1 : Shape := ⟨3, ![120, 256, 1]⟩
abbrev S120x256x24x128 : Shape := ⟨4, ![120, 256, 24, 128]⟩
abbrev S737280x128 : Shape := ⟨2, ![737280, 128]⟩
abbrev S120x1x1 : Shape := ⟨3, ![120, 1, 1]⟩
abbrev S120x1x512 : Shape := ⟨3, ![120, 1, 512]⟩
abbrev S120x1x64 : Shape := ⟨3, ![120, 1, 64]⟩
abbrev S120x1x32 : Shape := ⟨3, ![120, 1, 32]⟩
abbrev S2949120x128 : Shape := ⟨2, ![2949120, 128]⟩
abbrev S120x256x96x128 : Shape := ⟨4, ![120, 256, 96, 128]⟩
abbrev S120x256x64x128 : Shape := ⟨4, ![120, 256, 64, 128]⟩
abbrev S120x256x4x16x128 : Shape := ⟨5, ![120, 256, 4, 16, 128]⟩
abbrev S1474560x128 : Shape := ⟨2, ![1474560, 128]⟩
abbrev S120x256x48x128 : Shape := ⟨4, ![120, 256, 48, 128]⟩
abbrev S120x256x16x128 : Shape := ⟨4, ![120, 256, 16, 128]⟩
abbrev S120x4096x128 : Shape := ⟨3, ![120, 4096, 128]⟩
abbrev S120x4096x64 : Shape := ⟨3, ![120, 4096, 64]⟩
abbrev S120x32x4096 : Shape := ⟨3, ![120, 32, 4096]⟩
abbrev S120x256x1x16x128 : Shape := ⟨5, ![120, 256, 1, 16, 128]⟩
abbrev S120x4096x1 : Shape := ⟨3, ![120, 4096, 1]⟩
abbrev S120x1x4096 : Shape := ⟨3, ![120, 1, 4096]⟩
abbrev S120x32x128 : Shape := ⟨3, ![120, 32, 128]⟩
abbrev S120x32 : Shape := ⟨2, ![120, 32]⟩
abbrev S120x32x1 : Shape := ⟨3, ![120, 32, 1]⟩
abbrev S120x1x128 : Shape := ⟨3, ![120, 1, 128]⟩

abbrev nBuf : Space → Nat
  | .hbm => 27
  | .vmem => 9
  | .smem => 0
  | _ => 0

abbrev bufTy : (tb : Table) → Fin (tcTables nBuf tb) → BufTy
  | .hbm, ⟨0, _⟩ => ⟨S120x256, .i32⟩
  | .hbm, ⟨1, _⟩ => ⟨S120, .i32⟩
  | .hbm, ⟨2, _⟩ => ⟨S120x32x512, .bf16⟩
  | .hbm, ⟨3, _⟩ => ⟨S120x32x64, .bf16⟩
  | .hbm, ⟨4, _⟩ => ⟨S120x512, .bf16⟩
  | .hbm, ⟨5, _⟩ => ⟨S120x64, .bf16⟩
  | .hbm, ⟨6, _⟩ => ⟨S38400x24x128, .i32⟩
  | .hbm, ⟨7, _⟩ => ⟨S_, .i32⟩
  | .hbm, ⟨8, _⟩ => ⟨S120, .i32⟩
  | .hbm, ⟨9, _⟩ => ⟨S120, .i32⟩
  | .hbm, ⟨10, _⟩ => ⟨S120, .f32⟩
  | .hbm, ⟨11, _⟩ => ⟨S_, .i32⟩
  | .hbm, ⟨12, _⟩ => ⟨S120x256, .i32⟩
  | .hbm, ⟨13, _⟩ => ⟨S120x256, .i1⟩
  | .hbm, ⟨14, _⟩ => ⟨S_, .i32⟩
  | .hbm, ⟨15, _⟩ => ⟨S120x256, .i32⟩
  | .hbm, ⟨16, _⟩ => ⟨S120x256, .i32⟩
  | .hbm, ⟨17, _⟩ => ⟨S120x256, .i32⟩
  | .hbm, ⟨18, _⟩ => ⟨S120x256x1, .i32⟩
  | .hbm, ⟨19, _⟩ => ⟨S120x256x24x128, .i32⟩
  | .hbm, ⟨20, _⟩ => ⟨S737280x128, .i32⟩
  | .hbm, ⟨21, _⟩ => ⟨S120x1x1, .i32⟩
  | .hbm, ⟨22, _⟩ => ⟨S120x1x1, .f32⟩
  | .hbm, ⟨23, _⟩ => ⟨S120x1x512, .bf16⟩
  | .hbm, ⟨24, _⟩ => ⟨S120x1x64, .bf16⟩
  | .hbm, ⟨25, _⟩ => ⟨S120x32x512, .bf16⟩
  | .hbm, ⟨26, _⟩ => ⟨S120x1x32, .f32⟩
  | .local _ .vmem, ⟨0, _⟩ => ⟨S120x1x1, .i32⟩
  | .local _ .vmem, ⟨1, _⟩ => ⟨S120x1x1, .f32⟩
  | .local _ .vmem, ⟨2, _⟩ => ⟨S120x32x512, .bf16⟩
  | .local _ .vmem, ⟨3, _⟩ => ⟨S120x32x64, .bf16⟩
  | .local _ .vmem, ⟨4, _⟩ => ⟨S120x1x512, .bf16⟩
  | .local _ .vmem, ⟨5, _⟩ => ⟨S120x1x64, .bf16⟩
  | .local _ .vmem, ⟨6, _⟩ => ⟨S737280x128, .i32⟩
  | .local _ .vmem, ⟨7, _⟩ => ⟨S120x32x512, .bf16⟩
  | .local _ .vmem, ⟨8, _⟩ => ⟨S120x1x32, .f32⟩
  | _, _ => ⟨S120x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S120x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x32x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S120x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S120x1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S120x1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S737280x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S120x32x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S120x1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Entry.lean ====
/- The attention call's surroundings: what its windows stage at a grid point, the buffers as the host operations
   leave them, the prefetched tables, and the invariant's parts listed one by one. -/
module

public import proofs.«01_k».proof.Proof.Gen.Kernel.Loops
public import proofs.«01_k».proof.Proof.Gen.Kernel.Launch
public import Idealize.ShloMosaic.Lib.Pipeline.FrameBody
public import Idealize.ShloMosaic.Lib.Pipeline.Frame
public import Idealize.ShloMosaic.Lib.Batch
public import Idealize.ShloMosaic.Lib.Tactic
public import Idealize.ShloMosaic.Lib.Exec
public import Idealize.ShloMosaic.Lib.Claim

@[expose] public section

noncomputable section

namespace Cert.Attend.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run. -/
abbrev MM (F : FTy → Type) : Type := MT nD τ sig Unit (Elt F) ℕ (Pipeline.UD sig nD τ) ℕ

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 3 (%24)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%27)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 5 (%26)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (result 0 (%28#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_5 reads0_4 hreads0_4 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
/-- Window 5 (result 1 (%28#1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_6 reads0_5 hreads0_5 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole main_arg6) (Memref.isWhole_whole _) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) cc0_scratch1

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S120x256 .i32 := Memref.whole main_arg0
abbrev htbM0_0 : tbM0_0.IsWhole := Memref.isWhole_whole _
abbrev tbM0_1 : Memref sig .tc .smem S120 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MM F) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MM F)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 0 rfl).trans ((hA c 0).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x48x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x32x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x32 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2x256x24x128 .i32 := Memref.whole cc0_scratch0
/-- The operands left in HBM that the body copies into scratch itself, whole. -/
abbrev hbM0_0 : Memref sig .tc .hbm S38400x24x128 .i32 := Memref.whole main_arg6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MM F) :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 12, SemLoc.dma 13] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 12) 0 ∗ semVal ((c : Thread nD τ), SemLoc.dma 13) 0) := by
  rw [Pipeline.ownSems0_eq_of_list c osem0 [0, 1] (by decide) (by decide)]; rfl
/-- The HBM operands the body moves, as references: unscoped, no window's array, no table (`Pipeline.restRefsP`). -/
def H0 : Finset (Ref sig .tc) := {main_arg6}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MM F)) = iprop(hbPt0 c hbM0_0 (V m c main_arg6)) := by
  rw [BI.bigSep_eq_bigSepL_of_eq [main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MM F))
      = iprop(iprop((∃ d, owns (c : Thread nD τ) scM0_0 fullShare d)) ∗ (∃ r, prngReg c r) ∗ iprop(semVal ((c : Thread nD τ), SemLoc.dma 12) 0 ∗ semVal ((c : Thread nD τ), SemLoc.dma 13) 0) ∗ iprop(hbPt0 c hbM0_0 (V m c main_arg6))) := by
  rw [Pipeline.ΦD_eq, scopedRest0_eq, ownSems00_eq, hbmPts0_eq]; simp only [scM0_0, owns_whole]; try rfl

end Cert.Attend.Kernel

end
-- ==== Proof.Kernel.Words.lean ====
/- The index arithmetic of the attention call: how many trips each counted loop makes for a sequence length up to
   4096, which slot a grid point uses, and at which offsets each trip loads, copies and waits. -/
module

public import proofs.«01_k».proof.Proof.Kernel.Entry

@[expose] public section

namespace Cert.Attend.Kernel

open Cert.Kernel Cert.Kernel.Gen
open Idealize.ShloMosaic Idealize.ShloMosaic.TcCoe

/-- Pages of sixteen tokens that `n` tokens occupy. -/
def npages (n : ℕ) : ℕ := (n + 15) / 16

/-- Chunks of 256 tokens that `n` tokens occupy. -/
def nchunks (n : ℕ) : ℕ := (n + 255) / 256

theorem npages_le {n : ℕ} (h : n ≤ 4096) : npages n ≤ 256 := by unfold npages; omega
theorem nchunks_le {n : ℕ} (h : n ≤ 4096) : nchunks n ≤ 16 := by unfold nchunks; omega

/-! ## The bounds of the counted loops -/

theorem issue_ub : ∀ n : Fin 4097, (k0_t1_loop (BitVec.ofNat 32 n.val)).ub = BitVec.ofNat 32 ((n.val + 15) / 16) := by
  decide +kernel
theorem chunk_ub : ∀ n : Fin 4097, (k0_t7_loop (BitVec.ofNat 32 n.val)).ub = BitVec.ofNat 32 ((n.val + 255) / 256) := by
  decide +kernel
theorem issue_rest : ∀ n : Fin 4097, (k0_t2_loop (BitVec.ofNat 32 n.val)).lb = BitVec.ofNat 32 ((n.val + 15) / 16)
    ∧ (k0_t2_loop (BitVec.ofNat 32 n.val)).ub = BitVec.ofNat 32 ((n.val + 15) / 16) := by
  decide +kernel
theorem chunk_rest : ∀ n : Fin 4097, (k0_t8_loop (BitVec.ofNat 32 n.val)).lb = BitVec.ofNat 32 ((n.val + 255) / 256)
    ∧ (k0_t8_loop (BitVec.ofNat 32 n.val)).ub = BitVec.ofNat 32 ((n.val + 255) / 256) := by
  decide +kernel

theorem trips_up : ∀ k : Fin 257, Scf.trips 0#32 (BitVec.ofNat 32 k.val) 1#32 = k.val ∧ Scf.OK 0#32 (BitVec.ofNat 32 k.val) 1#32
    ∧ Scf.trips (BitVec.ofNat 32 k.val) (BitVec.ofNat 32 k.val) 1#32 = 0
    ∧ Scf.OK (BitVec.ofNat 32 k.val) (BitVec.ofNat 32 k.val) 1#32 := by
  decide +kernel

section
variable {v : BitVec 32} (h : v.toNat ≤ 4096)
include h

theorem ofNat_self : BitVec.ofNat 32 (⟨v.toNat, by omega⟩ : Fin 4097).val = v := by simp

theorem t1_trips : (k0_t1_loop v).trips = npages v.toNat := by
  have e := issue_ub ⟨v.toNat, by omega⟩
  rw [ofNat_self h] at e
  show Scf.trips 0#32 (k0_t1_loop v).ub 1#32 = _
  rw [e]; exact (trips_up ⟨(v.toNat + 15) / 16, by omega⟩).1
theorem t1_ok : (k0_t1_loop v).OK := by
  have e := issue_ub ⟨v.toNat, by omega⟩
  rw [ofNat_self h] at e
  show Scf.OK 0#32 (k0_t1_loop v).ub 1#32
  rw [e]; exact (trips_up ⟨(v.toNat + 15) / 16, by omega⟩).2.1
theorem t2_trips : (k0_t2_loop v).trips = 0 := by
  have e := issue_rest ⟨v.toNat, by omega⟩
  rw [ofNat_self h] at e
  show Scf.trips (k0_t2_loop v).lb (k0_t2_loop v).ub 1#32 = _
  rw [e.1, e.2]; exact (trips_up ⟨(v.toNat + 15) / 16, by omega⟩).2.2.1
theorem t2_ok : (k0_t2_loop v).OK := by
  have e := issue_rest ⟨v.toNat, by omega⟩
  rw [ofNat_self h] at e
  show Scf.OK (k0_t2_loop v).lb (k0_t2_loop v).ub 1#32
  rw [e.1, e.2]; exact (trips_up ⟨(v.toNat + 15) / 16, by omega⟩).2.2.2
theorem t3_trips : (k0_t3_loop v).trips = npages v.toNat := t1_trips h
theorem t3_ok : (k0_t3_loop v).OK := t1_ok h
theorem t4_trips : (k0_t4_loop v).trips = 0 := t2_trips h
theorem t4_ok : (k0_t4_loop v).OK := t2_ok h
theorem t5_trips : (k0_t5_loop v).trips = npages v.toNat := t1_trips h
theorem t5_ok : (k0_t5_loop v).OK := t1_ok h
theorem t6_trips : (k0_t6_loop v).trips = 0 := t2_trips h
theorem t6_ok : (k0_t6_loop v).OK := t2_ok h
theorem t7_trips : (k0_t7_loop v).trips = nchunks v.toNat := by
  have e := chunk_ub ⟨v.toNat, by omega⟩
  rw [ofNat_self h] at e
  show Scf.trips 0#32 (k0_t7_loop v).ub 1#32 = _
  rw [e]; exact (trips_up ⟨(v.toNat + 255) / 256, by omega⟩).1
theorem t7_ok : (k0_t7_loop v).OK := by
  have e := chunk_ub ⟨v.toNat, by omega⟩
  rw [ofNat_self h] at e
  show Scf.OK 0#32 (k0_t7_loop v).ub 1#32
  rw [e]; exact (trips_up ⟨(v.toNat + 255) / 256, by omega⟩).2.1
theorem t8_trips : (k0_t8_loop v).trips = 0 := by
  have e := chunk_rest ⟨v.toNat, by omega⟩
  rw [ofNat_self h] at e
  show Scf.trips (k0_t8_loop v).lb (k0_t8_loop v).ub 1#32 = _
  rw [e.1, e.2]; exact (trips_up ⟨(v.toNat + 255) / 256, by omega⟩).2.2.1
theorem t8_ok : (k0_t8_loop v).OK := by
  have e := chunk_rest ⟨v.toNat, by omega⟩
  rw [ofNat_self h] at e
  show Scf.OK (k0_t8_loop v).lb (k0_t8_loop v).ub 1#32
  rw [e.1, e.2]; exact (trips_up ⟨(v.toNat + 255) / 256, by omega⟩).2.2.2

theorem t1_lt (k : Fin (k0_t1_loop v).trips) : k.val < npages v.toNat := lt_of_lt_of_eq k.isLt (t1_trips h)
theorem t3_lt (k : Fin (k0_t3_loop v).trips) : k.val < npages v.toNat := lt_of_lt_of_eq k.isLt (t3_trips h)
theorem t5_lt (k : Fin (k0_t5_loop v).trips) : k.val < npages v.toNat := lt_of_lt_of_eq k.isLt (t5_trips h)
theorem t7_lt (k : Fin (k0_t7_loop v).trips) : k.val < nchunks v.toNat := lt_of_lt_of_eq k.isLt (t7_trips h)
theorem t2_empty (k : Fin (k0_t2_loop v).trips) : False := Nat.not_lt_zero k.val (lt_of_lt_of_eq k.isLt (t2_trips h))
theorem t4_empty (k : Fin (k0_t4_loop v).trips) : False := Nat.not_lt_zero k.val (lt_of_lt_of_eq k.isLt (t4_trips h))
theorem t6_empty (k : Fin (k0_t6_loop v).trips) : False := Nat.not_lt_zero k.val (lt_of_lt_of_eq k.isLt (t6_trips h))
theorem t8_empty (k : Fin (k0_t8_loop v).trips) : False := Nat.not_lt_zero k.val (lt_of_lt_of_eq k.isLt (t8_trips h))
end

/-! ## Trip words and slots -/

/-- The loop variable of trip `k`, times one, plus zero. -/
theorem trip_word : ∀ k : Fin 257, (Scalar.addi 0#32 (Scalar.muli (Scf.iv 0#32 1#32 k.val) 1#32)).toNat = k.val := by
  decide +kernel
theorem chunk_word : ∀ k : Fin 17, (Scalar.indexCast (Scalar.muli (Scf.iv 0#32 1#32 k.val) 16#32)).toNat = k.val * 16 := by
  decide +kernel

/-- The slot of grid point `b`, `b mod 2`, as the kernel computes it. -/
def slotW (b : BitVec 32) : BitVec 32 :=
  let w : BitVec 32 := Scalar.select (Scalar.cmpi .eq 2#32 0#32) 1#32 2#32
  let r : BitVec 32 := Scalar.remsi b w
  Scalar.select (Scalar.andi (Scalar.xori (Scalar.cmpi .slt r 0#32) (Scalar.cmpi .slt w 0#32)) (Scalar.cmpi .ne r 0#32))
    (Scalar.addi r w) r

theorem slotW_eq : ∀ b : Fin 120, (slotW (BitVec.ofNat 32 b.val)).toNat = b.val % 2
    ∧ (Scalar.subi 1#32 (slotW (BitVec.ofNat 32 b.val))).toNat = (b.val + 1) % 2
    ∧ (BitVec.ofNat 32 b.val).toNat = b.val
    ∧ (Scalar.addi (BitVec.ofNat 32 b.val) 1#32).toNat = b.val + 1 := by
  decide +kernel

theorem cond1_iff (i : grid0.Coords) : k0_cond1 i = 1#1 ↔ (i 0).val = 0 :=
  (by decide +kernel : ∀ b : Fin 120, Scalar.cmpi .ne (Scalar.extui (Scalar.cmpi .eq (BitVec.ofNat 32 b.val) 0#32) : BitVec 32) 0#32 = 1#1 ↔ b.val = 0) (i 0)
theorem cond2_iff (i : grid0.Coords) : k0_cond2 i = 1#1 ↔ (i 0).val + 1 < 120 :=
  (by decide +kernel : ∀ b : Fin 120, Scalar.cmpi .ne (Scalar.extui (Scalar.cmpi .slt (Scalar.addi (BitVec.ofNat 32 b.val) 1#32) 120#32) : BitVec 32) 0#32 = 1#1 ↔ b.val + 1 < 120) (i 0)

/-! ## Offsets -/

section
variable (i : grid0.Coords)

theorem off7_eq : k0_off7 i = ![(i 0).val + 1] := by
  show ![(Scalar.addi (BitVec.ofNat 32 (i 0).val) 1#32).toNat] = _
  rw [(slotW_eq (i 0)).2.2.2]
theorem off16_eq : k0_off16 i = ![(i 0).val] := by
  show ![(BitVec.ofNat 32 (i 0).val).toNat] = _
  rw [(slotW_eq (i 0)).2.2.1]
theorem off25_eq : k0_off25 i = ![(i 0).val] := off16_eq i
theorem off9_eq : k0_off9 i = ![((i 0).val + 1) % 2] := by
  show ![(Scalar.subi 1#32 (slotW (BitVec.ofNat 32 (i 0).val))).toNat] = _
  rw [(slotW_eq (i 0)).2.1]
theorem off18_eq : k0_off18 i = ![(i 0).val % 2] := by
  show ![(slotW (BitVec.ofNat 32 (i 0).val)).toNat] = _
  rw [(slotW_eq (i 0)).1]

variable {v : BitVec 32} (h : v.toNat ≤ 4096)
include h

theorem off1_eq (k : Fin (k0_t1_loop v).trips) : k0_off1 v k = ![0, k.val] := by
  have hk := t1_lt h k; have := npages_le h
  show ![0, (Scalar.addi 0#32 (Scalar.muli (Scf.iv 0#32 1#32 k.val) 1#32)).toNat] = _
  rw [trip_word ⟨k.val, by omega⟩]
theorem off2_eq (k : Fin (k0_t1_loop v).trips) : k0_off2 v k = ![0, k.val, 0, 0] := by
  have hk := t1_lt h k; have := npages_le h
  show ![0, (Scalar.addi 0#32 (Scalar.muli (Scf.iv 0#32 1#32 k.val) 1#32)).toNat, 0, 0] = _
  rw [trip_word ⟨k.val, by omega⟩]
theorem off8_eq (k : Fin (k0_t3_loop v).trips) : k0_off8 i v k = ![(i 0).val + 1, k.val] := by
  have hk := t3_lt h k; have := npages_le h
  show ![(Scalar.addi (BitVec.ofNat 32 (i 0).val) 1#32).toNat, (Scalar.addi 0#32 (Scalar.muli (Scf.iv 0#32 1#32 k.val) 1#32)).toNat] = _
  rw [trip_word ⟨k.val, by omega⟩, (slotW_eq (i 0)).2.2.2]
theorem off10_eq (k : Fin (k0_t3_loop v).trips) : k0_off10 i v k = ![((i 0).val + 1) % 2, k.val, 0, 0] := by
  have hk := t3_lt h k; have := npages_le h
  show ![(Scalar.subi 1#32 (slotW (BitVec.ofNat 32 (i 0).val))).toNat, (Scalar.addi 0#32 (Scalar.muli (Scf.iv 0#32 1#32 k.val) 1#32)).toNat, 0, 0] = _
  rw [trip_word ⟨k.val, by omega⟩, (slotW_eq (i 0)).2.1]
theorem off17_eq (k : Fin (k0_t5_loop v).trips) : k0_off17 i v k = ![(i 0).val, k.val] := by
  have hk := t5_lt h k; have := npages_le h
  show ![(BitVec.ofNat 32 (i 0).val).toNat, (Scalar.addi 0#32 (Scalar.muli (Scf.iv 0#32 1#32 k.val) 1#32)).toNat] = _
  rw [trip_word ⟨k.val, by omega⟩, (slotW_eq (i 0)).2.2.1]
theorem off19_eq (k : Fin (k0_t5_loop v).trips) : k0_off19 i v k = ![(i 0).val % 2, k.val, 0, 0] := by
  have hk := t5_lt h k; have := npages_le h
  show ![(slotW (BitVec.ofNat 32 (i 0).val)).toNat, (Scalar.addi 0#32 (Scalar.muli (Scf.iv 0#32 1#32 k.val) 1#32)).toNat, 0, 0] = _
  rw [trip_word ⟨k.val, by omega⟩, (slotW_eq (i 0)).1]

theorem offChunk (k : Fin (k0_t7_loop v).trips) (r : ℕ) :
    ![(Scalar.indexCast (slotW (BitVec.ofNat 32 (i 0).val)) : BitVec 32).toNat, (Scalar.indexCast (Scalar.muli (Scf.iv 0#32 1#32 k.val) 16#32)).toNat, r, 0]
      = ![(i 0).val % 2, k.val * 16, r, 0] := by
  have hk := t7_lt h k; have := nchunks_le h
  rw [chunk_word ⟨k.val, by omega⟩]
  show ![(slotW (BitVec.ofNat 32 (i 0).val)).toNat, _, _, _] = _
  rw [(slotW_eq (i 0)).1]
theorem off26_eq (k : Fin (k0_t7_loop v).trips) : k0_off26 i v k = ![(i 0).val % 2, k.val * 16, 16, 0] := offChunk i h k 16
theorem off27_eq (k : Fin (k0_t7_loop v).trips) : k0_off27 i v k = ![(i 0).val % 2, k.val * 16, 0, 0] := offChunk i h k 0
theorem off28_eq (k : Fin (k0_t7_loop v).trips) : k0_off28 i v k = ![(i 0).val % 2, k.val * 16, 4, 0] := offChunk i h k 4
theorem off29_eq (k : Fin (k0_t7_loop v).trips) : k0_off29 i v k = ![(i 0).val % 2, k.val * 16, 8, 0] := offChunk i h k 8
theorem off30_eq (k : Fin (k0_t7_loop v).trips) : k0_off30 i v k = ![(i 0).val % 2, k.val * 16, 12, 0] := offChunk i h k 12

/-! ## The side conditions the program assumes -/

theorem chk1_of : k0_chk1 i v := by
  have := npages_le h
  refine ⟨fun _ => t1_ok h, fun k _ => ?_, fun k _ => ?_, fun _ => t2_ok h, fun k => (t2_empty h k).elim, fun k => (t2_empty h k).elim⟩
  · have := t1_lt h k; rw [off1_eq h]; intro a; fin_cases a <;> simp [S1x1, S120x256] <;> omega
  · have := t1_lt h k; rw [off2_eq h]; intro a; fin_cases a <;> simp [S1x1x24x128, S2x256x24x128] <;> omega
theorem chk4_of : k0_chk4 i v := by
  have := npages_le h
  refine ⟨fun _ => t3_ok h, fun k h2 => ?_, fun k _ => ?_, fun _ => t4_ok h, fun k => (t4_empty h k).elim, fun k => (t4_empty h k).elim⟩
  · have := t3_lt h k; have := (cond2_iff i).mp h2; rw [off8_eq i h]; intro a; fin_cases a <;> simp [S1x1, S120x256] <;> omega
  · have := t3_lt h k; rw [off10_eq i h]; intro a; fin_cases a <;> simp [S1x1x24x128, S2x256x24x128] <;> omega
theorem chk7_of : k0_chk7 i v := by
  have := npages_le h
  have hi : (i 0).val < 120 := (i 0).isLt
  refine ⟨t5_ok h, fun k => ?_, fun k => ?_, t6_ok h, fun k => (t6_empty h k).elim, fun k => (t6_empty h k).elim⟩
  · have := t5_lt h k; rw [off17_eq i h]; intro a; fin_cases a <;> simp [S1x1, S120x256] <;> omega
  · have := t5_lt h k; rw [off19_eq i h]; intro a; fin_cases a <;> simp [S1x1x24x128, S2x256x24x128] <;> omega
theorem chk10_of : k0_chk10 i v := by
  have := nchunks_le h
  refine ⟨t7_ok h, fun k => ?_, fun k => ?_, fun k => ?_, fun k => ?_, fun k => ?_, t8_ok h, fun k => (t8_empty h k).elim,
    fun k => (t8_empty h k).elim, fun k => (t8_empty h k).elim, fun k => (t8_empty h k).elim, fun k => (t8_empty h k).elim⟩
  · have := t7_lt h k; rw [off26_eq i h]; intro a; fin_cases a <;> simp [S1x16x8x128, S2x256x24x128] <;> omega
  · have := t7_lt h k; rw [off27_eq i h]; intro a; fin_cases a <;> simp [S1x16x4x128, S2x256x24x128] <;> omega
  · have := t7_lt h k; rw [off28_eq i h]; intro a; fin_cases a <;> simp [S1x16x4x128, S2x256x24x128] <;> omega
  · have := t7_lt h k; rw [off29_eq i h]; intro a; fin_cases a <;> simp [S1x16x4x128, S2x256x24x128] <;> omega
  · have := t7_lt h k; rw [off30_eq i h]; intro a; fin_cases a <;> simp [S1x16x4x128, S2x256x24x128] <;> omega
end

/-- A page number of the table is a page of the pool. -/
theorem page_inb {w : BitVec 32} (hw : w.toNat < 38400) : ∀ a, k0_off3 w a + S1x24x128.size a ≤ S38400x24x128.size a := by
  show ∀ a, (![w.toNat, 0, 0] : Fin 3 → ℕ) a + S1x24x128.size a ≤ S38400x24x128.size a
  intro a; fin_cases a <;> simp [S1x24x128, S38400x24x128] <;> omega
theorem chk2_of (i : grid0.Coords) {w : BitVec 32} (hw : w.toNat < 38400) : k0_chk2 i w := fun _ => page_inb hw
theorem chk5_of (i : grid0.Coords) {w : BitVec 32} (hw : w.toNat < 38400) : k0_chk5 i w := fun _ => page_inb hw
theorem chk8_of {w : BitVec 32} (hw : w.toNat < 38400) : k0_chk8 w := page_inb hw

end Cert.Attend.Kernel
-- ==== Proof.Kernel.Views.lean ====
/- The kernel's views by coordinates: a page of the scratch, a page of the source array, a word of a table, the
   semaphore of a slot. Each is named at literal offsets; the kernel's own views are these once their offsets are known. -/
module

public import proofs.«01_k».proof.Proof.Kernel.Entry
public import proofs.«01_k».proof.Proof.Kernel.Words
public import Idealize.ShloMosaic.Lib.ValueIdx
public import Idealize.ShloMosaic.Lib.Pipeline.ValueKit.Geometry

@[expose] public section

noncomputable section

namespace Cert.Attend.Kernel

open Cert.Kernel Cert.Kernel.Gen
open Idealize.ShloMosaic Idealize.ShloMosaic.TcCoe Idealize.ShloMosaic.Tactic Idealize.ShloMosaic.ValueIdx

variable {F : FTy → Type} [FloatOps F]

/-! ## A page of the scratch -/

/-- A page of the scratch, at offsets `off`. -/
abbrev pageM (off : Fin 4 → ℕ) (h : ∀ a, off a + S1x1x24x128.size a ≤ S2x256x24x128.size a) : Memref sig .tc .vmem S24x128 .i32 :=
  (scM0_0.slice (Rect.unit (s := S2x256x24x128) off S1x1x24x128.size h) (fun _ => rfl)).squeeze S24x128 squeezes_S1x1x24x128_S24x128

/-- A page of the source array, at offsets `off`. -/
abbrev srcM (off : Fin 3 → ℕ) (h : ∀ a, off a + S1x24x128.size a ≤ S38400x24x128.size a) : Memref sig .tc .hbm S24x128 .i32 :=
  (hbM0_0.slice (Rect.unit (s := S38400x24x128) off S1x24x128.size h) (fun _ => rfl)).squeeze S24x128 squeezes_S1x24x128_S24x128

theorem squeeze_two (h : S24x128.numel = S1x1x24x128.numel) (x : S24x128.Idx) :
    Shape.reshapeEquiv h x = (ix4 0 0 (x 0) (x 1) : S1x1x24x128.Idx) := by
  have h1 : S24x128.numel = S1x24x128.numel := by decide
  have h2 : S1x24x128.numel = S1x1x24x128.numel := by decide
  have e1 : Shape.reshapeEquiv h1 x = (Fin.cons ⟨0, Nat.one_pos⟩ x : S1x24x128.Idx) := Shape.reshapeEquiv_cons_one h1 x
  have e2 := Shape.reshapeEquiv_cons_one h2 (Shape.reshapeEquiv h1 x)
  have e3 := Shape.reshapeEquiv_reshapeEquiv h2 h1 x
  rw [e1] at e2 e3
  refine (e3.symm.trans e2).trans ?_
  funext a; fin_cases a <;> rfl

theorem squeeze_one (h : S24x128.numel = S1x24x128.numel) (x : S24x128.Idx) :
    Shape.reshapeEquiv h x = (ix3 0 (x 0) (x 1) : S1x24x128.Idx) := by
  refine (Shape.reshapeEquiv_cons_one h x).trans ?_
  funext a; fin_cases a <;> rfl

theorem pageM_emb_val {off : Fin 4 → ℕ} (h) (x : S24x128.Idx) (a : Fin 4) :
    (((pageM off h).view.emb x : S2x256x24x128.Idx) a : ℕ) = off a + ((ix4 0 0 (x 0) (x 1) : S1x1x24x128.Idx) a : ℕ) := by
  rw [← squeeze_two (by decide) x]
  exact ValueKit.rect_emb_unit_val (s := S2x256x24x128) off S1x1x24x128.size h _ a

theorem srcM_emb_val {off : Fin 3 → ℕ} (h) (x : S24x128.Idx) (a : Fin 3) :
    (((srcM off h).view.emb x : S38400x24x128.Idx) a : ℕ) = off a + ((ix3 0 (x 0) (x 1) : S1x24x128.Idx) a : ℕ) := by
  rw [← squeeze_one (by decide) x]
  exact ValueKit.rect_emb_unit_val (s := S38400x24x128) off S1x24x128.size h _ a

/-- The elements of page `j` of slot `s`. -/
def pg (s j : ℕ) : Finset S2x256x24x128.Idx := Finset.univ.filter fun y => (y 0).val = s ∧ (y 1).val = j
/-- The elements of slot `s`. -/
def sl (s : ℕ) : Finset S2x256x24x128.Idx := Finset.univ.filter fun y => (y 0).val = s
/-- The elements of slot `s` from page `n` on. -/
def rs (s n : ℕ) : Finset S2x256x24x128.Idx := Finset.univ.filter fun y => (y 0).val = s ∧ n ≤ (y 1).val

theorem mem_pg {s j : ℕ} {y : S2x256x24x128.Idx} : y ∈ pg s j ↔ (y 0).val = s ∧ (y 1).val = j := by simp [pg]
theorem mem_sl {s : ℕ} {y : S2x256x24x128.Idx} : y ∈ sl s ↔ (y 0).val = s := by simp [sl]
theorem mem_rs {s n : ℕ} {y : S2x256x24x128.Idx} : y ∈ rs s n ↔ (y 0).val = s ∧ n ≤ (y 1).val := by simp [rs]

/-- The elements of page `w` of the source array. -/
def srcSet (w : ℕ) : Finset S38400x24x128.Idx := Finset.univ.filter fun y => (y 0).val = w

/-- The page's view covers its elements. -/
theorem pageM_set {off : Fin 4 → ℕ} (h) {s j : ℕ} (e : off = ![s, j, 0, 0]) : ((pageM off h).view.set : Finset S2x256x24x128.Idx) = pg s j := by
  subst e
  ext y
  refine (Iff.of_eq (congrArg (y ∈ ·) ((View.set_reshape _ _).trans (View.set_slice_whole cc0_scratch0 _)))).trans ?_
  rw [mem_pg, Rect.mem_set_unit]
  have h2 : (y 2).val < 24 := (y 2).isLt
  have h3 : (y 3).val < 128 := (y 3).isLt
  constructor
  · intro H
    have a0 : s ≤ (y 0).val ∧ (y 0).val < s + 1 := H 0
    have a1 : j ≤ (y 1).val ∧ (y 1).val < j + 1 := H 1
    omega
  · rintro ⟨e0, e1⟩ a
    fin_cases a
    · show s ≤ (y 0).val ∧ (y 0).val < s + 1; omega
    · show j ≤ (y 1).val ∧ (y 1).val < j + 1; omega
    · show 0 ≤ (y 2).val ∧ (y 2).val < 0 + 24; omega
    · show 0 ≤ (y 3).val ∧ (y 3).val < 0 + 128; omega

theorem srcM_set {off : Fin 3 → ℕ} (h) {w : ℕ} (e : off = ![w, 0, 0]) : ((srcM off h).view.set : Finset S38400x24x128.Idx) = srcSet w := by
  subst e
  ext y
  refine (Iff.of_eq (congrArg (y ∈ ·) ((View.set_reshape _ _).trans (View.set_slice_whole main_arg6 _)))).trans ?_
  rw [show y ∈ srcSet w ↔ (y 0).val = w by simp [srcSet], Rect.mem_set_unit]
  have h2 : (y 1).val < 24 := (y 1).isLt
  have h3 : (y 2).val < 128 := (y 2).isLt
  constructor
  · intro H
    have a0 : w ≤ (y 0).val ∧ (y 0).val < w + 1 := H 0
    omega
  · intro e0 a
    fin_cases a
    · show w ≤ (y 0).val ∧ (y 0).val < w + 1; omega
    · show 0 ≤ (y 1).val ∧ (y 1).val < 0 + 24; omega
    · show 0 ≤ (y 2).val ∧ (y 2).val < 0 + 128; omega

/-- What a page's transfer leaves on the page: the source page, place by place. -/
theorem page_write {off : Fin 4 → ℕ} (h) {off' : Fin 3 → ℕ} (h') {s j : ℕ} {w : Fin 38400} (e : off = ![s, j, 0, 0]) (e' : off' = ![w.val, 0, 0])
    (f : S2x256x24x128.Idx → Elt F .i32) (kv : S38400x24x128.Idx → Elt F .i32) {y : S2x256x24x128.Idx} (hy : y ∈ pg s j) :
    ((pageM off h).view.write (Elt F) f ((srcM off' h').view.read (Elt F) kv) Finset.univ : S2x256x24x128.Idx → Elt F .i32) y
      = kv (ix3 w (y 2) (y 3)) := by
  rw [← pageM_set h e] at hy
  obtain ⟨x, -, hx⟩ := Finset.mem_map.mp hy
  have hv : ∀ a : Fin 4, (y a : ℕ) = off a + ((ix4 0 0 (x 0) (x 1) : S1x1x24x128.Idx) a : ℕ) := fun a => by
    rw [← pageM_emb_val h x a]; exact congrArg (fun z : S2x256x24x128.Idx => (z a : ℕ)) hx.symm
  have hw := View.write_emb_of_mem (v := (pageM off h).view) (Val := Elt F) f ((srcM off' h').view.read (Elt F) kv) (Finset.mem_univ x)
  refine ((congrArg _ hx.symm).trans hw).trans ?_
  show kv ((srcM off' h').view.emb x) = _
  subst e; subst e'
  have h2 := hv 2
  have h3 := hv 3
  refine congrArg kv (funext fun a => Fin.ext ?_)
  refine (srcM_emb_val h' x a).trans ?_
  fin_cases a
  · rfl
  · show 0 + (x 0 : ℕ) = (y 2 : ℕ)
    rw [h2]; rfl
  · show 0 + (x 1 : ℕ) = (y 3 : ℕ)
    rw [h3]; rfl

/-! ## The words a transfer credits -/

/-- What one page's transfer adds to its semaphore. -/
def NB : ℕ := (pageM ![0, 0, 0, 0] (by decide)).view.dmaCredit

theorem NB_pos : 0 < NB := View.dmaCredit_pos _ (by decide)
theorem NB_eq {off : Fin 4 → ℕ} (h) : (pageM off h).view.dmaCredit = NB := rfl
theorem NB_amount {off : Fin 4 → ℕ} (h) (d : DmaSem sig) : (pageM off h).view.amount (.dma d) = NB := rfl

/-! ## The slots' semaphores -/

/-- Slot `s`'s semaphore. -/
def dsem (s : ℕ) : DmaSem sig := if s = 0 then 12 else 13

theorem sem_eq {off : Fin 1 → ℕ} (h : ∀ a, off a + S1.size a ≤ S2.size a) {s : ℕ} (hs : s < 2) (e : off = ![s]) :
    ((cc0_scratch1.slice (Rect.unit (s := S2) off S1.size h)).squeeze S_ squeezes_S1_S_).sem = dsem s := by
  subst e
  have key : ∀ j : S1.Idx, (Rect.unit (s := S2) ![s] S1.size h).emb j = (ix1 ⟨s, hs⟩ : S2.Idx) := fun j => by
    have hj : (j 0 : ℕ) < 1 := (j 0).isLt
    funext a; refine Fin.ext ((ValueKit.rect_emb_unit_val _ _ _ j a).trans ?_)
    fin_cases a
    show s + (j 0 : ℕ) = s; omega
  have cell : ∀ y : Fin 2, cc0_scratch1.ix (ix1 y : S2.Idx) = dsem y.val := by decide
  show cc0_scratch1.ix ((Rect.unit (s := S2) ![s] S1.size h).emb _) = dsem s
  rw [key]; exact cell ⟨s, hs⟩

/-! ## A table's words -/

theorem table_read {off : Fin 2 → ℕ} (h) {b : Fin 120} {j : Fin 256} (e : off = ![b.val, j.val]) (tb : S120x256.Idx → Elt F .i32) (x) :
    tbM0_0.view.readAt (Elt F) (Rect.unit (s := S120x256) off S1x1.size h).toLoadRect tb x = tb (ix2 b j) := by
  subst e
  rw [View.readAt_rect]
  refine congrArg tb (funext fun a => Fin.ext ?_)
  refine (ValueKit.rect_emb_unit_val _ _ _ x a).trans ?_
  have h0 : (x 0 : ℕ) < 1 := (x 0).isLt
  have h1 : (x 1 : ℕ) < 1 := (x 1).isLt
  fin_cases a
  · show b.val + (x 0 : ℕ) = b.val; omega
  · show j.val + (x 1 : ℕ) = j.val; omega

theorem lens_read {off : Fin 1 → ℕ} (h) {b : Fin 120} (e : off = ![b.val]) (ln : S120.Idx → Elt F .i32) (x) :
    tbM0_1.view.readAt (Elt F) (Rect.unit (s := S120) off S1.size h).toLoadRect ln x = ln (ix1 b) := by
  subst e
  rw [View.readAt_rect]
  refine congrArg ln (funext fun a => Fin.ext ?_)
  refine (ValueKit.rect_emb_unit_val _ _ _ x a).trans ?_
  have h0 : (x 0 : ℕ) < 1 := (x 0).isLt
  fin_cases a
  show b.val + (x 0 : ℕ) = b.val; omega

end Cert.Attend.Kernel

end
-- ==== Proof.Kernel.Slots.lean ====
/- The two slots of the scratch across the grid. What a slot holds before each point, a slot owned by the core, a slot
   whose pages are on their way, and the steps between the two: the issue of a slot's transfers and their collection. -/
module

public import proofs.«01_k».proof.Proof.Kernel.Views

@[expose] public section

noncomputable section

namespace Cert.Attend.Kernel

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the scratch, of the source array, of the page table and of the lengths. -/
abbrev Scr (F : FTy → Type) : Type := S2x256x24x128.Idx → Elt F .i32
abbrev Kvs (F : FTy → Type) : Type := S38400x24x128.Idx → Elt F .i32
abbrev Tab (F : FTy → Type) : Type := S120x256.Idx → Elt F .i32
abbrev Len (F : FTy → Type) : Type := S120.Idx → Elt F .i32

/-- The word of the table for sequence `b`, page `j`. -/
def pageWord (tb : Tab F) (b j : ℕ) : BitVec 32 := tb (ix2 ⟨b % 120, Nat.mod_lt _ (by decide)⟩ ⟨j % 256, Nat.mod_lt _ (by decide)⟩)
/-- The page of the source array it names. -/
def pageW (tb : Tab F) (b j : ℕ) : Fin 38400 := ⟨(pageWord tb b j).toNat % 38400, Nat.mod_lt _ (by decide)⟩
/-- The length of sequence `b`. -/
def lenW (ln : Len F) (b : ℕ) : BitVec 32 := ln (ix1 ⟨b % 120, Nat.mod_lt _ (by decide)⟩)
/-- The number of its pages. -/
def npg (ln : Len F) (b : ℕ) : ℕ := npages (lenW ln b).toNat

/-- What the scratch holds once the transfers of the points before `t` have landed: zeros at first, then each point's
    pages over what its slot held. -/
def G (tb : Tab F) (ln : Len F) (kv : Kvs F) : ℕ → Scr F
  | 0 => fun _ => (0#32 : BitVec 32)
  | t + 1 => fun y => if (y 0).val = t % 2 ∧ (y 1).val < npg ln t then kv (ix3 (pageW tb t (y 1).val) (y 2) (y 3)) else G tb ln kv t y

section
variable (c : Dev nD)

/-- Elements of the scratch, owned. -/
abbrev scPt (S : Finset S2x256x24x128.Idx) (f : Scr F) : sProp (MM F) := scM0_0.view.loc (c : Thread nD τ) ↦[S]{fullShare} f
/-- Elements of the source array, held at a share. -/
abbrev kvPt (kv : Kvs F) (q : PosShare TreeShare) (S : Finset S38400x24x128.Idx) : sProp (MM F) := hbM0_0.view.loc (c : Thread nD τ) ↦[S]{q} kv
/-- Slot `s`, owned. -/
abbrev Own (s : ℕ) (f : Scr F) : sProp (MM F) := scPt c (sl s) f
/-- Slot `s`'s half of the source array. -/
def hq (s : ℕ) : PosShare TreeShare := if s = 0 then fullShare.left else fullShare.right
abbrev kvHalf (kv : Kvs F) (s : ℕ) : sProp (MM F) := kvPt c kv (hq s) Finset.univ
/-- Slot `s`'s semaphore at zero. -/
abbrev sem0 (s : ℕ) : sProp (MM F) := semVal ((c : Thread nD τ), SemLoc.dma (dsem s)) 0

/-! ## A slot as its pages -/

theorem sl_pages (s n : ℕ) : sl s = (Finset.univ : Finset (Fin n)).biUnion (fun j => pg s j.val) ∪ rs s n := by
  ext y
  simp only [Finset.mem_union, Finset.mem_biUnion, Finset.mem_univ, true_and, mem_sl, mem_pg, mem_rs]
  constructor
  · intro h
    by_cases hn : (y 1).val < n
    · exact Or.inl ⟨⟨(y 1).val, hn⟩, h, rfl⟩
    · exact Or.inr ⟨h, by omega⟩
  · rintro (⟨j, h, -⟩ | ⟨h, -⟩) <;> exact h

theorem pages_disjoint (s n : ℕ) : Disjoint ((Finset.univ : Finset (Fin n)).biUnion (fun j => pg s j.val)) (rs s n) := by
  rw [Finset.disjoint_left]
  intro y hy hy'
  obtain ⟨j, -, hj⟩ := Finset.mem_biUnion.mp hy
  have h1 := (mem_pg.mp hj).2
  have h2 := (mem_rs.mp hy').2
  have := j.isLt
  omega

/-- A slot is its first `n` pages and the rest. -/
theorem own_pages (s n : ℕ) (f : Scr F) :
    Own c s f ⊣⊢ iprop((bigSep Finset.univ fun j : Fin n => scPt c (pg s j.val) f) ∗ scPt c (rs s n) f) := by
  have e := pointsTo_biUnion (ℓ := scM0_0.view.loc (c : Thread nD τ)) (q := fullShare) (f := f) (Ix := Unit) (Name := ℕ) (U := Pipeline.UD sig nD τ) (Lvl := ℕ)
    (Finset.univ : Finset (Fin n)) (fun j => pg s j.val) (fun j _ j' _ hne => by
      rw [Finset.disjoint_left]; intro y hy hy'
      exact hne (Fin.ext ((mem_pg.mp hy).2.symm.trans (mem_pg.mp hy').2)))
  have u := pointsTo_union (ℓ := scM0_0.view.loc (c : Thread nD τ)) (q := fullShare) (f := f) (Ix := Unit) (Name := ℕ) (U := Pipeline.UD sig nD τ) (Lvl := ℕ) (pages_disjoint s n)
  rw [e, ← sl_pages s n] at u
  exact u

theorem sl_union : sl 0 ∪ sl 1 = Finset.univ := by
  ext y
  have h : (y 0).val < 2 := (y 0).isLt
  simp only [Finset.mem_union, mem_sl, Finset.mem_univ, iff_true]; omega

theorem sl_disjoint : Disjoint (sl 0) (sl 1) := by
  rw [Finset.disjoint_left]; intro y hy hy'
  have h1 := mem_sl.mp hy
  have h2 := mem_sl.mp hy'
  omega

/-- The scratch is its two slots. -/
theorem own_both (f : Scr F) : scPt c Finset.univ f ⊣⊢ iprop(Own c 0 f ∗ Own c 1 f) := by
  have u := pointsTo_union (ℓ := scM0_0.view.loc (c : Thread nD τ)) (q := fullShare) (f := f) (Ix := Unit) (Name := ℕ) (U := Pipeline.UD sig nD τ) (Lvl := ℕ) sl_disjoint
  rw [sl_union] at u
  exact u

/-- The source array is the two slots' halves. -/
theorem kv_both (kv : Kvs F) : kvPt c kv fullShare Finset.univ ⊣⊢ iprop(kvHalf c kv 0 ∗ kvHalf c kv 1) :=
  pointsTo_share (PosShare.mem_left_op_right _)

variable (tb : Tab F) (ln : Len F) (kv : Kvs F)

theorem G_on {t : ℕ} {y : S2x256x24x128.Idx} (h : (y 0).val = t % 2 ∧ (y 1).val < npg ln t) :
    G tb ln kv (t + 1) y = kv (ix3 (pageW tb t (y 1).val) (y 2) (y 3)) := if_pos h
theorem G_off {t : ℕ} {y : S2x256x24x128.Idx} (h : ¬((y 0).val = t % 2 ∧ (y 1).val < npg ln t)) :
    G tb ln kv (t + 1) y = G tb ln kv t y := if_neg h

/-- A point changes its own slot only; -/
theorem own_next {s t : ℕ} (h : s ≠ t % 2) : Own c s (G tb ln kv t) = Own c s (G tb ln kv (t + 1)) :=
  pointsTo_congr fun y hy => by
    have hs := mem_sl.mp hy
    exact (G_off tb ln kv fun h1 => h (hs.symm.trans h1.1)).symm

/-- and there only the pages of its sequence. -/
theorem rest_next (t : ℕ) : scPt c (rs (t % 2) (npg ln t)) (G tb ln kv t) = scPt c (rs (t % 2) (npg ln t)) (G tb ln kv (t + 1)) :=
  pointsTo_congr fun y hy => by
    have hs := mem_rs.mp hy
    exact (G_off tb ln kv fun h2 => by omega).symm

/-! ## The transfers of one point -/

/-- What the transfer of page `j` gives back: the page with its contents, and the source page it read. -/
abbrev Del (t : ℕ) (j : Fin (npg ln t)) : sProp (MM F) :=
  iprop(scPt c (pg (t % 2) j.val) (G tb ln kv (t + 1)) ∗ kvPt c kv (Transfers.shareTok (hq (t % 2)) (npg ln t) j) (srcSet (pageW tb t j.val).val))
/-- What its issue leaves in hand: the rest of its share of the source array. -/
abbrev Left (t : ℕ) (j : Fin (npg ln t)) : sProp (MM F) :=
  kvPt c kv (Transfers.shareTok (hq (t % 2)) (npg ln t) j) (Finset.univ \ srcSet (pageW tb t j.val).val)
/-- What it takes: the page, and a share of the source array. -/
abbrev Need (t : ℕ) (j : Fin (npg ln t)) : sProp (MM F) :=
  iprop(scPt c (pg (t % 2) j.val) (G tb ln kv t) ∗ kvPt c kv (Transfers.shareTok (hq (t % 2)) (npg ln t) j) Finset.univ)

/-- The point's transfers, `k` issued and `u` units consumed. -/
abbrev Bat (t k u : ℕ) : sProp (MM F) :=
  Transfers.Batch (countersEmb (U := Pipeline.UD sig nD τ)) (c : Thread nD τ) (.dma (dsem (t % 2))) () NB (Del c tb ln kv t) k u

/-- The pages' shares with `k` transfers issued. -/
abbrev Pages (t k : ℕ) : sProp (MM F) :=
  bigSep Finset.univ fun j : Fin (npg ln t) => if j.val < k then Left c tb ln kv t j else Need c tb ln kv t j

/-- What stays aside while the transfers run. -/
abbrev Aside (t : ℕ) : sProp (MM F) :=
  iprop(scPt c (rs (t % 2) (npg ln t)) (G tb ln kv (t + 1)) ∗ kvPt c kv (Transfers.shareDrop (hq (t % 2)) (npg ln t)) Finset.univ)

/-- A point's pages on their way, with `u` units consumed. -/
abbrev Flying (t u : ℕ) : sProp (MM F) := iprop(Bat c tb ln kv t (npg ln t) u ∗ Pages c tb ln kv t (npg ln t) ∗ Aside c tb ln kv t)

/-- Before the first issue. -/
theorem issue_start (t : ℕ) {E : Set ℕ} :
    iprop(Own c (t % 2) (G tb ln kv t) ∗ kvHalf c kv (t % 2) ∗ sem0 (F := F) c (t % 2))
      ⊢ |={E}=> iprop(Bat c tb ln kv t 0 0 ∗ Pages c tb ln kv t 0 ∗ Aside c tb ln kv t) := by
  iintro ⟨HO, HK, HS⟩
  imod (Transfers.batch_alloc' (countersEmb (U := Pipeline.UD sig nD τ)) (c : Thread nD τ) () NB (Del c tb ln kv t) (sm := .dma (dsem (t % 2))) (E := E)) $$ HS with HB
  imodintro
  isplitl [HB]; · iexact HB
  ihave HO' := (own_pages c (t % 2) (npg ln t) (G tb ln kv t)).1 $$ HO
  icases HO' with ⟨HP, HR⟩
  ihave HK' := (Transfers.pointsTo_toks_split (hq (t % 2)) (npg ln t)) $$ HK
  icases HK' with ⟨HD, HT⟩
  isplitl [HP HT]
  · iapply (Entails.of_eq (show iprop((bigSep Finset.univ fun j : Fin (npg ln t) => scPt c (pg (t % 2) j.val) (G tb ln kv t))
        ∗ (bigSep Finset.univ fun j : Fin (npg ln t) => kvPt c kv (Transfers.shareTok (hq (t % 2)) (npg ln t) j) Finset.univ)) = Pages c tb ln kv t 0 from
      (bigSep_sep _ _ _).symm.trans (bigSep_congr fun j _ => (if_neg (Nat.not_lt_zero _)).symm)))
    isplitl [HP] <;> iassumption
  · isplitl [HR]
    · iapply (Entails.of_eq (rest_next c tb ln kv t)); iexact HR
    · iexact HD

/-- Page `k`'s turn: its page and share come out, and what its issue leaves goes in. -/
theorem pages_take (t : ℕ) (k : Fin (npg ln t)) :
    Pages c tb ln kv t k.val ⊢ iprop(Need c tb ln kv t k ∗ (Left c tb ln kv t k -∗ Pages c tb ln kv t (k.val + 1))) := by
  have e1 : Pages c tb ln kv t k.val = iprop(Need c tb ln kv t k ∗ bigSep (Finset.univ.erase k) fun j : Fin (npg ln t) => if j.val < k.val then Left c tb ln kv t j else Need c tb ln kv t j) := by
    rw [Pages, bigSep_univ_split k, if_neg (Nat.lt_irrefl _)]; rfl
  have e2 : Pages c tb ln kv t (k.val + 1) = iprop(Left c tb ln kv t k ∗ bigSep (Finset.univ.erase k) fun j : Fin (npg ln t) => if j.val < k.val then Left c tb ln kv t j else Need c tb ln kv t j) := by
    rw [Pages, bigSep_univ_split k, if_pos (Nat.lt_succ_self _)]
    refine congrArg _ (bigSep_congr fun j hj => ?_)
    have hne : j.val ≠ k.val := fun h => (Finset.mem_erase.mp hj).1 (Fin.ext h)
    by_cases h : j.val < k.val
    · rw [if_pos h, if_pos (by omega)]
    · rw [if_neg h, if_neg (by omega)]
  rw [e1, e2]
  iintro ⟨HN, HE⟩
  isplitl [HN]; · iexact HN
  iintro HL
  isplitl [HL] <;> iassumption

/-- After the last wait. -/
theorem collect (t : ℕ) :
    Flying c tb ln kv t (NB * npg ln t)
      ⊢ |={Set.univ}=> iprop(Own c (t % 2) (G tb ln kv (t + 1)) ∗ kvHalf c kv (t % 2) ∗ sem0 (F := F) c (t % 2)) := by
  iintro ⟨HB, HL, HR, HD⟩
  imod (Transfers.batch_collect' (countersEmb (U := Pipeline.UD sig nD τ)) (c : Thread nD τ) NB_pos) $$ HB with ⟨HDel, HS⟩
  imodintro
  ihave HDel' := (Entails.of_eq (show bigSep Finset.univ (Del c tb ln kv t) = iprop((bigSep Finset.univ fun j : Fin (npg ln t) => scPt c (pg (t % 2) j.val) (G tb ln kv (t + 1)))
      ∗ bigSep Finset.univ fun j : Fin (npg ln t) => kvPt c kv (Transfers.shareTok (hq (t % 2)) (npg ln t) j) (srcSet (pageW tb t j.val).val)) from
    bigSep_sep (Finset.univ : Finset (Fin (npg ln t))) (fun j => scPt c (pg (t % 2) j.val) (G tb ln kv (t + 1)))
      (fun j => kvPt c kv (Transfers.shareTok (hq (t % 2)) (npg ln t) j) (srcSet (pageW tb t j.val).val)))) $$ HDel
  icases HDel' with ⟨HP, HT⟩
  isplitl [HP HR]
  · iapply (own_pages c (t % 2) (npg ln t) (G tb ln kv (t + 1))).2
    isplitl [HP] <;> iassumption
  isplitr [HS]
  · iapply (Transfers.pointsTo_toks_join (hq (t % 2)) (npg ln t))
    isplitl [HD]; · iexact HD
    ihave HL' := (Entails.of_eq (show Pages c tb ln kv t (npg ln t) = bigSep Finset.univ (fun j : Fin (npg ln t) => Left c tb ln kv t j) from
      bigSep_congr fun j _ => if_pos j.isLt)) $$ HL
    iapply (show iprop((bigSep Finset.univ fun j : Fin (npg ln t) => kvPt c kv (Transfers.shareTok (hq (t % 2)) (npg ln t) j) (srcSet (pageW tb t j.val).val))
        ∗ bigSep Finset.univ fun j : Fin (npg ln t) => Left c tb ln kv t j)
        ⊢ bigSep Finset.univ fun j : Fin (npg ln t) => kvPt c kv (Transfers.shareTok (hq (t % 2)) (npg ln t) j) Finset.univ from
      (Entails.of_eq (bigSep_sep _ _ _).symm).trans (bigSep_mono fun j _ => (pointsTo_split_subset (Finset.subset_univ _)).2))
    isplitl [HT] <;> iassumption
  · iexact HS

end

end Cert.Attend.Kernel

end
-- ==== Proof.Kernel.Issue.lean ====
/- The issue of one point's transfers: each trip of an issue loop reads a page's number off the table and starts its
   transfer into the slot. -/
module

public import proofs.«01_k».proof.Proof.Kernel.Slots

@[expose] public section

noncomputable section

namespace Cert.Attend.Kernel

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (tb : Tab F) (ln : Len F) (kv : Kvs F)

/-- The table's word at a trip's offsets, when it is in range, is the page's number. -/
theorem pageWord_val {b j : ℕ} (hw : ∀ x, ((tb x : BitVec 32)).toNat < 38400) : (pageW tb b j).val = (pageWord tb b j).toNat :=
  Nat.mod_eq_of_lt (hw _)

theorem npg_le (hl : ∀ x, ((ln x : BitVec 32)).toNat ≤ 4096) (t : ℕ) : npg ln t ≤ 256 := npages_le (hl _)

variable (𝒱 : Variants) (bd : Option 𝒱.V)

/-- One transfer's issue. -/
theorem issue_one {off : Fin 4 → ℕ} (h) {off' : Fin 3 → ℕ} (h') {t : ℕ} (k : Fin (npg ln t)) {d : DmaSem sig}
    (e : off = ![t % 2, k.val, 0, 0]) (e' : off' = ![(pageW tb t k.val).val, 0, 0]) (ed : d = dsem (t % 2))
    {hsrc hdst hsem} {K : PUnit → Prog (TpuEff nD τ sig (Elt F) Λ₀ .tc) PUnit} {Q : PUnit → sProp (MM F)} :
    iprop(Bat c tb ln kv t k.val 0 ∗ Pages c tb ln kv t k.val)
      ⊢ iprop((iprop(Bat c tb ln kv t (k.val + 1) 0 ∗ Pages c tb ln kv t (k.val + 1)) -∗ wp frame (wpE defs₀ 𝒱 (c : Thread nD τ) bd) Set.univ (K ⟨⟩) Q)
          -∗ wp frame (wpE defs₀ 𝒱 (c : Thread nD τ) bd) Set.univ (.op (.enqueueDma (srcM off' h') (.here (pageM off h)) (.dma d) hsrc hdst hsem) K) Q) := by
  subst ed
  iintro ⟨HB, HP⟩ HK
  ihave HP' := (pages_take c tb ln kv t k) $$ HP
  icases HP' with ⟨⟨Hd, Ht⟩, HW⟩
  ihave Ht' := (pointsTo_split_subset (Finset.subset_univ (srcSet (pageW tb t k.val).val))).1 $$ Ht
  icases Ht' with ⟨Hs, HL⟩
  iapply (Transfers.wp_dmaBatch (countersEmb (U := Pipeline.UD sig nD τ)) 𝒱 (c : Thread nD τ) bd (src := srcM off' h') (dst := pageM off h) (sm := .dma (dsem (t % 2)))
    (q := Transfers.shareTok (hq (t % 2)) (npg ln t) k) (fs := kv) (fd := G tb ln kv t) (Sd := pg (t % 2) k.val) (D := Del c tb ln kv t) (j := k.val) (u := 0)
    () NB (NB_amount h _) (le_of_eq (pageM_set h e)) k.isLt (Nat.zero_le _) ?_) $$ [HB Hd Hs]
  · rw [srcM_set h' e']
    refine sep_mono (Entails.of_eq (pointsTo_congr fun y hy => ?_)) .rfl
    have hv := mem_pg.mp hy
    exact (page_write h h' e e' (G tb ln kv t) kv hy).trans
      ((congrArg (fun j => kv (ix3 (pageW tb t j) (y 2) (y 3))) hv.2.symm).trans
        (G_on tb ln kv ⟨hv.1, lt_of_eq_of_lt hv.2 k.isLt⟩).symm)
  · rw [srcM_set h' e']
    isplitl [Hs]; · iexact Hs
    isplitl [Hd]; · iexact Hd
    iexact HB
  · iintro HB
    iapply HK
    isplitl [HB]; · iexact HB
    iapply HW; iexact HL

/-- One wait, for the units of one transfer. -/
theorem wait_one {off : Fin 4 → ℕ} (h) {off' : Fin 3 → ℕ} (h') {t : ℕ} {k : ℕ} (hk : k < npg ln t) {d : DmaSem sig} (ed : d = dsem (t % 2))
    {hsrc hdst} {W : Waits sig Unit} {K : PUnit → Prog (TpuEff nD τ sig (Elt F) Λ₀ .tc) PUnit} {Q : PUnit → sProp (MM F)} :
    iprop(Bat c tb ln kv t (npg ln t) (NB * k) ∗ owes (c : Thread nD τ) 0 W)
      ⊢ iprop((iprop(Bat c tb ln kv t (npg ln t) (NB * (k + 1)) ∗ owes (c : Thread nD τ) 0 (insert (SemLoc.dma d, ()) W)) -∗ wp frame (wpE defs₀ 𝒱 (c : Thread nD τ) bd) Set.univ (K ⟨⟩) Q)
          -∗ wp frame (wpE defs₀ 𝒱 (c : Thread nD τ) bd) Set.univ (.op (.waitDma2 d (srcM off' h') (pageM off h) hsrc hdst) K) Q) := by
  subst ed
  have hu : NB * k + 1 * NB ≤ NB * npg ln t := by
    rw [Nat.one_mul]; exact (Nat.mul_succ NB k).symm ▸ Nat.mul_le_mul_left NB hk
  have e : NB * (k + 1) = NB * k + 1 * NB := by rw [Nat.one_mul]; exact Nat.mul_succ NB k
  rw [e]
  exact Transfers.wp_waitBatchMul (countersEmb (U := Pipeline.UD sig nD τ)) 𝒱 (c : Thread nD τ) bd (sem := dsem (t % 2)) (srcw := srcM off' h') (dstw := pageM off h)
    () 1 ((NB_eq h).trans (Nat.one_mul NB).symm) hu

section
variable (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)
  (hl : ∀ x, ((ln x : BitVec 32)).toNat ≤ 4096) (hw : ∀ x, ((tb x : BitVec 32)).toNat < 38400)

include hl hw

/-- What an issue loop holds before trip `k`. -/
abbrev Issuing (t k : ℕ) : sProp (MM F) := iprop(tbPt0 c tbM0_0 tb ∗ Bat c tb ln kv t k 0 ∗ Pages c tb ln kv t k)

/-- A trip of the first point's issue of its own pages. -/
theorem t1_step (h1 : k0_cond1 i = 1#1) (hc : k0_chk1 i (lenW ln 0)) (k : Fin (k0_t1_loop (lenW ln 0)).trips) (acc : Unit) :
    Issuing c tb ln kv 0 k.val ⊢ wp frame (wpE defs₀ 𝒱 (c : Thread nD τ) bd) Set.univ
      (k0_t1_body (F := F) i tbM0_0 htbM0_0 tbM0_1 htbM0_1 arg3 harg3 arg4 harg4 arg5 harg5 arg6 harg6 hbM0_0 harg7 arg8 harg8 arg9 harg9 scM0_0 harg10 cc0_scratch1 h1 (lenW ln 0) hc k acc)
      (fun _ => Issuing c tb ln kv 0 (k.val + 1)) := by
  have hk : k.val < npg ln 0 := t1_lt (hl _) k
  have hk' : k.val < 256 := lt_of_lt_of_le hk (npg_le ln hl 0)
  iintro ⟨HT, HB, HP⟩
  unfold k0_t1_body
  sl_exec
  have hr : t1_step.sl.r tb ln i h1 hc k = pageWord tb 0 k.val := by
    unfold t1_step.sl.r
    refine (table_read _ (b := ⟨0, by decide⟩) (j := ⟨k.val, hk'⟩) (off1_eq (hl _) k) tb _).trans ?_
    exact congrArg tb (congrArg (ix2 _) (Fin.ext (Nat.mod_eq_of_lt hk').symm))
  rw [wp_assume_of 𝒱 (c : Thread nD τ) bd Set.univ (chk2_of i (by rw [hr]; exact hw _))]
  iapply (issue_one c tb ln kv 𝒱 bd _ _ ⟨k.val, hk⟩ (off2_eq (hl _) k)
    (show k0_off3 _ = _ by rw [hr]; show ![(pageWord tb 0 k.val).toNat, 0, 0] = _; rw [← pageWord_val tb hw]) (sem_eq _ (by decide) rfl)) $$ [HB HP]
  · isplitl [HB] <;> iassumption
  iintro ⟨HB, HP⟩
  rw [show ((Prog.ret PUnit.unit).bind fun _ => Pure.pure PUnit.unit : Prog (TpuEff nD τ sig (Elt F) Λ₀ .tc) PUnit) = .ret ⟨⟩ from rfl]
  sl_step
  isplitl [HT]; · iexact HT
  isplitl [HB] <;> iassumption

/-- A trip of a point's issue of the next point's pages. -/
theorem t3_step (h2 : k0_cond2 i = 1#1) (hc : k0_chk4 i (lenW ln ((i 0).val + 1))) (k : Fin (k0_t3_loop (lenW ln ((i 0).val + 1))).trips) (acc : Unit) :
    Issuing c tb ln kv ((i 0).val + 1) k.val ⊢ wp frame (wpE defs₀ 𝒱 (c : Thread nD τ) bd) Set.univ
      (k0_t3_body (F := F) i tbM0_0 htbM0_0 tbM0_1 htbM0_1 arg3 harg3 arg4 harg4 arg5 harg5 arg6 harg6 hbM0_0 harg7 arg8 harg8 arg9 harg9 scM0_0 harg10 cc0_scratch1 h2 (lenW ln ((i 0).val + 1)) hc k acc)
      (fun _ => Issuing c tb ln kv ((i 0).val + 1) (k.val + 1)) := by
  have hlt : (i 0).val + 1 < 120 := (cond2_iff i).mp h2
  have hk : k.val < npg ln ((i 0).val + 1) := t3_lt (hl _) k
  have hk' : k.val < 256 := lt_of_lt_of_le hk (npg_le ln hl _)
  iintro ⟨HT, HB, HP⟩
  unfold k0_t3_body
  sl_exec
  have hr : t3_step.sl.r tb ln i h2 hc k = pageWord tb ((i 0).val + 1) k.val := by
    unfold t3_step.sl.r
    refine (table_read _ (b := ⟨(i 0).val + 1, hlt⟩) (j := ⟨k.val, hk'⟩) (off8_eq i (hl _) k) tb _).trans ?_
    exact congrArg tb (congrArg₂ ix2 (Fin.ext (Nat.mod_eq_of_lt hlt).symm) (Fin.ext (Nat.mod_eq_of_lt hk').symm))
  rw [wp_assume_of 𝒱 (c : Thread nD τ) bd Set.univ (chk5_of i (by rw [hr]; exact hw _))]
  iapply (issue_one c tb ln kv 𝒱 bd _ _ ⟨k.val, hk⟩ (off10_eq i (hl _) k)
    (show k0_off11 _ = _ by rw [hr]; show ![(pageWord tb ((i 0).val + 1) k.val).toNat, 0, 0] = _; rw [← pageWord_val tb hw]) (sem_eq _ (Nat.mod_lt _ (by decide)) (off9_eq i))) $$ [HB HP]
  · isplitl [HB] <;> iassumption
  iintro ⟨HB, HP⟩
  rw [show ((Prog.ret PUnit.unit).bind fun _ => Pure.pure PUnit.unit : Prog (TpuEff nD τ sig (Elt F) Λ₀ .tc) PUnit) = .ret ⟨⟩ from rfl]
  sl_step
  isplitl [HT]; · iexact HT
  isplitl [HB] <;> iassumption

/-- What the wait loop holds before trip `k`. -/
abbrev Waiting (t k : ℕ) : sProp (MM F) :=
  iprop(tbPt0 c tbM0_0 tb ∗ Bat c tb ln kv t (npg ln t) (NB * k) ∗ ∃ W, owes (c : Thread nD τ) 0 W)

/-- A trip of a point's wait for its pages. -/
theorem t5_step (arg0 v21 : BitVec 32) (v35 : BitVec 1) (one : BitVec 32) (hc : k0_chk7 i (lenW ln (i 0).val)) (k : Fin (k0_t5_loop (lenW ln (i 0).val)).trips) (acc : Unit) :
    Waiting c tb ln kv (i 0).val k.val ⊢ wp frame (wpE defs₀ 𝒱 (c : Thread nD τ) bd) Set.univ
      (k0_t5_body (F := F) i tbM0_0 htbM0_0 tbM0_1 htbM0_1 arg3 harg3 arg4 harg4 arg5 harg5 arg6 harg6 hbM0_0 harg7 arg8 harg8 arg9 harg9 scM0_0 harg10 cc0_scratch1 arg0 (lenW ln (i 0).val) hc v21 v35 one k acc)
      (fun _ => Waiting c tb ln kv (i 0).val (k.val + 1)) := by
  have hlt : (i 0).val < 120 := (i 0).isLt
  have hk : k.val < npg ln (i 0).val := t5_lt (hl _) k
  have hk' : k.val < 256 := lt_of_lt_of_le hk (npg_le ln hl _)
  iintro ⟨HT, HB, %W, HO⟩
  unfold k0_t5_body
  sl_exec
  have hr : t5_step.sl.r tb ln i hc k = pageWord tb (i 0).val k.val := by
    unfold t5_step.sl.r
    refine (table_read _ (b := ⟨(i 0).val, hlt⟩) (j := ⟨k.val, hk'⟩) (off17_eq i (hl _) k) tb _).trans ?_
    exact congrArg tb (congrArg₂ ix2 (Fin.ext (Nat.mod_eq_of_lt hlt).symm) (Fin.ext (Nat.mod_eq_of_lt hk').symm))
  rw [wp_assume_of 𝒱 (c : Thread nD τ) bd Set.univ (chk8_of (by rw [hr]; exact hw _))]
  iapply (wait_one c tb ln kv 𝒱 bd _ _ (k := k.val) hk (sem_eq _ (Nat.mod_lt _ (by decide)) (off18_eq i))) $$ [HB HO]
  · isplitl [HB] <;> iassumption
  iintro ⟨HB, HO⟩
  rw [show ((Prog.ret PUnit.unit).bind fun _ => Pure.pure PUnit.unit : Prog (TpuEff nD τ sig (Elt F) Λ₀ .tc) PUnit) = .ret ⟨⟩ from rfl]
  sl_step
  isplitl [HT]; · iexact HT
  isplitl [HB]; · iexact HB
  iexists _; iexact HO

end

end Cert.Attend.Kernel

end
-- ==== Proof.Kernel.Chunk.lean ====
/- One chunk of 256 tokens: the words a trip of the chunk loop loads from its slot, the carried values it yields, and the
   trip itself. -/
module

public import proofs.«01_k».proof.Proof.Kernel.Issue

@[expose] public section

noncomputable section

namespace Cert.Attend.Kernel

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The words of chunk `k` of slot `s` from row `r` of each page on: the scales' and rotary channels' eight rows, -/
def metaWords (f : Scr F) (s k : ℕ) : Vec F S1x16x8x128 .i32 := fun x =>
  f (ix4 ⟨s % 2, Nat.mod_lt _ (by decide)⟩ ⟨(k * 16 + (x 1).val) % 256, Nat.mod_lt _ (by decide)⟩ ⟨(16 + (x 2).val) % 24, Nat.mod_lt _ (by decide)⟩ (x 3))
/-- and a group's four. -/
def codeWords (f : Scr F) (s k r : ℕ) : Vec F S1x16x4x128 .i32 := fun x =>
  f (ix4 ⟨s % 2, Nat.mod_lt _ (by decide)⟩ ⟨(k * 16 + (x 1).val) % 256, Nat.mod_lt _ (by decide)⟩ ⟨(r + (x 2).val) % 24, Nat.mod_lt _ (by decide)⟩ (x 3))

theorem meta_read {off : Fin 4 → ℕ} (h : ∀ a, off a + S1x16x8x128.size a ≤ S2x256x24x128.size a) {s k : ℕ} (e : off = ![s, k * 16, 16, 0]) (f : Scr F) :
    scM0_0.view.readAt (Elt F) (Rect.unit (s := S2x256x24x128) off S1x16x8x128.size h).toLoadRect f = metaWords f s k := by
  subst e
  rw [View.readAt_rect]
  funext x
  refine congrArg f (funext fun a => Fin.ext ?_)
  refine (ValueKit.rect_emb_unit_val (s := S2x256x24x128) _ S1x16x8x128.size h x a).trans ?_
  have b0 : s + 1 ≤ 2 := h 0
  have b1 : k * 16 + 16 ≤ 256 := h 1
  have h0 : (x 0 : ℕ) < 1 := (x 0).isLt
  have h1 : (x 1 : ℕ) < 16 := (x 1).isLt
  have h2 : (x 2 : ℕ) < 8 := (x 2).isLt
  fin_cases a
  · show s + (x 0 : ℕ) = s % 2; omega
  · show k * 16 + (x 1 : ℕ) = (k * 16 + (x 1 : ℕ)) % 256; omega
  · show 16 + (x 2 : ℕ) = (16 + (x 2 : ℕ)) % 24; omega
  · show 0 + (x 3 : ℕ) = (x 3 : ℕ); omega

theorem code_read {off : Fin 4 → ℕ} (h : ∀ a, off a + S1x16x4x128.size a ≤ S2x256x24x128.size a) {s k r : ℕ} (e : off = ![s, k * 16, r, 0]) (f : Scr F) :
    scM0_0.view.readAt (Elt F) (Rect.unit (s := S2x256x24x128) off S1x16x4x128.size h).toLoadRect f = codeWords f s k r := by
  subst e
  rw [View.readAt_rect]
  funext x
  refine congrArg f (funext fun a => Fin.ext ?_)
  refine (ValueKit.rect_emb_unit_val (s := S2x256x24x128) _ S1x16x4x128.size h x a).trans ?_
  have b0 : s + 1 ≤ 2 := h 0
  have b1 : k * 16 + 16 ≤ 256 := h 1
  have b2 : r + 4 ≤ 24 := h 2
  have h0 : (x 0 : ℕ) < 1 := (x 0).isLt
  have h1 : (x 1 : ℕ) < 16 := (x 1).isLt
  have h2 : (x 2 : ℕ) < 4 := (x 2).isLt
  fin_cases a
  · show s + (x 0 : ℕ) = s % 2; omega
  · show k * 16 + (x 1 : ℕ) = (k * 16 + (x 1 : ℕ)) % 256; omega
  · show r + (x 2 : ℕ) = (r + (x 2 : ℕ)) % 24; omega
  · show 0 + (x 3 : ℕ) = (x 3 : ℕ); omega

/-- A rectangle of one slot lies in the slot. -/
theorem rect_slot {off size : Fin 4 → ℕ} (h : ∀ a, off a + size a ≤ S2x256x24x128.size a) {s : ℕ} (e : off 0 = s) (e1 : size 0 = 1) :
    (scM0_0.view.setOn (Rect.unit (s := S2x256x24x128) off size h).toLoadRect.set : Finset S2x256x24x128.Idx) ⊆ sl s := by
  intro y hy
  have hy' : y ∈ (Rect.unit (s := S2x256x24x128) off size h).set := by
    rw [← View.set_slice_whole cc0_scratch0, View.set_slice]; exact hy
  have := (Rect.mem_set_unit.mp hy') 0
  rw [mem_sl]
  rw [e, e1] at this
  omega

/-- The carried values: the running maximum, the running sum, the running weighted sum. -/
abbrev St (F : FTy → Type) [FloatOps F] : Type := FVec F S32x1 .f32 × FVec F S32x1 .f32 × FVec F S32x512 .f32

/-- What chunk `k` makes of them. -/
def chunkStep (v48 : Elt F .i32) (v50 : FVec F S32x512 .bf16) (v52 : FVec F S48x128 .bf16) (f : Scr F) (s k : ℕ) (st : St F) : St F :=
  let a := Scf.iv 0#32 1#32 k
  let c0 := codeWords f s k 0
  let c1 := codeWords f s k 4
  let c2 := codeWords f s k 8
  let c3 := codeWords f s k 12
  let v129 := k0_pay3 v52 (metaWords f s k)
  let v166 := k0_pay7 v50 v52 (metaWords f s k) c0 c1 c2
  (k0_pay10 v48 v50 st.1 a v129 v166 c3, k0_pay13 v48 v50 st.1 st.2.1 a v129 v166 c3,
    k0_pay41 st.2.2 v129 (k0_pay6 c2) (k0_pay8 c3) (k0_pay11 v48 v50 st.1 a v129 v166 c3) (k0_pay14 v48 v50 st.1 a v129 v166 c3)
      (k0_pay15 v48 v50 st.1 a v129 (k0_pay4 c0) v166 c3) (k0_pay16 v48 v50 st.1 a v129 (k0_pay5 c1) v166 c3) (k0_pay17 v48 v50 st.1 a v129 v166 c3)
      (constant S32x128 .f32 0x00000000#32))

/-- The carried values after `k` chunks. -/
def chunks (v48 : Elt F .i32) (v50 : FVec F S32x512 .bf16) (v52 : FVec F S48x128 .bf16) (f : Scr F) (s : ℕ) (init : St F) : ℕ → St F
  | 0 => init
  | k + 1 => chunkStep v48 v50 v52 f s k (chunks v48 v50 v52 f s init k)

section
variable (c : Dev nD) (𝒱 : Variants) (bd : Option 𝒱.V) (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)

/-- A trip of the chunk loop: the slot is read, the carried values move on. -/
theorem t7_step (v9 : BitVec 32) (v48 : Elt F .i32) (hl : BitVec.toNat v48 ≤ 4096) (hc : k0_chk10 i v48) (v50 : FVec F S32x512 .bf16) (v52 : FVec F S48x128 .bf16)
    (v56 : FVec F S1x512 .f32) (v60 : FVec F S32x1 .f32) (v68 : FVec F S32 .f32) (f : Scr F)
    (k : Fin (k0_t7_loop v48).trips) (acc : St F) (Q : St F → sProp (MM F)) :
    iprop(Own c ((i 0).val % 2) f ∗ (Own c ((i 0).val % 2) f -∗ Q (chunkStep v48 v50 v52 f ((i 0).val % 2) k.val acc))) ⊢ wp frame (wpE defs₀ 𝒱 (c : Thread nD τ) bd) Set.univ
      (k0_t7_body (F := F) i tbM0_0 htbM0_0 tbM0_1 htbM0_1 arg3 harg3 arg4 harg4 arg5 harg5 arg6 harg6 hbM0_0 harg7 arg8 harg8 arg9 harg9 scM0_0 harg10 cc0_scratch1 v9 v48 hc v50 v52 v56 v60 v68 k acc) Q := by
  obtain ⟨a13, a14, a15⟩ := acc
  iintro ⟨HO, HQ⟩
  unfold k0_t7_body
  simp only [k0_part2_eq_skeleton, k0_part3_eq_skeleton]
  unfold k0_part2_skel
  iapply (wp_load 𝒱 (c : Thread nD τ) bd Set.univ (m := scM0_0) (S := sl ((i 0).val % 2)) (f := f) (rect_slot _ (congrFun (off26_eq i hl k) 0) rfl)) $$ HO
  iintro HO
  rw [meta_read _ (off26_eq i hl k)]
  iapply (wp_load 𝒱 (c : Thread nD τ) bd Set.univ (m := scM0_0) (S := sl ((i 0).val % 2)) (f := f) (rect_slot _ (congrFun (off27_eq i hl k) 0) rfl)) $$ HO
  iintro HO
  rw [code_read _ (off27_eq i hl k)]
  iapply (wp_load 𝒱 (c : Thread nD τ) bd Set.univ (m := scM0_0) (S := sl ((i 0).val % 2)) (f := f) (rect_slot _ (congrFun (off28_eq i hl k) 0) rfl)) $$ HO
  iintro HO
  rw [code_read _ (off28_eq i hl k)]
  iapply (wp_load 𝒱 (c : Thread nD τ) bd Set.univ (m := scM0_0) (S := sl ((i 0).val % 2)) (f := f) (rect_slot _ (congrFun (off29_eq i hl k) 0) rfl)) $$ HO
  iintro HO
  rw [code_read _ (off29_eq i hl k)]
  unfold k0_part3_skel
  iapply (wp_load 𝒱 (c : Thread nD τ) bd Set.univ (m := scM0_0) (S := sl ((i 0).val % 2)) (f := f) (rect_slot _ (congrFun (off30_eq i hl k) 0) rfl)) $$ HO
  iintro HO
  rw [code_read _ (off30_eq i hl k)]
  iapply (show Q (chunkStep v48 v50 v52 f ((i 0).val % 2) k.val (a13, a14, a15)) ⊢ wp frame (wpE defs₀ 𝒱 (c : Thread nD τ) bd) Set.univ
      (Prog.ret (chunkStep v48 v50 v52 f ((i 0).val % 2) k.val (a13, a14, a15))) Q from by iintro H; sl_step; iexact H)
  iapply HQ
  iexact HO

end

end Cert.Attend.Kernel

end
-- ==== Proof.Kernel.Phases.lean ====
/- The phases of one point: the issue of transfers (its own pages at the first point, the next point's at every point but
   the last), the wait for its pages, the chunks. -/
module

public import proofs.«01_k».proof.Proof.Kernel.Chunk

@[expose] public section

noncomputable section

namespace Cert.Attend.Kernel

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (tb : Tab F) (ln : Len F) (kv : Kvs F)

/-- The other slot, idle, before point `t` issues the next point's transfers. -/
abbrev Idle (t : ℕ) : sProp (MM F) :=
  iprop(Own c ((t + 1) % 2) (G tb ln kv t) ∗ kvHalf c kv ((t + 1) % 2) ∗ sem0 (F := F) c ((t + 1) % 2))
/-- What the other slot is once point `t` has issued: on its way, or idle after the last point. -/
abbrev Ahead (t : ℕ) : sProp (MM F) :=
  if t + 1 < 120 then Flying c tb ln kv (t + 1) 0 else Idle c tb ln kv t
/-- Point `t`'s slot, collected. -/
abbrev Collected (t : ℕ) : sProp (MM F) :=
  iprop(Own c (t % 2) (G tb ln kv (t + 1)) ∗ kvHalf c kv (t % 2) ∗ sem0 (F := F) c (t % 2))
/-- Nothing started. -/
abbrev Fresh : sProp (MM F) :=
  iprop((∃ d, scPt c Finset.univ d) ∗ (kvHalf c kv 0 ∗ kvHalf c kv 1) ∗ sem0 (F := F) c 0 ∗ sem0 (F := F) c 1)
/-- What point `t` finds. -/
abbrev Found (t : ℕ) : sProp (MM F) :=
  if t = 0 then Fresh c kv else iprop(Flying c tb ln kv t 0 ∗ Idle c tb ln kv t)

variable (𝒱 : Variants) (bd : Option 𝒱.V) (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)
  (hl : ∀ x, ((ln x : BitVec 32)).toNat ≤ 4096) (hw : ∀ x, ((tb x : BitVec 32)).toNat < 38400)

/-- The issue of a point's transfers, the loop whole. -/
theorem issue_wp {t : ℕ} {w : ℕ} (lp : Scf.Loop w) (hok : lp.OK) (htr : lp.trips = npg ln t)
    (body : Fin lp.trips → Unit → Prog (TpuEff nD τ sig (Elt F) Λ₀ .tc) Unit)
    (hb : ∀ k acc, Issuing c tb ln kv t k.val ⊢ wp frame (wpE defs₀ 𝒱 (c : Thread nD τ) bd) Set.univ (body k acc) (fun _ => Issuing c tb ln kv t (k.val + 1)))
    {β : Type} {K : Unit → Prog (TpuEff nD τ sig (Elt F) Λ₀ .tc) β} {Q : β → sProp (MM F)} :
    iprop(tbPt0 c tbM0_0 tb ∗ Own c (t % 2) (G tb ln kv t) ∗ kvHalf c kv (t % 2) ∗ sem0 (F := F) c (t % 2))
      ⊢ iprop((∀ u, iprop(tbPt0 c tbM0_0 tb ∗ Flying c tb ln kv t 0) -∗ wp frame (wpE defs₀ 𝒱 (c : Thread nD τ) bd) Set.univ (K u) Q)
          -∗ wp frame (wpE defs₀ 𝒱 (c : Thread nD τ) bd) Set.univ (lp.for hok () body >>= K) Q) := by
  iintro ⟨HT, HS⟩ HK
  imod (issue_start c tb ln kv t) $$ HS with ⟨HB, HP, HA⟩
  iapply (Scf.wp_for_bind Idealize.ShloMosaic.frame (wpE defs₀ 𝒱 (c : Thread nD τ) bd) Set.univ lp.lb lp.ub lp.st hok () body (fun k _ => Issuing c tb ln kv t k) hb) $$ [HT HB HP]
  · isplitl [HT]; · iexact HT
    isplitl [HB] <;> iassumption
  iintro %u ⟨HT, HB, HP⟩
  iapply HK
  rw [show Scf.trips lp.lb lp.ub lp.st = npg ln t from htr]
  isplitl [HT]; · iexact HT
  isplitl [HB]; · iexact HB
  isplitl [HP] <;> iassumption

/-- The wait for a point's transfers, the loop whole. -/
theorem wait_wp {t : ℕ} {w : ℕ} (lp : Scf.Loop w) (hok : lp.OK) (htr : lp.trips = npg ln t)
    (body : Fin lp.trips → Unit → Prog (TpuEff nD τ sig (Elt F) Λ₀ .tc) Unit)
    (hb : ∀ k acc, Waiting c tb ln kv t k.val ⊢ wp frame (wpE defs₀ 𝒱 (c : Thread nD τ) bd) Set.univ (body k acc) (fun _ => Waiting c tb ln kv t (k.val + 1)))
    {β : Type} {K : Unit → Prog (TpuEff nD τ sig (Elt F) Λ₀ .tc) β} {Q : β → sProp (MM F)} :
    iprop(tbPt0 c tbM0_0 tb ∗ Flying c tb ln kv t 0 ∗ ∃ W, owes (c : Thread nD τ) 0 W)
      ⊢ iprop((∀ u, iprop(tbPt0 c tbM0_0 tb ∗ Collected c tb ln kv t ∗ ∃ W, owes (c : Thread nD τ) 0 W) -∗ wp frame (wpE defs₀ 𝒱 (c : Thread nD τ) bd) Set.univ (K u) Q)
          -∗ wp frame (wpE defs₀ 𝒱 (c : Thread nD τ) bd) Set.univ (lp.for hok () body >>= K) Q) := by
  iintro ⟨HT, ⟨HB, HP, HA⟩, HO⟩ HK
  iapply (Scf.wp_for_bind Idealize.ShloMosaic.frame (wpE defs₀ 𝒱 (c : Thread nD τ) bd) Set.univ lp.lb lp.ub lp.st hok () body (fun k _ => Waiting c tb ln kv t k) hb) $$ [HT HB HO]
  · isplitl [HT]; · iexact HT
    isplitl [HB]; · iexact HB
    iexact HO
  iintro %u ⟨HT, HB, HO⟩
  rw [show Scf.trips lp.lb lp.ub lp.st = npg ln t from htr]
  imod (collect c tb ln kv t) $$ [HB HP HA] with HC
  · isplitl [HB]; · iexact HB
    isplitl [HP] <;> iassumption
  iapply HK
  isplitl [HT]; · iexact HT
  isplitl [HC] <;> iassumption

/-- A loop of no trips. -/
theorem none_wp {σ : Type} {w : ℕ} (lp : Scf.Loop w) (hok : lp.OK) (htr : lp.trips = 0) (init : σ)
    (body : Fin lp.trips → σ → Prog (TpuEff nD τ sig (Elt F) Λ₀ .tc) σ)
    {β : Type} {K : σ → Prog (TpuEff nD τ sig (Elt F) Λ₀ .tc) β} {Q : β → sProp (MM F)} :
    wp frame (wpE defs₀ 𝒱 (c : Thread nD τ) bd) Set.univ (K init) Q
      ⊢ wp frame (wpE defs₀ 𝒱 (c : Thread nD τ) bd) Set.univ (lp.for hok init body >>= K) Q := by
  iintro H
  iapply (Scf.wp_for_bind Idealize.ShloMosaic.frame (wpE defs₀ 𝒱 (c : Thread nD τ) bd) Set.univ lp.lb lp.ub lp.st hok init body (fun _ a => iprop(⌜a = init⌝))
    (fun k _ => (Nat.not_lt_zero k.val (lt_of_lt_of_eq k.isLt htr)).elim)) $$ []
  · ipureintro; rfl
  iintro %a %e
  subst e
  iexact H

end Cert.Attend.Kernel

end
-- ==== Proof.Kernel.Body.lean ====
/- The body at one point, in the three parts it is printed in: what it finds in the two slots, and what it leaves. -/
module

public import proofs.«01_k».proof.Proof.Kernel.Phases
public import Idealize.ShloMosaic.Lib.WritesUnit

@[expose] public section

noncomputable section

namespace Cert.Attend.Kernel

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (tb : Tab F) (ln : Len F) (kv : Kvs F) (𝒱 : Variants) (bd : Option 𝒱.V)

/-- A program in two halves, with what holds between them. -/
theorem wp_mid {α β : Type} {p : Prog (TpuEff nD τ sig (Elt F) Λ₀ .tc) α} {K : α → Prog (TpuEff nD τ sig (Elt F) Λ₀ .tc) β} {Q : β → sProp (MM F)}
    {P : sProp (MM F)} (R : α → sProp (MM F)) (h : P ⊢ wp frame (wpE defs₀ 𝒱 (c : Thread nD τ) bd) Set.univ p R)
    (hK : ∀ u, R u ⊢ wp frame (wpE defs₀ 𝒱 (c : Thread nD τ) bd) Set.univ (K u) Q) :
    P ⊢ wp frame (wpE defs₀ 𝒱 (c : Thread nD τ) bd) Set.univ (p >>= K) Q :=
  h.trans ((wp_mono _ _ _ hK).trans (Entails.of_eq (wp_bind _ _ _ _ _ _).symm))

theorem wp_cut {α β : Type} {p : Prog (TpuEff nD τ sig (Elt F) Λ₀ .tc) α} {K : α → Prog (TpuEff nD τ sig (Elt F) Λ₀ .tc) β} {Q : β → sProp (MM F)} :
    wp frame (wpE defs₀ 𝒱 (c : Thread nD τ) bd) Set.univ p (fun a => wp frame (wpE defs₀ 𝒱 (c : Thread nD τ) bd) Set.univ (K a) Q)
      ⊢ wp frame (wpE defs₀ 𝒱 (c : Thread nD τ) bd) Set.univ (p >>= K) Q := Entails.of_eq (wp_bind _ _ _ _ _ _).symm

/-- Zeros over the whole scratch are the contents before the first point. -/
theorem zeros (d : Scr F) (h) (z : S2x256x24x128.Idx → Elt F .i32) (hz : z = fun _ => (0#32 : BitVec 32)) :
    scM0_0.view.writes (Elt F) d [⟨Rect.unit (s := S2x256x24x128) ![0, 0, 0, 0] S2x256x24x128.size h, z⟩] = G tb ln kv 0 := by
  have hr : ∀ (g : Scr F) (y), g y = scM0_0.view.read (Elt F) g y := fun g y => rfl
  refine funext fun y => (hr _ y).trans ?_
  rw [View.read_writes_cons_unit_of_mem (v := scM0_0.view) (Val := Elt F) (f := d) h z [] y y rfl (fun a => by fin_cases a <;> simp), hz]
  rw [G]

theorem pay2_eq : (k0_pay2 : S2x256x24x128.Idx → BitVec 32) = fun _ => 0#32 := by
  unfold k0_pay2
  exact funext fun _ => rfl

variable (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)
  (hl : ∀ x, ((ln x : BitVec 32)).toNat ≤ 4096) (hw : ∀ x, ((tb x : BitVec 32)).toNat < 38400)
include hl hw

/-- The first part: at the first point zeros and the point's own transfers; then the next point's. -/
theorem part6_wp {Q : (Σ' (arg0 : BitVec 32) (v9 : BitVec 32) (v18 : Elt F .i32) (k0_hw7 : k0_chk7 i v18) (v21 : BitVec 32) (v35 : BitVec 1), BitVec 32) → sProp (MM F)} :
    iprop(tbPt0 c tbM0_0 tb ∗ tbPt0 c tbM0_1 ln ∗ Found c tb ln kv (i 0).val
      ∗ (∀ a0, ∀ v9, ∀ hw7, ∀ v21, ∀ v35, ∀ e, iprop(tbPt0 c tbM0_0 tb ∗ tbPt0 c tbM0_1 ln ∗ Flying c tb ln kv (i 0).val 0 ∗ Ahead c tb ln kv (i 0).val)
          -∗ Q ⟨a0, v9, lenW ln (i 0).val, hw7, v21, v35, e⟩))
    ⊢ wp frame (wpE defs₀ 𝒱 (c : Thread nD τ) bd) Set.univ
      (k0_part6 (F := F) i tbM0_0 htbM0_0 tbM0_1 htbM0_1 arg3 harg3 arg4 harg4 arg5 harg5 arg6 harg6 hbM0_0 harg7 arg8 harg8 arg9 harg9 scM0_0 harg10 cc0_scratch1) Q := by
  rw [k0_part6_eq_skeleton]
  unfold k0_part6_skel
  generalize hK : (iprop(∀ a0, ∀ v9, ∀ hw7, ∀ v21, ∀ v35, ∀ e, iprop(tbPt0 c tbM0_0 tb ∗ tbPt0 c tbM0_1 ln ∗ Flying c tb ln kv (i 0).val 0 ∗ Ahead c tb ln kv (i 0).val)
          -∗ Q ⟨a0, v9, lenW ln (i 0).val, hw7, v21, v35, e⟩) : sProp (MM F)) = HK
  lift_lets
  extract_lets
  rename_i jp2 jp1
  have hJ2 : iprop(tbPt0 c tbM0_0 tb ∗ tbPt0 c tbM0_1 ln ∗ (Flying c tb ln kv (i 0).val 0 ∗ Ahead c tb ln kv (i 0).val) ∗ HK)
      ⊢ wp frame (wpE defs₀ 𝒱 (c : Thread nD τ) bd) Set.univ (jp2 ⟨⟩) Q := by
    subst hK
    dsimp only [jp2]
    iintro ⟨HT, HL, ⟨HF, HA⟩, HK⟩
    sl_exec
    have hr : part6_wp.sl.r ln i = lenW ln (i 0).val := by
      unfold part6_wp.sl.r
      exact (lens_read _ (b := ⟨(i 0).val, (i 0).isLt⟩) (off16_eq i) ln _).trans (congrArg ln (congrArg ix1 (Fin.ext (Nat.mod_eq_of_lt (i 0).isLt).symm)))
    generalize part6_wp.sl.r ln i = w at hr ⊢
    subst hr
    rw [wp_assume_of 𝒱 (c : Thread nD τ) bd Set.univ (chk7_of (v := lenW ln (i 0).val) i (hl _))]
    iapply (show ∀ v, Q v ⊢ wp frame (wpE defs₀ 𝒱 (c : Thread nD τ) bd) Set.univ (.ret v) Q from fun v => by iintro H; sl_step; iexact H)
    iapply HK
    isplitl [HT]; · iexact HT
    isplitl [HL]; · iexact HL
    isplitl [HF] <;> iassumption
  clear_value jp2
  have hJ1 : iprop(tbPt0 c tbM0_0 tb ∗ tbPt0 c tbM0_1 ln ∗ (Flying c tb ln kv (i 0).val 0 ∗ Idle c tb ln kv (i 0).val) ∗ HK)
      ⊢ wp frame (wpE defs₀ 𝒱 (c : Thread nD τ) bd) Set.univ (jp1 ⟨⟩) Q := by
    by_cases h1 : (i 0).val + 1 < 120
    · have e1 : Ahead c tb ln kv (i 0).val = Flying c tb ln kv ((i 0).val + 1) 0 := if_pos h1
      have h2 := (cond2_iff i).mpr h1
      rw [e1] at hJ2
      rw [show jp1 ⟨⟩ = _ from dif_pos h2]
      rw [show Idle c tb ln kv (i 0).val = iprop(Own c (((i 0).val + 1) % 2) (G tb ln kv ((i 0).val + 1)) ∗ kvHalf c kv (((i 0).val + 1) % 2) ∗ sem0 (F := F) c (((i 0).val + 1) % 2)) from
        congrArg (fun P => iprop(P ∗ _)) (own_next c tb ln kv (by omega))]
      iintro ⟨HT, HL, ⟨HF, HI, HV, HM⟩, HK⟩
      sl_exec
      have hr : part6_wp.sl.r_1 ln i h2 = lenW ln ((i 0).val + 1) := by
        unfold part6_wp.sl.r_1
        exact (lens_read _ (b := ⟨(i 0).val + 1, h1⟩) (off7_eq i) ln _).trans (congrArg ln (congrArg ix1 (Fin.ext (Nat.mod_eq_of_lt h1).symm)))
      generalize part6_wp.sl.r_1 ln i h2 = w at hr ⊢
      subst hr
      rw [wp_assume_of 𝒱 (c : Thread nD τ) bd Set.univ (chk4_of (v := lenW ln ((i 0).val + 1)) i (hl _))]
      iapply (issue_wp c tb ln kv 𝒱 bd _ _ (t3_trips (v := lenW ln ((i 0).val + 1)) (hl _)) _
        (t3_step c tb ln kv 𝒱 bd i arg3 harg3 arg4 harg4 arg5 harg5 arg6 harg6 harg7 arg8 harg8 arg9 harg9 harg10 hl hw h2 (chk4_of (v := lenW ln ((i 0).val + 1)) i (hl _)))) $$ [HT HI HV HM]
      · isplitl [HT]; · iexact HT
        isplitl [HI]; · iexact HI
        isplitl [HV] <;> iassumption
      iintro %u ⟨HT, HN⟩
      iapply (none_wp c 𝒱 bd _ _ (t4_trips (v := lenW ln ((i 0).val + 1)) (hl _)))
      iapply hJ2
      isplitl [HT]; · iexact HT
      isplitl [HL]; · iexact HL
      isplitr [HK]
      · isplitl [HF] <;> iassumption
      · iexact HK
    · have e1 : Ahead c tb ln kv (i 0).val = Idle c tb ln kv (i 0).val := if_neg h1
      rw [e1] at hJ2
      rw [show jp1 ⟨⟩ = _ from dif_neg (mt (cond2_iff i).mp h1)]
      exact hJ2
  clear_value jp1
  by_cases h0 : (i 0).val = 0
  · rw [dif_pos ((cond1_iff i).mpr h0), show Found c tb ln kv (i 0).val = Fresh c kv from if_pos h0, k0_part1_eq_skeleton]
    unfold k0_part1_skel
    iintro ⟨HT, HL, ⟨⟨%d, HS⟩, ⟨HV0, HV1⟩, HM0, HM1⟩, HK⟩
    sl_exec
    have hr : part6_wp.sl.r_2 ln = lenW ln 0 := by
      unfold part6_wp.sl.r_2
      exact (lens_read _ (b := 0) rfl ln _)
    generalize part6_wp.sl.r_2 ln = w at hr ⊢
    subst hr
    iapply (Entails.of_eq (wp_assume_of 𝒱 (c : Thread nD τ) bd Set.univ (chk1_of (v := lenW ln 0) i (hl _))).symm)
    ihave HS' := ((Entails.of_eq (congrArg (scPt c Finset.univ) (zeros tb ln kv d inb_S2x256x24x128_S2x256x24x128_0_0_0_0 _ pay2_eq))).trans (own_both c _).1) $$ HS
    icases HS' with ⟨HS0, HS1⟩
    rw [h0] at hJ1
    iapply (wp_cut c 𝒱 bd)
    iapply (issue_wp c tb ln kv 𝒱 bd (t := 0) _ _ (t1_trips (v := lenW ln 0) (hl _)) _
      (t1_step c tb ln kv 𝒱 bd i arg3 harg3 arg4 harg4 arg5 harg5 arg6 harg6 harg7 arg8 harg8 arg9 harg9 harg10 hl hw ((cond1_iff i).mpr h0) (chk1_of (v := lenW ln 0) i (hl _)))) $$ [HT HS0 HV0 HM0]
    · isplitl [HT]; · iexact HT
      isplitl [HS0]; · iexact HS0
      isplitl [HV0] <;> iassumption
    iintro %u ⟨HT, HN⟩
    sl_step
    iapply (none_wp c 𝒱 bd _ _ (t2_trips (v := lenW ln 0) (hl _)))
    iapply hJ1
    isplitl [HT]; · iexact HT
    isplitl [HL]; · iexact HL
    isplitr [HK]
    · isplitl [HN]; · iexact HN
      isplitl [HS1]; · iexact HS1
      isplitl [HV1] <;> iassumption
    · iexact HK
  · rw [dif_neg (mt (cond1_iff i).mp h0), show Found c tb ln kv (i 0).val = _ from if_neg h0]
    exact hJ1

end Cert.Attend.Kernel

end
-- ==== Proof.Kernel.Whole.lean ====
/- The whole body at one point: from the two slots as the point finds them and the four blocks, to the two slots as it
   leaves them and the two results' blocks. -/
module

public import proofs.«01_k».proof.Proof.Kernel.Body
public import Idealize.ShloMosaic.Lib.WholeRead

@[expose] public section

noncomputable section

namespace Cert.Attend.Kernel

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load of a whole block reads its contents. -/
theorem block_read {sp : Space} {d : Fin 3 → ℕ} {e : EltTy} {m : Memref sig .tc sp ⟨3, d⟩ e} (h : m.IsWhole) (X : Shape.Idx ⟨3, d⟩ → Elt F e) (hb) :
    m.view.readAt (Elt F) (Rect.unit (s := ⟨3, d⟩) ![0, 0, 0] d hb).toLoadRect (h.unread X) = X := by
  funext x
  rw [h.readAt_unread]
  refine congrArg X (funext fun a => Fin.ext ?_)
  refine (ValueKit.rect_emb_unit_val (s := ⟨3, d⟩) _ d hb x a).trans ?_
  fin_cases a <;> exact Nat.zero_add _

/-- A store of a whole block leaves what was stored. -/
theorem block_write {sp : Space} {d : Fin 3 → ℕ} {e : EltTy} (m : Memref sig .tc sp ⟨3, d⟩ e) (f : m.view.ty.Contents (Elt F)) (X : Shape.Idx ⟨3, d⟩ → Elt F e) (hb) :
    m.view.read (Elt F) (m.view.writes (Elt F) f [⟨Rect.unit (s := ⟨3, d⟩) ![0, 0, 0] d hb, X⟩]) = X := by
  funext y
  exact View.read_writes_cons_unit_of_mem (v := m.view) (Val := Elt F) (f := f) hb X [] y y rfl (fun a => by fin_cases a <;> exact (Nat.zero_add _).symm)

variable (c : Dev nD) (tb : Tab F) (ln : Len F) (kv : Kvs F) (𝒱 : Variants) (bd : Option 𝒱.V)
variable (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)
  (hl : ∀ x, ((ln x : BitVec 32)).toNat ≤ 4096) (hw : ∀ x, ((tb x : BitVec 32)).toNat < 38400)
  (x3 : Vec F S1x32x512 .bf16) (x4 : Vec F S1x48x128 .bf16) (x5 : Vec F S1x1x512 .bf16) (x6 : Vec F S1x1x128 .bf16)

/-- The four blocks a point reads. -/
abbrev Blocks : sProp (MM F) :=
  iprop(owns (c : Thread nD τ) arg3 fullShare x3 ∗ owns (c : Thread nD τ) arg4 fullShare x4 ∗ owns (c : Thread nD τ) arg5 fullShare x5 ∗ owns (c : Thread nD τ) arg6 fullShare x6)

include hl hw

/-- The second part: the point's pages are awaited, and the blocks read. -/
theorem part7_wp (arg0 v21 : BitVec 32) (v35 : BitVec 1) (one : BitVec 32) (hc : k0_chk7 i (lenW ln (i 0).val))
    {Q : (Σ' (v48 : Elt F .i32) (k0_hw10 : k0_chk10 i v48) (v50 : FVec F S32x512 .bf16) (v52 : FVec F S48x128 .bf16) (v56 : FVec F S1x512 .f32) (v60 : FVec F S32x1 .f32), FVec F S32 .f32) → sProp (MM F)} :
    iprop(tbPt0 c tbM0_0 tb ∗ tbPt0 c tbM0_1 ln ∗ Flying c tb ln kv (i 0).val 0 ∗ (∃ W, owes (c : Thread nD τ) 0 W)
      ∗ Blocks c arg3 arg4 arg5 arg6 x3 x4 x5 x6
      ∗ (∀ hw10, iprop(tbPt0 c tbM0_0 tb ∗ tbPt0 c tbM0_1 ln ∗ Collected c tb ln kv (i 0).val ∗ (∃ W, owes (c : Thread nD τ) 0 W) ∗ Blocks c arg3 arg4 arg5 arg6 x3 x4 x5 x6)
          -∗ Q ⟨lenW ln (i 0).val, hw10, k0_pay33 x3, k0_pay34 x4, k0_pay35 x5, k0_pay36 x3 x5, k0_pay37 x4 x6⟩))
    ⊢ wp frame (wpE defs₀ 𝒱 (c : Thread nD τ) bd) Set.univ
      (k0_part7 (F := F) i tbM0_0 htbM0_0 tbM0_1 htbM0_1 arg3 harg3 arg4 harg4 arg5 harg5 arg6 harg6 hbM0_0 harg7 arg8 harg8 arg9 harg9 scM0_0 harg10 cc0_scratch1
        arg0 (lenW ln (i 0).val) hc v21 v35 one) Q := by
  rw [k0_part7_eq_skeleton]
  unfold k0_part7_skel
  unfold Blocks owns
  iintro ⟨HT, HL, HF, HO, ⟨⟨%f3, %e3, H3⟩, ⟨%f4, %e4, H4⟩, ⟨%f5, %e5, H5⟩, ⟨%f6, %e6, H6⟩⟩, HK⟩
  obtain rfl := harg3.eq_unread e3; obtain rfl := harg4.eq_unread e4; obtain rfl := harg5.eq_unread e5; obtain rfl := harg6.eq_unread e6
  iapply (wait_wp c tb ln kv 𝒱 bd _ _ (t5_trips (v := lenW ln (i 0).val) (hl _)) _
    (t5_step c tb ln kv 𝒱 bd i arg3 harg3 arg4 harg4 arg5 harg5 arg6 harg6 harg7 arg8 harg8 arg9 harg9 harg10 hl hw arg0 v21 v35 one hc)) $$ [HT HF HO]
  · isplitl [HT]; · iexact HT
    isplitl [HF] <;> iassumption
  iintro %u ⟨HT, HC, HO⟩
  iapply (none_wp c 𝒱 bd _ _ (t6_trips (v := lenW ln (i 0).val) (hl _)))
  sl_exec
  have hr : part7_wp.sl.r ln i = lenW ln (i 0).val := by
    unfold part7_wp.sl.r
    exact (lens_read _ (b := ⟨(i 0).val, (i 0).isLt⟩) (off25_eq i) ln _).trans (congrArg ln (congrArg ix1 (Fin.ext (Nat.mod_eq_of_lt (i 0).isLt).symm)))
  generalize part7_wp.sl.r ln i = w at hr ⊢
  subst hr
  rw [wp_assume_of 𝒱 (c : Thread nD τ) bd Set.univ (chk10_of (v := lenW ln (i 0).val) i (hl _))]
  sl_exec
  rw [show arg3.view.readAt (Elt F) (Rect.unit (s := S1x32x512) ![0, 0, 0] S1x32x512.size inb_S1x32x512_S1x32x512_0_0_0).toLoadRect (harg3.unread x3) = x3 from block_read harg3 x3 _,
    show arg4.view.readAt (Elt F) (Rect.unit (s := S1x48x128) ![0, 0, 0] S1x48x128.size inb_S1x48x128_S1x48x128_0_0_0).toLoadRect (harg4.unread x4) = x4 from block_read harg4 x4 _,
    show arg5.view.readAt (Elt F) (Rect.unit (s := S1x1x512) ![0, 0, 0] S1x1x512.size inb_S1x1x512_S1x1x512_0_0_0).toLoadRect (harg5.unread x5) = x5 from block_read harg5 x5 _,
    show arg6.view.readAt (Elt F) (Rect.unit (s := S1x1x128) ![0, 0, 0] S1x1x128.size inb_S1x1x128_S1x1x128_0_0_0).toLoadRect (harg6.unread x6) = x6 from block_read harg6 x6 _]
  iapply (show ∀ v, Q v ⊢ wp frame (wpE defs₀ 𝒱 (c : Thread nD τ) bd) Set.univ (.ret v) Q from fun v => by iintro H; sl_step; iexact H)
  iapply HK
  isplitl [HT]; · iexact HT
  isplitl [HL]; · iexact HL
  isplitl [HC]; · iexact HC
  isplitl [HO]; · iexact HO
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; · ipureintro; exact harg6.read_unread _
  iexact H6

omit hl hw in
/-- The third part: the chunks, and the first result's block. -/
theorem part8_wp (v9 : BitVec 32) (v48 : Elt F .i32) (hv : BitVec.toNat v48 ≤ 4096) (hc : k0_chk10 i v48) (v50 : FVec F S32x512 .bf16) (v52 : FVec F S48x128 .bf16)
    (v56 : FVec F S1x512 .f32) (v60 : FVec F S32x1 .f32) (v68 : FVec F S32 .f32) (f : Scr F) {Q : FVec F S32x1 .f32 → sProp (MM F)}
    (st : St F) (hst : st = chunks v48 v50 v52 f ((i 0).val % 2) (k0_pay38 v60 v68, k0_pay39, k0_pay40 v56) (nchunks v48.toNat)) :
    iprop(Own c ((i 0).val % 2) f ∗ (∃ d, owns (c : Thread nD τ) arg8 fullShare d)
      ∗ (iprop(Own c ((i 0).val % 2) f ∗ owns (c : Thread nD τ) arg8 fullShare (k0_pay43 st.2.1 st.2.2)) -∗ Q (k0_pay44 st.1 st.2.1)))
    ⊢ wp frame (wpE defs₀ 𝒱 (c : Thread nD τ) bd) Set.univ
      (k0_part8 (F := F) i tbM0_0 htbM0_0 tbM0_1 htbM0_1 arg3 harg3 arg4 harg4 arg5 harg5 arg6 harg6 hbM0_0 harg7 arg8 harg8 arg9 harg9 scM0_0 harg10 cc0_scratch1
        v9 v48 hc v50 v52 v56 v60 v68) Q := by
  rw [k0_part8_eq_skeleton]
  unfold k0_part8_skel
  unfold owns
  iintro ⟨HS, ⟨%d8, %f8, -, H8⟩, HK⟩
  iapply (Scf.wp_for_bind Idealize.ShloMosaic.frame (wpE defs₀ 𝒱 (c : Thread nD τ) bd) Set.univ _ _ _ _ _ _
    (fun k a => iprop(Own c ((i 0).val % 2) f ∗ ⌜a = chunks v48 v50 v52 f ((i 0).val % 2) (k0_pay38 v60 v68, k0_pay39, k0_pay40 v56) k⌝)) ?_) $$ [HS]
  · intro k acc
    refine BIBase.Entails.trans ?_ (t7_step c 𝒱 bd i arg3 harg3 arg4 harg4 arg5 harg5 arg6 harg6 harg7 arg8 harg8 arg9 harg9 harg10 v9 v48 hv hc v50 v52 v56 v60 v68 f k acc _)
    iintro ⟨HS, %e⟩
    subst e
    isplitl [HS]; · iexact HS
    iintro HS
    isplitl [HS]; · iexact HS
    ipureintro; rfl
  · isplitl [HS]; · iexact HS
    ipureintro; rfl
  iintro %a ⟨HS, %e⟩
  have e' : a = st := e.trans ((congrArg (chunks v48 v50 v52 f ((i 0).val % 2) (k0_pay38 v60 v68, k0_pay39, k0_pay40 v56)) (t7_trips hv)).trans hst.symm)
  obtain ⟨a0, a1, a2⟩ := a
  subst e'
  iapply (none_wp c 𝒱 bd _ _ (t8_trips (v := v48) hv))
  sl_exec
  iapply (show ∀ v, Q v ⊢ wp frame (wpE defs₀ 𝒱 (c : Thread nD τ) bd) Set.univ (.ret v) Q from fun v => by iintro H; sl_step; iexact H)
  iapply HK
  isplitl [HS]; · iexact HS
  iexists _; isplitr; swap; · iexact H8
  ipureintro; exact block_write arg8 _ _ _

/-- What the chunks of point `t` make of its blocks. -/
def final (t : ℕ) : St F :=
  chunks (lenW ln t) (k0_pay33 x3) (k0_pay34 x4) (G tb ln kv (t + 1)) (t % 2)
    (k0_pay38 (k0_pay36 x3 x5) (k0_pay37 x4 x6), k0_pay39, k0_pay40 (k0_pay35 x5)) (nchunks (lenW ln t).toNat)

/-- The first result's block. -/
def outBlock (t : ℕ) : Vec F S1x32x512 .bf16 := k0_pay43 (final tb ln kv x3 x4 x5 x6 t).2.1 (final tb ln kv x3 x4 x5 x6 t).2.2
/-- The second result's block. -/
def lseBlock (t : ℕ) : Vec F S1x1x32 .f32 := k0_pay1 (lenW ln t) (k0_pay44 (final tb ln kv x3 x4 x5 x6 t).1 (final tb ln kv x3 x4 x5 x6 t).2.1)

/-- The body at one point. -/
theorem body_wp {Q : PUnit → sProp (MM F)} :
    iprop((Found c tb ln kv (i 0).val ∗ tbPt0 c tbM0_0 tb ∗ tbPt0 c tbM0_1 ln) ∗ (∃ W, owes (c : Thread nD τ) 0 W)
      ∗ Blocks c arg3 arg4 arg5 arg6 x3 x4 x5 x6 ∗ (∃ d, owns (c : Thread nD τ) arg8 fullShare d) ∗ (∃ d, owns (c : Thread nD τ) arg9 fullShare d)
      ∗ (iprop(((Ahead c tb ln kv (i 0).val ∗ Collected c tb ln kv (i 0).val) ∗ tbPt0 c tbM0_0 tb ∗ tbPt0 c tbM0_1 ln) ∗ (∃ W, owes (c : Thread nD τ) 0 W)
        ∗ Blocks c arg3 arg4 arg5 arg6 x3 x4 x5 x6
        ∗ owns (c : Thread nD τ) arg8 fullShare (outBlock tb ln kv x3 x4 x5 x6 (i 0).val)
        ∗ owns (c : Thread nD τ) arg9 fullShare (lseBlock tb ln kv x3 x4 x5 x6 (i 0).val)) -∗ Q ⟨⟩))
    ⊢ wp frame (wpE defs₀ 𝒱 (c : Thread nD τ) bd) Set.univ
      (cc0_attend (F := F) i tbM0_0 htbM0_0 tbM0_1 htbM0_1 arg3 harg3 arg4 harg4 arg5 harg5 arg6 harg6 hbM0_0 harg7 arg8 harg8 arg9 harg9 scM0_0 harg10 cc0_scratch1) Q := by
  rw [cc0_attend_eq_skeleton]
  unfold cc0_attend_skel
  iintro ⟨⟨HF, HT, HL⟩, HO, HB, H8, H9, HK⟩
  iapply (wp_cut c 𝒱 bd)
  iapply (part6_wp c tb ln kv 𝒱 bd i arg3 harg3 arg4 harg4 arg5 harg5 arg6 harg6 harg7 arg8 harg8 arg9 harg9 harg10 hl hw)
  isplitl [HT]; · iexact HT
  isplitl [HL]; · iexact HL
  isplitl [HF]; · iexact HF
  iintro %a0 %v9 %hw7 %v21 %v35 %e ⟨HT, HL, HF, HA⟩
  iapply (wp_cut c 𝒱 bd)
  iapply (part7_wp c tb ln kv 𝒱 bd i arg3 harg3 arg4 harg4 arg5 harg5 arg6 harg6 harg7 arg8 harg8 arg9 harg9 harg10 hl hw x3 x4 x5 x6 a0 v21 v35 e hw7)
  isplitl [HT]; · iexact HT
  isplitl [HL]; · iexact HL
  isplitl [HF]; · iexact HF
  isplitl [HO]; · iexact HO
  isplitl [HB]; · iexact HB
  iintro %hw10 ⟨HT, HL, ⟨HS, HV, HM⟩, HO, HB⟩
  iapply (wp_cut c 𝒱 bd)
  iapply (part8_wp c 𝒱 bd i arg3 harg3 arg4 harg4 arg5 harg5 arg6 harg6 harg7 arg8 harg8 arg9 harg9 harg10 v9 (lenW ln (i 0).val) (hl _) hw10 _ _ _ _ _ (G tb ln kv ((i 0).val + 1))
    (final tb ln kv x3 x4 x5 x6 (i 0).val) rfl)
  isplitl [HS]; · iexact HS
  isplitl [H8]; · iexact H8
  iintro ⟨HS, H8⟩
  unfold owns
  icases H9 with ⟨%d9, %f9, -, H9⟩
  sl_exec
  sl_step
  iapply HK
  isplitl [HA HS HV HM HT HL]
  · isplitl [HA HS HV HM]
    · isplitl [HA]; · iexact HA
      isplitl [HS]; · iexact HS
      isplitl [HV] <;> iassumption
    isplitl [HT] <;> iassumption
  isplitl [HO]; · iexact HO
  isplitl [HB]; · iexact HB
  isplitl [H8]; · iexact H8
  iexists _; isplitr; swap; · iexact H9
  ipureintro; exact block_write arg9 _ _ _

end Cert.Attend.Kernel

end
-- ==== Proof.Kernel.Run.lean ====
/- The run: the proof data of the one pipeline (what every window's buffer holds after every point, and what the two slots
   hold between points), the body's obligation, and the launch. -/
module

public import proofs.«01_k».proof.Proof.Kernel.Whole
public import Idealize.ShloMosaic.Lib.Claim

@[expose] public section

set_option maxRecDepth 16384

noncomputable section

namespace Cert.Attend.Kernel

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section
variable (c : Dev nD) (tb : Tab F) (ln : Len F) (kv : Kvs F)

/-- The two slots between points: nothing started before the first point and after the last. -/
abbrev Between (t : ℕ) : sProp (MM F) := if t = 120 then Fresh c kv else Found c tb ln kv t

theorem between_found {t : ℕ} (h : t < 120) : Between c tb ln kv t = Found c tb ln kv t := if_neg (by omega)

/-- What a point leaves is what the next finds. -/
theorem between_next {t : ℕ} (h : t < 120) : iprop(Ahead c tb ln kv t ∗ Collected c tb ln kv t) ⊢ Between c tb ln kv (t + 1) := by
  by_cases h1 : t + 1 < 120
  · rw [between_found c tb ln kv h1, show Ahead c tb ln kv t = Flying c tb ln kv (t + 1) 0 from if_pos h1,
      show Found c tb ln kv (t + 1) = iprop(Flying c tb ln kv (t + 1) 0 ∗ Idle c tb ln kv (t + 1)) from if_neg (Nat.succ_ne_zero t)]
    unfold Idle Collected
    rw [show (t + 1 + 1) % 2 = t % 2 by omega]
  · obtain rfl : t = 119 := by omega
    rw [show Ahead c tb ln kv 119 = Idle c tb ln kv 119 from if_neg h1, show Between c tb ln kv (119 + 1) = Fresh c kv from if_pos rfl]
    unfold Idle Collected Fresh
    rw [show (119 + 1) % 2 = 0 from rfl, show 119 % 2 = 1 from rfl, own_next c tb ln kv (s := 0) (t := 119) (by decide)]
    iintro ⟨⟨HO, HV, HM⟩, HO', HV', HM'⟩
    isplitl [HO HO']
    · iexists (G tb ln kv (119 + 1))
      iapply (own_both c _).2
      isplitl [HO] <;> iassumption
    isplitl [HV HV']
    · isplitl [HV] <;> iassumption
    isplitl [HM] <;> iassumption
end

variable (m : (ℓ : Loc nD τ sig) → Buf (Elt F) ℓ) (ρ : Dev nD → PrngReg)

/-- The tables as the region finds them. -/
abbrev tabs : Tab F := tbl m 0
abbrev lens : Len F := tbl m 1
/-- The source array as the region finds it. -/
abbrev kvs (c : Dev nD) : Kvs F := V m c main_arg6

/-- What the region hands the body, and takes back. -/
theorem phi_fresh (c : Dev nD) : (Pipeline.ΦD osem0 spec0 H0 (V m) c : sProp (MM F)) ⊣⊢ iprop(Fresh c (kvs m c) ∗ (∃ r, prngReg c r)) := by
  rw [PhiD0_eq]
  constructor
  · iintro ⟨⟨%d, HS⟩, Hg, ⟨Hq0, Hq1⟩, Hh⟩
    isplitr [Hg]
    · isplitl [HS]
      · iexists d
        iapply (Entails.of_eq (owns_whole (c : Thread nD τ) cc0_scratch0 fullShare d))
        iexact HS
      isplitl [Hh]
      · iapply (kv_both c (kvs m c)).1; iexact Hh
      isplitl [Hq0]; · iexact Hq0
      iexact Hq1
    iexact Hg
  · iintro ⟨⟨⟨%d, HS⟩, HV, Hq0, Hq1⟩, Hg⟩
    isplitl [HS]
    · iexists d
      iapply (Entails.of_eq (owns_whole (c : Thread nD τ) cc0_scratch0 fullShare d).symm)
      iexact HS
    isplitl [Hg]; · iexact Hg
    isplitl [Hq0 Hq1]
    · isplitl [Hq0]; · iexact Hq0
      iexact Hq1
    iapply (kv_both c (kvs m c)).2; iexact HV

/-- The proof data of the one pipeline. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outBlock (tabs m) (lens m) (kvs m c) (iblk m hO c 0 t) (iblk m hO c 1 t) (iblk m hO c 2 t) (iblk m hO c 3 t) t.val
    | ⟨5, _⟩ => lseBlock (tabs m) (lens m) (kvs m c) (iblk m hO c 0 t) (iblk m hO c 1 t) (iblk m hO c 2 t) (iblk m hO c 3 t) t.val
  Φ t := iprop((Between c (tabs m) (lens m) (kvs m c) t.val ∗ (∃ r, prngReg c r)) ∗ tbPt0 c tbM0_0 (tabs m) ∗ tbPt0 c tbM0_1 (lens m))
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t
    = outBlock (tabs m) (lens m) (kvs m c) (iblk m hO c 0 t) (iblk m hO c 1 t) (iblk m hO c 2 t) (iblk m hO c 3 t) t.val := by dsimp only [dats]; try rfl
theorem after0_5 (hO : Ok m) (c : Dev nD) (t : Fin (cfgM m hO).N) : (dats m hO 0 c).after 5 t
    = lseBlock (tabs m) (lens m) (kvs m c) (iblk m hO c 0 t) (iblk m hO c 1 t) (iblk m hO c 2 t) (iblk m hO c 3 t) t.val := by dsimp only [dats]; try rfl

/-- Each input's buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is called with at point `t`, -/
def bodyPre (hO : Ok m) (c : Dev nD) (t : Fin (cfgM m hO).N) : sProp (MM F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MM F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

theorem coords_val : ∀ t : Fin 120, (grid0.coords t 0).val = t.val := by decide +kernel

variable (hl : ∀ x, ((lens m x : BitVec 32)).toNat ≤ 4096) (hw : ∀ x, ((tabs m x : BitVec 32)).toNat < 38400)
include hl hw

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have ht : t.val < 120 := t.isLt
  have hc : (grid0.coords t 0).val = t.val := coords_val t
  unfold bodyPre bodyPost bodyAt0
  simp only [before0_0, before0_1, before0_2, before0_3]
  rw [after0_0, after0_1, after0_2, after0_3, after0_4, after0_5]
  rw [show (dats m hO 0 c).Φ t.castSucc = iprop((Between c (tabs m) (lens m) (kvs m c) t.val ∗ (∃ r, prngReg c r)) ∗ tbPt0 c tbM0_0 (tabs m) ∗ tbPt0 c tbM0_1 (lens m)) from rfl,
    show (dats m hO 0 c).Φ t.succ = iprop((Between c (tabs m) (lens m) (kvs m c) (t.val + 1) ∗ (∃ r, prngReg c r)) ∗ tbPt0 c tbM0_0 (tabs m) ∗ tbPt0 c tbM0_1 (lens m)) from rfl,
    between_found c _ _ _ ht]
  unfold Dat.owesAt Pipeline.owesWithin
  rw [show (dats m hO 0 c).owed t.castSucc = 0 from rfl, show (dats m hO 0 c).owed t.succ = 0 from rfl]
  iintro ⟨⟨⟨HF, Hg⟩, HT, HL⟩, ⟨%W, -, HW⟩, ⟨%d0, H0⟩, ⟨%d1, H1⟩, ⟨%d2, H2⟩, ⟨%d3, H3⟩, ⟨%d4, H4⟩, ⟨%d5, H5⟩⟩
  have hb := body_wp c (tabs m) (lens m) (kvs m c) Variants.none none (grid0.coords t) (ms0_0 m hO t) (hs0_0 m hO t) (ms0_1 m hO t) (hs0_1 m hO t)
    (ms0_2 m hO t) (hs0_2 m hO t) (ms0_3 m hO t) (hs0_3 m hO t) (Memref.isWhole_whole _) (ms0_4 m hO t) (hs0_4 m hO t) (ms0_5 m hO t) (hs0_5 m hO t) (Memref.isWhole_whole _)
    hl hw (iblk m hO c 0 t) (iblk m hO c 1 t) (iblk m hO c 2 t) (iblk m hO c 3 t) (Q := fun _ => bodyPost m hO c t)
  rw [hc] at hb
  iapply hb
  isplitl [HF HT HL]
  · isplitl [HF]; · iexact HF
    isplitl [HT]; · iexact HT
    iexact HL
  isplitl [HW]; · iexists W; iexact HW
  isplitl [H0 H1 H2 H3]
  · isplitl [H0]; · iexact H0
    isplitl [H1]; · iexact H1
    isplitl [H2]; · iexact H2
    iexact H3
  isplitl [H4]; · iexists _; iexact H4
  isplitl [H5]; · iexists _; iexact H5
  iintro ⟨⟨HB, HT, HL⟩, ⟨%W', HW'⟩, ⟨H0, H1, H2, H3⟩, H4, H5⟩
  unfold bodyPost Dat.owesAt Pipeline.owesWithin
  rw [after0_0, after0_1, after0_2, after0_3, after0_4, after0_5,
    show (dats m hO 0 c).Φ t.succ = iprop((Between c (tabs m) (lens m) (kvs m c) (t.val + 1) ∗ (∃ r, prngReg c r)) ∗ tbPt0 c tbM0_0 (tabs m) ∗ tbPt0 c tbM0_1 (lens m)) from rfl,
    show (dats m hO 0 c).owed t.succ = 0 from rfl]
  isplitl [HB Hg HT HL]
  · isplitl [HB Hg]
    · isplitl [HB]
      · iapply (between_next c _ _ _ ht); iexact HB
      iexact Hg
    isplitl [HT]; · iexact HT
    iexact HL
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

omit hl hw in
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hl hw hO c t) rfl .rfl fun _ => .rfl

set_option backward.isDefEq.respectTransparency.types false in
/-- Every execution ends with every array as the proof data say, every other buffer as found, and every counter at zero. -/
theorem run_main_quiescent (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hl hw hO c).loose) (hshare := fun c => (dats m hO 0 c).share_full fun _ => rfl)
    (howed := fun _ _ => rfl) (V := V m) (hmain := hmain m Variants.none) (hA := A_eq m hO) (hpf := V_pre m)
    (hin := fun c => by
      rw [PhiT0_eq]
      change _ ⊢ iprop((Between c (tabs m) (lens m) (kvs m c) 0 ∗ (∃ r, prngReg c r)) ∗ tbPt0 c tbM0_0 (tabs m) ∗ tbPt0 c tbM0_1 (lens m))
      rw [between_found c _ _ _ (show 0 < 120 by decide), show Found c (tabs m) (lens m) (kvs m c) 0 = Fresh c (kvs m c) from if_pos rfl]
      iintro ⟨HD, HT⟩
      ihave HD' := (phi_fresh m c).1 $$ HD
      icases HD' with ⟨HF, Hg⟩
      isplitr [HT]
      · isplitl [HF] <;> iassumption
      iexact HT)
    (hout := fun c => by
      change iprop((Between c (tabs m) (lens m) (kvs m c) 120 ∗ (∃ r, prngReg c r)) ∗ tbPt0 c tbM0_0 (tabs m) ∗ tbPt0 c tbM0_1 (lens m)) ⊢ _
      rw [show Between c (tabs m) (lens m) (kvs m c) 120 = Fresh c (kvs m c) from if_pos rfl]
      iintro ⟨HF, -⟩
      iapply (phi_fresh m c).2
      iexact HF)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hl hw hO)

/-- The argument arrays end unchanged, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (fun c => (dats m hO 0 c).toR) (A_eq m hO)
      ((θ_run defs _ _).mono (fun _ h c => ⟨fun w => ((dats m hO 0 c).toR_arrAt_iff w _ _).mpr ((h c).1 w), (h c).2⟩) (run_main m ρ hl hw hO)))
    ((θ_run defs _ _).mono (fun _ h => h.2) (run_main_quiescent m ρ hl hw hO))

end Cert.Attend.Kernel

end
-- ==== Proof.Kernel.Range.lean ====
/- What the precondition says of the two tables: every page number of the page table names a page of the source array, and
   every length is at most the 4096 tokens a row of the page table can hold. -/
module

public import proofs.«01_k».proof.Proof.Kernel.Run
public import proofs.«01_k».proof.Defs

@[expose] public section

set_option maxRecDepth 16384

noncomputable section

namespace Cert.Attend.Kernel

open Cert.Kernel Cert.Kernel.Gen
open Idealize.ShloMosaic Idealize.ShloMosaic.TcCoe

/-- A signed word from zero up to below a small bound is, unsigned, below it. -/
theorem below_of_signed (a k : BitVec 32) (hk : k.toNat < 2 ^ 31) (h : IntOp.andi (IntOp.cmpi .sge a 0#32) (IntOp.cmpi .slt a k) = 1#1) :
    a.toNat < k.toNat := by
  have h0 : (0#32).sle a = true ∧ a.slt k = true := by
    revert h
    simp only [IntOp.andi, IntOp.cmpi]
    cases (0#32).sle a <;> cases a.slt k <;> simp
  have h1 := h0.1
  have h2 := h0.2
  simp only [BitVec.sle, BitVec.slt, decide_eq_true_eq, BitVec.toInt_eq_toNat_cond] at h1 h2
  have := a.isLt
  simp at h1 h2
  split at h1 <;> split at h2 <;> omega

/-- The same for a bound that is itself allowed. -/
theorem most_of_signed (a k : BitVec 32) (hk : k.toNat < 2 ^ 31) (h : IntOp.andi (IntOp.cmpi .sge a 0#32) (IntOp.cmpi .sle a k) = 1#1) :
    a.toNat ≤ k.toNat := by
  have h0 : (0#32).sle a = true ∧ a.sle k = true := by
    revert h
    simp only [IntOp.andi, IntOp.cmpi]
    cases (0#32).sle a <;> cases a.sle k <;> simp
  have h1 := h0.1
  have h2 := h0.2
  simp only [BitVec.sle, decide_eq_true_eq, BitVec.toInt_eq_toNat_cond] at h1 h2
  have := a.isLt
  simp at h1 h2
  split at h1 <;> split at h2 <;> omega

variable {F : FTy → Type} [FloatOps F]
variable (m : (ℓ : Loc nD τ sig) → Buf (Elt F) ℓ)

/-- The page numbers are in range when the precondition's first result says so. -/
theorem tabs_lt (h : ∀ i : S120x256.Idx, IntOp.andi (IntOp.cmpi .sge (m (((0 : Dev nD).tc : Thread nD τ).loc main_arg0) i) 0#32)
    (IntOp.cmpi .slt (m (((0 : Dev nD).tc : Thread nD τ).loc main_arg0) i) 38400#32) = 1#1) :
    ∀ x, (tabs m x : BitVec 32).toNat < 38400 := by
  intro x
  have e : tabs m = m (((0 : Dev nD).tc : Thread nD τ).loc main_arg0) := V_main_arg0 m 0
  rw [e]
  exact below_of_signed _ 38400#32 (by decide) (h x)

/-- The lengths are in range when the precondition's second result says so. -/
theorem lens_le (h : ∀ i : S120.Idx, IntOp.andi (IntOp.cmpi .sge (m (((0 : Dev nD).tc : Thread nD τ).loc main_arg1) i) 0#32)
    (IntOp.cmpi .sle (m (((0 : Dev nD).tc : Thread nD τ).loc main_arg1) i) 4096#32) = 1#1) :
    ∀ x, (lens m x : BitVec 32).toNat ≤ 4096 := by
  intro x
  have e : lens m = m (((0 : Dev nD).tc : Thread nD τ).loc main_arg1) := V_main_arg1 m 0
  rw [e]
  exact most_of_signed _ 4096#32 (by decide) (h x)

/-- No window's index map reads a table, so the pipeline's side condition on them is empty. -/
theorem ok : Ok m := by
  show True
  trivial

end Cert.Attend.Kernel

namespace Cert.Attend

open Cert.Kernel Cert.Kernel.Gen Cert.Attend.Kernel
open Idealize.ShloMosaic Idealize.ShloMosaic.TcCoe

/-- The frame of the attend call under the range precondition. -/
theorem frame_Kernel [hP : Cert.Pre_in_range.Facts] : Cert.quiescent_Kernel (hKernel := Cert.Kernel.Gen.facts) (hPre_in_range := hP) := by
  intro m g hpre
  exact frame m g (lens_le m fun i => congrFun (hpre 0).2 i) (tabs_lt m fun i => congrFun (hpre 0).1 i) (ok m)

end Cert.Attend

end
-- ==== Proof.KernelIdeal.Entry.lean ====
/- The attention call's surroundings: what its windows stage at a grid point, the buffers as the host operations
   leave them, the prefetched tables, and the invariant's parts listed one by one. -/
module

public import proofs.«01_k».proof.Proof.Gen.KernelIdeal.Loops
public import proofs.«01_k».proof.Proof.Gen.KernelIdeal.Launch
public import Idealize.ShloMosaic.Lib.Pipeline.FrameBody
public import Idealize.ShloMosaic.Lib.Pipeline.Frame
public import Idealize.ShloMosaic.Lib.Batch
public import Idealize.ShloMosaic.Lib.Tactic
public import Idealize.ShloMosaic.Lib.Exec
public import Idealize.ShloMosaic.Lib.Claim

@[expose] public section

noncomputable section

namespace Cert.Attend.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run. -/
abbrev MM (F : FTy → Type) : Type := MT nD τ sig Unit (Elt F) ℕ (Pipeline.UD sig nD τ) ℕ

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 3 (%24)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%27)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 5 (%26)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (result 0 (%28#0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_5 reads0_4 hreads0_4 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
/-- Window 5 (result 1 (%28#1)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_6 reads0_5 hreads0_5 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole main_arg6) (Memref.isWhole_whole _) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) cc0_scratch1

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S120x256 .i32 := Memref.whole main_arg0
abbrev htbM0_0 : tbM0_0.IsWhole := Memref.isWhole_whole _
abbrev tbM0_1 : Memref sig .tc .smem S120 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MM F) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MM F)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 0 rfl).trans ((hA c 0).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x48x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x32x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x32 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2x256x24x128 .i32 := Memref.whole cc0_scratch0
/-- The operands left in HBM that the body copies into scratch itself, whole. -/
abbrev hbM0_0 : Memref sig .tc .hbm S38400x24x128 .i32 := Memref.whole main_arg6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MM F) :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 12, SemLoc.dma 13] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 12) 0 ∗ semVal ((c : Thread nD τ), SemLoc.dma 13) 0) := by
  rw [Pipeline.ownSems0_eq_of_list c osem0 [0, 1] (by decide) (by decide)]; rfl
/-- The HBM operands the body moves, as references: unscoped, no window's array, no table (`Pipeline.restRefsP`). -/
def H0 : Finset (Ref sig .tc) := {main_arg6}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MM F)) = iprop(hbPt0 c hbM0_0 (V m c main_arg6)) := by
  rw [BI.bigSep_eq_bigSepL_of_eq [main_arg6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MM F))
      = iprop(iprop((∃ d, owns (c : Thread nD τ) scM0_0 fullShare d)) ∗ (∃ r, prngReg c r) ∗ iprop(semVal ((c : Thread nD τ), SemLoc.dma 12) 0 ∗ semVal ((c : Thread nD τ), SemLoc.dma 13) 0) ∗ iprop(hbPt0 c hbM0_0 (V m c main_arg6))) := by
  rw [Pipeline.ΦD_eq, scopedRest0_eq, ownSems00_eq, hbmPts0_eq]; simp only [scM0_0, owns_whole]; try rfl

end Cert.Attend.KernelIdeal

end
-- ==== Proof.KernelIdeal.Words.lean ====
/- The index arithmetic of the attention call: how many trips each counted loop makes for a sequence length up to
   4096, which slot a grid point uses, and at which offsets each trip loads, copies and waits. -/
module

public import proofs.«01_k».proof.Proof.KernelIdeal.Entry

@[expose] public section

namespace Cert.Attend.KernelIdeal

open Cert.KernelIdeal Cert.KernelIdeal.Gen
open Idealize.ShloMosaic Idealize.ShloMosaic.TcCoe

/-- Pages of sixteen tokens that `n` tokens occupy. -/
def npages (n : ℕ) : ℕ := (n + 15) / 16

/-- Chunks of 256 tokens that `n` tokens occupy. -/
def nchunks (n : ℕ) : ℕ := (n + 255) / 256

theorem npages_le {n : ℕ} (h : n ≤ 4096) : npages n ≤ 256 := by unfold npages; omega
theorem nchunks_le {n : ℕ} (h : n ≤ 4096) : nchunks n ≤ 16 := by unfold nchunks; omega

/-! ## The bounds of the counted loops -/

theorem issue_ub : ∀ n : Fin 4097, (k0_t1_loop (BitVec.ofNat 32 n.val)).ub = BitVec.ofNat 32 ((n.val + 15) / 16) := by
  decide +kernel
theorem chunk_ub : ∀ n : Fin 4097, (k0_t7_loop (BitVec.ofNat 32 n.val)).ub = BitVec.ofNat 32 ((n.val + 255) / 256) := by
  decide +kernel
theorem issue_rest : ∀ n : Fin 4097, (k0_t2_loop (BitVec.ofNat 32 n.val)).lb = BitVec.ofNat 32 ((n.val + 15) / 16)
    ∧ (k0_t2_loop (BitVec.ofNat 32 n.val)).ub = BitVec.ofNat 32 ((n.val + 15) / 16) := by
  decide +kernel
theorem chunk_rest : ∀ n : Fin 4097, (k0_t8_loop (BitVec.ofNat 32 n.val)).lb = BitVec.ofNat 32 ((n.val + 255) / 256)
    ∧ (k0_t8_loop (BitVec.ofNat 32 n.val)).ub = BitVec.ofNat 32 ((n.val + 255) / 256) := by
  decide +kernel

theorem trips_up : ∀ k : Fin 257, Scf.trips 0#32 (BitVec.ofNat 32 k.val) 1#32 = k.val ∧ Scf.OK 0#32 (BitVec.ofNat 32 k.val) 1#32
    ∧ Scf.trips (BitVec.ofNat 32 k.val) (BitVec.ofNat 32 k.val) 1#32 = 0
    ∧ Scf.OK (BitVec.ofNat 32 k.val) (BitVec.ofNat 32 k.val) 1#32 := by
  decide +kernel

section
variable {v : BitVec 32} (h : v.toNat ≤ 4096)
include h

theorem ofNat_self : BitVec.ofNat 32 (⟨v.toNat, by omega⟩ : Fin 4097).val = v := by simp

theorem t1_trips : (k0_t1_loop v).trips = npages v.toNat := by
  have e := issue_ub ⟨v.toNat, by omega⟩
  rw [ofNat_self h] at e
  show Scf.trips 0#32 (k0_t1_loop v).ub 1#32 = _
  rw [e]; exact (trips_up ⟨(v.toNat + 15) / 16, by omega⟩).1
theorem t1_ok : (k0_t1_loop v).OK := by
  have e := issue_ub ⟨v.toNat, by omega⟩
  rw [ofNat_self h] at e
  show Scf.OK 0#32 (k0_t1_loop v).ub 1#32
  rw [e]; exact (trips_up ⟨(v.toNat + 15) / 16, by omega⟩).2.1
theorem t2_trips : (k0_t2_loop v).trips = 0 := by
  have e := issue_rest ⟨v.toNat, by omega⟩
  rw [ofNat_self h] at e
  show Scf.trips (k0_t2_loop v).lb (k0_t2_loop v).ub 1#32 = _
  rw [e.1, e.2]; exact (trips_up ⟨(v.toNat + 15) / 16, by omega⟩).2.2.1
theorem t2_ok : (k0_t2_loop v).OK := by
  have e := issue_rest ⟨v.toNat, by omega⟩
  rw [ofNat_self h] at e
  show Scf.OK (k0_t2_loop v).lb (k0_t2_loop v).ub 1#32
  rw [e.1, e.2]; exact (trips_up ⟨(v.toNat + 15) / 16, by omega⟩).2.2.2
theorem t3_trips : (k0_t3_loop v).trips = npages v.toNat := t1_trips h
theorem t3_ok : (k0_t3_loop v).OK := t1_ok h
theorem t4_trips : (k0_t4_loop v).trips = 0 := t2_trips h
theorem t4_ok : (k0_t4_loop v).OK := t2_ok h
theorem t5_trips : (k0_t5_loop v).trips = npages v.toNat := t1_trips h
theorem t5_ok : (k0_t5_loop v).OK := t1_ok h
theorem t6_trips : (k0_t6_loop v).trips = 0 := t2_trips h
theorem t6_ok : (k0_t6_loop v).OK := t2_ok h
theorem t7_trips : (k0_t7_loop v).trips = nchunks v.toNat := by
  have e := chunk_ub ⟨v.toNat, by omega⟩
  rw [ofNat_self h] at e
  show Scf.trips 0#32 (k0_t7_loop v).ub 1#32 = _
  rw [e]; exact (trips_up ⟨(v.toNat + 255) / 256, by omega⟩).1
theorem t7_ok : (k0_t7_loop v).OK := by
  have e := chunk_ub ⟨v.toNat, by omega⟩
  rw [ofNat_self h] at e
  show Scf.OK 0#32 (k0_t7_loop v).ub 1#32
  rw [e]; exact (trips_up ⟨(v.toNat + 255) / 256, by omega⟩).2.1
theorem t8_trips : (k0_t8_loop v).trips = 0 := by
  have e := chunk_rest ⟨v.toNat, by omega⟩
  rw [ofNat_self h] at e
  show Scf.trips (k0_t8_loop v).lb (k0_t8_loop v).ub 1#32 = _
  rw [e.1, e.2]; exact (trips_up ⟨(v.toNat + 255) / 256, by omega⟩).2.2.1
theorem t8_ok : (k0_t8_loop v).OK := by
  have e := chunk_rest ⟨v.toNat, by omega⟩
  rw [ofNat_self h] at e
  show Scf.OK (k0_t8_loop v).lb (k0_t8_loop v).ub 1#32
  rw [e.1, e.2]; exact (trips_up ⟨(v.toNat + 255) / 256, by omega⟩).2.2.2

theorem t1_lt (k : Fin (k0_t1_loop v).trips) : k.val < npages v.toNat := lt_of_lt_of_eq k.isLt (t1_trips h)
theorem t3_lt (k : Fin (k0_t3_loop v).trips) : k.val < npages v.toNat := lt_of_lt_of_eq k.isLt (t3_trips h)
theorem t5_lt (k : Fin (k0_t5_loop v).trips) : k.val < npages v.toNat := lt_of_lt_of_eq k.isLt (t5_trips h)
theorem t7_lt (k : Fin (k0_t7_loop v).trips) : k.val < nchunks v.toNat := lt_of_lt_of_eq k.isLt (t7_trips h)
theorem t2_empty (k : Fin (k0_t2_loop v).trips) : False := Nat.not_lt_zero k.val (lt_of_lt_of_eq k.isLt (t2_trips h))
theorem t4_empty (k : Fin (k0_t4_loop v).trips) : False := Nat.not_lt_zero k.val (lt_of_lt_of_eq k.isLt (t4_trips h))
theorem t6_empty (k : Fin (k0_t6_loop v).trips) : False := Nat.not_lt_zero k.val (lt_of_lt_of_eq k.isLt (t6_trips h))
theorem t8_empty (k : Fin (k0_t8_loop v).trips) : False := Nat.not_lt_zero k.val (lt_of_lt_of_eq k.isLt (t8_trips h))
end

/-! ## Trip words and slots -/

/-- The loop variable of trip `k`, times one, plus zero. -/
theorem trip_word : ∀ k : Fin 257, (Scalar.addi 0#32 (Scalar.muli (Scf.iv 0#32 1#32 k.val) 1#32)).toNat = k.val := by
  decide +kernel
theorem chunk_word : ∀ k : Fin 17, (Scalar.indexCast (Scalar.muli (Scf.iv 0#32 1#32 k.val) 16#32)).toNat = k.val * 16 := by
  decide +kernel

/-- The slot of grid point `b`, `b mod 2`, as the kernel computes it. -/
def slotW (b : BitVec 32) : BitVec 32 :=
  let w : BitVec 32 := Scalar.select (Scalar.cmpi .eq 2#32 0#32) 1#32 2#32
  let r : BitVec 32 := Scalar.remsi b w
  Scalar.select (Scalar.andi (Scalar.xori (Scalar.cmpi .slt r 0#32) (Scalar.cmpi .slt w 0#32)) (Scalar.cmpi .ne r 0#32))
    (Scalar.addi r w) r

theorem slotW_eq : ∀ b : Fin 120, (slotW (BitVec.ofNat 32 b.val)).toNat = b.val % 2
    ∧ (Scalar.subi 1#32 (slotW (BitVec.ofNat 32 b.val))).toNat = (b.val + 1) % 2
    ∧ (BitVec.ofNat 32 b.val).toNat = b.val
    ∧ (Scalar.addi (BitVec.ofNat 32 b.val) 1#32).toNat = b.val + 1 := by
  decide +kernel

theorem cond1_iff (i : grid0.Coords) : k0_cond1 i = 1#1 ↔ (i 0).val = 0 :=
  (by decide +kernel : ∀ b : Fin 120, Scalar.cmpi .ne (Scalar.extui (Scalar.cmpi .eq (BitVec.ofNat 32 b.val) 0#32) : BitVec 32) 0#32 = 1#1 ↔ b.val = 0) (i 0)
theorem cond2_iff (i : grid0.Coords) : k0_cond2 i = 1#1 ↔ (i 0).val + 1 < 120 :=
  (by decide +kernel : ∀ b : Fin 120, Scalar.cmpi .ne (Scalar.extui (Scalar.cmpi .slt (Scalar.addi (BitVec.ofNat 32 b.val) 1#32) 120#32) : BitVec 32) 0#32 = 1#1 ↔ b.val + 1 < 120) (i 0)

/-! ## Offsets -/

section
variable (i : grid0.Coords)

theorem off7_eq : k0_off7 i = ![(i 0).val + 1] := by
  show ![(Scalar.addi (BitVec.ofNat 32 (i 0).val) 1#32).toNat] = _
  rw [(slotW_eq (i 0)).2.2.2]
theorem off16_eq : k0_off16 i = ![(i 0).val] := by
  show ![(BitVec.ofNat 32 (i 0).val).toNat] = _
  rw [(slotW_eq (i 0)).2.2.1]
theorem off25_eq : k0_off25 i = ![(i 0).val] := off16_eq i
theorem off9_eq : k0_off9 i = ![((i 0).val + 1) % 2] := by
  show ![(Scalar.subi 1#32 (slotW (BitVec.ofNat 32 (i 0).val))).toNat] = _
  rw [(slotW_eq (i 0)).2.1]
theorem off18_eq : k0_off18 i = ![(i 0).val % 2] := by
  show ![(slotW (BitVec.ofNat 32 (i 0).val)).toNat] = _
  rw [(slotW_eq (i 0)).1]

variable {v : BitVec 32} (h : v.toNat ≤ 4096)
include h

theorem off1_eq (k : Fin (k0_t1_loop v).trips) : k0_off1 v k = ![0, k.val] := by
  have hk := t1_lt h k; have := npages_le h
  show ![0, (Scalar.addi 0#32 (Scalar.muli (Scf.iv 0#32 1#32 k.val) 1#32)).toNat] = _
  rw [trip_word ⟨k.val, by omega⟩]
theorem off2_eq (k : Fin (k0_t1_loop v).trips) : k0_off2 v k = ![0, k.val, 0, 0] := by
  have hk := t1_lt h k; have := npages_le h
  show ![0, (Scalar.addi 0#32 (Scalar.muli (Scf.iv 0#32 1#32 k.val) 1#32)).toNat, 0, 0] = _
  rw [trip_word ⟨k.val, by omega⟩]
theorem off8_eq (k : Fin (k0_t3_loop v).trips) : k0_off8 i v k = ![(i 0).val + 1, k.val] := by
  have hk := t3_lt h k; have := npages_le h
  show ![(Scalar.addi (BitVec.ofNat 32 (i 0).val) 1#32).toNat, (Scalar.addi 0#32 (Scalar.muli (Scf.iv 0#32 1#32 k.val) 1#32)).toNat] = _
  rw [trip_word ⟨k.val, by omega⟩, (slotW_eq (i 0)).2.2.2]
theorem off10_eq (k : Fin (k0_t3_loop v).trips) : k0_off10 i v k = ![((i 0).val + 1) % 2, k.val, 0, 0] := by
  have hk := t3_lt h k; have := npages_le h
  show ![(Scalar.subi 1#32 (slotW (BitVec.ofNat 32 (i 0).val))).toNat, (Scalar.addi 0#32 (Scalar.muli (Scf.iv 0#32 1#32 k.val) 1#32)).toNat, 0, 0] = _
  rw [trip_word ⟨k.val, by omega⟩, (slotW_eq (i 0)).2.1]
theorem off17_eq (k : Fin (k0_t5_loop v).trips) : k0_off17 i v k = ![(i 0).val, k.val] := by
  have hk := t5_lt h k; have := npages_le h
  show ![(BitVec.ofNat 32 (i 0).val).toNat, (Scalar.addi 0#32 (Scalar.muli (Scf.iv 0#32 1#32 k.val) 1#32)).toNat] = _
  rw [trip_word ⟨k.val, by omega⟩, (slotW_eq (i 0)).2.2.1]
theorem off19_eq (k : Fin (k0_t5_loop v).trips) : k0_off19 i v k = ![(i 0).val % 2, k.val, 0, 0] := by
  have hk := t5_lt h k; have := npages_le h
  show ![(slotW (BitVec.ofNat 32 (i 0).val)).toNat, (Scalar.addi 0#32 (Scalar.muli (Scf.iv 0#32 1#32 k.val) 1#32)).toNat, 0, 0] = _
  rw [trip_word ⟨k.val, by omega⟩, (slotW_eq (i 0)).1]

theorem offChunk (k : Fin (k0_t7_loop v).trips) (r : ℕ) :
    ![(Scalar.indexCast (slotW (BitVec.ofNat 32 (i 0).val)) : BitVec 32).toNat, (Scalar.indexCast (Scalar.muli (Scf.iv 0#32 1#32 k.val) 16#32)).toNat, r, 0]
      = ![(i 0).val % 2, k.val * 16, r, 0] := by
  have hk := t7_lt h k; have := nchunks_le h
  rw [chunk_word ⟨k.val, by omega⟩]
  show ![(slotW (BitVec.ofNat 32 (i 0).val)).toNat, _, _, _] = _
  rw [(slotW_eq (i 0)).1]
theorem off26_eq (k : Fin (k0_t7_loop v).trips) : k0_off26 i v k = ![(i 0).val % 2, k.val * 16, 16, 0] := offChunk i h k 16
theorem off27_eq (k : Fin (k0_t7_loop v).trips) : k0_off27 i v k = ![(i 0).val % 2, k.val * 16, 0, 0] := offChunk i h k 0
theorem off28_eq (k : Fin (k0_t7_loop v).trips) : k0_off28 i v k = ![(i 0).val % 2, k.val * 16, 4, 0] := offChunk i h k 4
theorem off29_eq (k : Fin (k0_t7_loop v).trips) : k0_off29 i v k = ![(i 0).val % 2, k.val * 16, 8, 0] := offChunk i h k 8
theorem off30_eq (k : Fin (k0_t7_loop v).trips) : k0_off30 i v k = ![(i 0).val % 2, k.val * 16, 12, 0] := offChunk i h k 12

/-! ## The side conditions the program assumes -/

theorem chk1_of : k0_chk1 i v := by
  have := npages_le h
  refine ⟨fun _ => t1_ok h, fun k _ => ?_, fun k _ => ?_, fun _ => t2_ok h, fun k => (t2_empty h k).elim, fun k => (t2_empty h k).elim⟩
  · have := t1_lt h k; rw [off1_eq h]; intro a; fin_cases a <;> simp [S1x1, S120x256] <;> omega
  · have := t1_lt h k; rw [off2_eq h]; intro a; fin_cases a <;> simp [S1x1x24x128, S2x256x24x128] <;> omega
theorem chk4_of : k0_chk4 i v := by
  have := npages_le h
  refine ⟨fun _ => t3_ok h, fun k h2 => ?_, fun k _ => ?_, fun _ => t4_ok h, fun k => (t4_empty h k).elim, fun k => (t4_empty h k).elim⟩
  · have := t3_lt h k; have := (cond2_iff i).mp h2; rw [off8_eq i h]; intro a; fin_cases a <;> simp [S1x1, S120x256] <;> omega
  · have := t3_lt h k; rw [off10_eq i h]; intro a; fin_cases a <;> simp [S1x1x24x128, S2x256x24x128] <;> omega
theorem chk7_of : k0_chk7 i v := by
  have := npages_le h
  have hi : (i 0).val < 120 := (i 0).isLt
  refine ⟨t5_ok h, fun k => ?_, fun k => ?_, t6_ok h, fun k => (t6_empty h k).elim, fun k => (t6_empty h k).elim⟩
  · have := t5_lt h k; rw [off17_eq i h]; intro a; fin_cases a <;> simp [S1x1, S120x256] <;> omega
  · have := t5_lt h k; rw [off19_eq i h]; intro a; fin_cases a <;> simp [S1x1x24x128, S2x256x24x128] <;> omega
theorem chk10_of : k0_chk10 i v := by
  have := nchunks_le h
  refine ⟨t7_ok h, fun k => ?_, fun k => ?_, fun k => ?_, fun k => ?_, fun k => ?_, t8_ok h, fun k => (t8_empty h k).elim,
    fun k => (t8_empty h k).elim, fun k => (t8_empty h k).elim, fun k => (t8_empty h k).elim, fun k => (t8_empty h k).elim⟩
  · have := t7_lt h k; rw [off26_eq i h]; intro a; fin_cases a <;> simp [S1x16x8x128, S2x256x24x128] <;> omega
  · have := t7_lt h k; rw [off27_eq i h]; intro a; fin_cases a <;> simp [S1x16x4x128, S2x256x24x128] <;> omega
  · have := t7_lt h k; rw [off28_eq i h]; intro a; fin_cases a <;> simp [S1x16x4x128, S2x256x24x128] <;> omega
  · have := t7_lt h k; rw [off29_eq i h]; intro a; fin_cases a <;> simp [S1x16x4x128, S2x256x24x128] <;> omega
  · have := t7_lt h k; rw [off30_eq i h]; intro a; fin_cases a <;> simp [S1x16x4x128, S2x256x24x128] <;> omega
end

/-- A page number of the table is a page of the pool. -/
theorem page_inb {w : BitVec 32} (hw : w.toNat < 38400) : ∀ a, k0_off3 w a + S1x24x128.size a ≤ S38400x24x128.size a := by
  show ∀ a, (![w.toNat, 0, 0] : Fin 3 → ℕ) a + S1x24x128.size a ≤ S38400x24x128.size a
  intro a; fin_cases a <;> simp [S1x24x128, S38400x24x128] <;> omega
theorem chk2_of (i : grid0.Coords) {w : BitVec 32} (hw : w.toNat < 38400) : k0_chk2 i w := fun _ => page_inb hw
theorem chk5_of (i : grid0.Coords) {w : BitVec 32} (hw : w.toNat < 38400) : k0_chk5 i w := fun _ => page_inb hw
theorem chk8_of {w : BitVec 32} (hw : w.toNat < 38400) : k0_chk8 w := page_inb hw

end Cert.Attend.KernelIdeal
-- ==== Proof.KernelIdeal.Views.lean ====
/- The kernel's views by coordinates: a page of the scratch, a page of the source array, a word of a table, the
   semaphore of a slot. Each is named at literal offsets; the kernel's own views are these once their offsets are known. -/
module

public import proofs.«01_k».proof.Proof.KernelIdeal.Entry
public import proofs.«01_k».proof.Proof.KernelIdeal.Words
public import Idealize.ShloMosaic.Lib.ValueIdx
public import Idealize.ShloMosaic.Lib.Pipeline.ValueKit.Geometry

@[expose] public section

noncomputable section

namespace Cert.Attend.KernelIdeal

open Cert.KernelIdeal Cert.KernelIdeal.Gen
open Idealize.ShloMosaic Idealize.ShloMosaic.TcCoe Idealize.ShloMosaic.Tactic Idealize.ShloMosaic.ValueIdx

variable {F : FTy → Type} [FloatOps F]

/-! ## A page of the scratch -/

/-- A page of the scratch, at offsets `off`. -/
abbrev pageM (off : Fin 4 → ℕ) (h : ∀ a, off a + S1x1x24x128.size a ≤ S2x256x24x128.size a) : Memref sig .tc .vmem S24x128 .i32 :=
  (scM0_0.slice (Rect.unit (s := S2x256x24x128) off S1x1x24x128.size h) (fun _ => rfl)).squeeze S24x128 squeezes_S1x1x24x128_S24x128

/-- A page of the source array, at offsets `off`. -/
abbrev srcM (off : Fin 3 → ℕ) (h : ∀ a, off a + S1x24x128.size a ≤ S38400x24x128.size a) : Memref sig .tc .hbm S24x128 .i32 :=
  (hbM0_0.slice (Rect.unit (s := S38400x24x128) off S1x24x128.size h) (fun _ => rfl)).squeeze S24x128 squeezes_S1x24x128_S24x128

theorem squeeze_two (h : S24x128.numel = S1x1x24x128.numel) (x : S24x128.Idx) :
    Shape.reshapeEquiv h x = (ix4 0 0 (x 0) (x 1) : S1x1x24x128.Idx) := by
  have h1 : S24x128.numel = S1x24x128.numel := by decide
  have h2 : S1x24x128.numel = S1x1x24x128.numel := by decide
  have e1 : Shape.reshapeEquiv h1 x = (Fin.cons ⟨0, Nat.one_pos⟩ x : S1x24x128.Idx) := Shape.reshapeEquiv_cons_one h1 x
  have e2 := Shape.reshapeEquiv_cons_one h2 (Shape.reshapeEquiv h1 x)
  have e3 := Shape.reshapeEquiv_reshapeEquiv h2 h1 x
  rw [e1] at e2 e3
  refine (e3.symm.trans e2).trans ?_
  funext a; fin_cases a <;> rfl

theorem squeeze_one (h : S24x128.numel = S1x24x128.numel) (x : S24x128.Idx) :
    Shape.reshapeEquiv h x = (ix3 0 (x 0) (x 1) : S1x24x128.Idx) := by
  refine (Shape.reshapeEquiv_cons_one h x).trans ?_
  funext a; fin_cases a <;> rfl

theorem pageM_emb_val {off : Fin 4 → ℕ} (h) (x : S24x128.Idx) (a : Fin 4) :
    (((pageM off h).view.emb x : S2x256x24x128.Idx) a : ℕ) = off a + ((ix4 0 0 (x 0) (x 1) : S1x1x24x128.Idx) a : ℕ) := by
  rw [← squeeze_two (by decide) x]
  exact ValueKit.rect_emb_unit_val (s := S2x256x24x128) off S1x1x24x128.size h _ a

theorem srcM_emb_val {off : Fin 3 → ℕ} (h) (x : S24x128.Idx) (a : Fin 3) :
    (((srcM off h).view.emb x : S38400x24x128.Idx) a : ℕ) = off a + ((ix3 0 (x 0) (x 1) : S1x24x128.Idx) a : ℕ) := by
  rw [← squeeze_one (by decide) x]
  exact ValueKit.rect_emb_unit_val (s := S38400x24x128) off S1x24x128.size h _ a

/-- The elements of page `j` of slot `s`. -/
def pg (s j : ℕ) : Finset S2x256x24x128.Idx := Finset.univ.filter fun y => (y 0).val = s ∧ (y 1).val = j
/-- The elements of slot `s`. -/
def sl (s : ℕ) : Finset S2x256x24x128.Idx := Finset.univ.filter fun y => (y 0).val = s
/-- The elements of slot `s` from page `n` on. -/
def rs (s n : ℕ) : Finset S2x256x24x128.Idx := Finset.univ.filter fun y => (y 0).val = s ∧ n ≤ (y 1).val

theorem mem_pg {s j : ℕ} {y : S2x256x24x128.Idx} : y ∈ pg s j ↔ (y 0).val = s ∧ (y 1).val = j := by simp [pg]
theorem mem_sl {s : ℕ} {y : S2x256x24x128.Idx} : y ∈ sl s ↔ (y 0).val = s := by simp [sl]
theorem mem_rs {s n : ℕ} {y : S2x256x24x128.Idx} : y ∈ rs s n ↔ (y 0).val = s ∧ n ≤ (y 1).val := by simp [rs]

/-- The elements of page `w` of the source array. -/
def srcSet (w : ℕ) : Finset S38400x24x128.Idx := Finset.univ.filter fun y => (y 0).val = w

/-- The page's view covers its elements. -/
theorem pageM_set {off : Fin 4 → ℕ} (h) {s j : ℕ} (e : off = ![s, j, 0, 0]) : ((pageM off h).view.set : Finset S2x256x24x128.Idx) = pg s j := by
  subst e
  ext y
  refine (Iff.of_eq (congrArg (y ∈ ·) ((View.set_reshape _ _).trans (View.set_slice_whole cc0_scratch0 _)))).trans ?_
  rw [mem_pg, Rect.mem_set_unit]
  have h2 : (y 2).val < 24 := (y 2).isLt
  have h3 : (y 3).val < 128 := (y 3).isLt
  constructor
  · intro H
    have a0 : s ≤ (y 0).val ∧ (y 0).val < s + 1 := H 0
    have a1 : j ≤ (y 1).val ∧ (y 1).val < j + 1 := H 1
    omega
  · rintro ⟨e0, e1⟩ a
    fin_cases a
    · show s ≤ (y 0).val ∧ (y 0).val < s + 1; omega
    · show j ≤ (y 1).val ∧ (y 1).val < j + 1; omega
    · show 0 ≤ (y 2).val ∧ (y 2).val < 0 + 24; omega
    · show 0 ≤ (y 3).val ∧ (y 3).val < 0 + 128; omega

theorem srcM_set {off : Fin 3 → ℕ} (h) {w : ℕ} (e : off = ![w, 0, 0]) : ((srcM off h).view.set : Finset S38400x24x128.Idx) = srcSet w := by
  subst e
  ext y
  refine (Iff.of_eq (congrArg (y ∈ ·) ((View.set_reshape _ _).trans (View.set_slice_whole main_arg6 _)))).trans ?_
  rw [show y ∈ srcSet w ↔ (y 0).val = w by simp [srcSet], Rect.mem_set_unit]
  have h2 : (y 1).val < 24 := (y 1).isLt
  have h3 : (y 2).val < 128 := (y 2).isLt
  constructor
  · intro H
    have a0 : w ≤ (y 0).val ∧ (y 0).val < w + 1 := H 0
    omega
  · intro e0 a
    fin_cases a
    · show w ≤ (y 0).val ∧ (y 0).val < w + 1; omega
    · show 0 ≤ (y 1).val ∧ (y 1).val < 0 + 24; omega
    · show 0 ≤ (y 2).val ∧ (y 2).val < 0 + 128; omega

/-- What a page's transfer leaves on the page: the source page, place by place. -/
theorem page_write {off : Fin 4 → ℕ} (h) {off' : Fin 3 → ℕ} (h') {s j : ℕ} {w : Fin 38400} (e : off = ![s, j, 0, 0]) (e' : off' = ![w.val, 0, 0])
    (f : S2x256x24x128.Idx → Elt F .i32) (kv : S38400x24x128.Idx → Elt F .i32) {y : S2x256x24x128.Idx} (hy : y ∈ pg s j) :
    ((pageM off h).view.write (Elt F) f ((srcM off' h').view.read (Elt F) kv) Finset.univ : S2x256x24x128.Idx → Elt F .i32) y
      = kv (ix3 w (y 2) (y 3)) := by
  rw [← pageM_set h e] at hy
  obtain ⟨x, -, hx⟩ := Finset.mem_map.mp hy
  have hv : ∀ a : Fin 4, (y a : ℕ) = off a + ((ix4 0 0 (x 0) (x 1) : S1x1x24x128.Idx) a : ℕ) := fun a => by
    rw [← pageM_emb_val h x a]; exact congrArg (fun z : S2x256x24x128.Idx => (z a : ℕ)) hx.symm
  have hw := View.write_emb_of_mem (v := (pageM off h).view) (Val := Elt F) f ((srcM off' h').view.read (Elt F) kv) (Finset.mem_univ x)
  refine ((congrArg _ hx.symm).trans hw).trans ?_
  show kv ((srcM off' h').view.emb x) = _
  subst e; subst e'
  have h2 := hv 2
  have h3 := hv 3
  refine congrArg kv (funext fun a => Fin.ext ?_)
  refine (srcM_emb_val h' x a).trans ?_
  fin_cases a
  · rfl
  · show 0 + (x 0 : ℕ) = (y 2 : ℕ)
    rw [h2]; rfl
  · show 0 + (x 1 : ℕ) = (y 3 : ℕ)
    rw [h3]; rfl

/-! ## The words a transfer credits -/

/-- What one page's transfer adds to its semaphore. -/
def NB : ℕ := (pageM ![0, 0, 0, 0] (by decide)).view.dmaCredit

theorem NB_pos : 0 < NB := View.dmaCredit_pos _ (by decide)
theorem NB_eq {off : Fin 4 → ℕ} (h) : (pageM off h).view.dmaCredit = NB := rfl
theorem NB_amount {off : Fin 4 → ℕ} (h) (d : DmaSem sig) : (pageM off h).view.amount (.dma d) = NB := rfl

/-! ## The slots' semaphores -/

/-- Slot `s`'s semaphore. -/
def dsem (s : ℕ) : DmaSem sig := if s = 0 then 12 else 13

theorem sem_eq {off : Fin 1 → ℕ} (h : ∀ a, off a + S1.size a ≤ S2.size a) {s : ℕ} (hs : s < 2) (e : off = ![s]) :
    ((cc0_scratch1.slice (Rect.unit (s := S2) off S1.size h)).squeeze S_ squeezes_S1_S_).sem = dsem s := by
  subst e
  have key : ∀ j : S1.Idx, (Rect.unit (s := S2) ![s] S1.size h).emb j = (ix1 ⟨s, hs⟩ : S2.Idx) := fun j => by
    have hj : (j 0 : ℕ) < 1 := (j 0).isLt
    funext a; refine Fin.ext ((ValueKit.rect_emb_unit_val _ _ _ j a).trans ?_)
    fin_cases a
    show s + (j 0 : ℕ) = s; omega
  have cell : ∀ y : Fin 2, cc0_scratch1.ix (ix1 y : S2.Idx) = dsem y.val := by decide
  show cc0_scratch1.ix ((Rect.unit (s := S2) ![s] S1.size h).emb _) = dsem s
  rw [key]; exact cell ⟨s, hs⟩

/-! ## A table's words -/

theorem table_read {off : Fin 2 → ℕ} (h) {b : Fin 120} {j : Fin 256} (e : off = ![b.val, j.val]) (tb : S120x256.Idx → Elt F .i32) (x) :
    tbM0_0.view.readAt (Elt F) (Rect.unit (s := S120x256) off S1x1.size h).toLoadRect tb x = tb (ix2 b j) := by
  subst e
  rw [View.readAt_rect]
  refine congrArg tb (funext fun a => Fin.ext ?_)
  refine (ValueKit.rect_emb_unit_val _ _ _ x a).trans ?_
  have h0 : (x 0 : ℕ) < 1 := (x 0).isLt
  have h1 : (x 1 : ℕ) < 1 := (x 1).isLt
  fin_cases a
  · show b.val + (x 0 : ℕ) = b.val; omega
  · show j.val + (x 1 : ℕ) = j.val; omega

theorem lens_read {off : Fin 1 → ℕ} (h) {b : Fin 120} (e : off = ![b.val]) (ln : S120.Idx → Elt F .i32) (x) :
    tbM0_1.view.readAt (Elt F) (Rect.unit (s := S120) off S1.size h).toLoadRect ln x = ln (ix1 b) := by
  subst e
  rw [View.readAt_rect]
  refine congrArg ln (funext fun a => Fin.ext ?_)
  refine (ValueKit.rect_emb_unit_val _ _ _ x a).trans ?_
  have h0 : (x 0 : ℕ) < 1 := (x 0).isLt
  fin_cases a
  show b.val + (x 0 : ℕ) = b.val; omega

end Cert.Attend.KernelIdeal

end
-- ==== Proof.KernelIdeal.Slots.lean ====
/- The two slots of the scratch across the grid. What a slot holds before each point, a slot owned by the core, a slot
   whose pages are on their way, and the steps between the two: the issue of a slot's transfers and their collection. -/
module

public import proofs.«01_k».proof.Proof.KernelIdeal.Views

@[expose] public section

noncomputable section

namespace Cert.Attend.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the scratch, of the source array, of the page table and of the lengths. -/
abbrev Scr (F : FTy → Type) : Type := S2x256x24x128.Idx → Elt F .i32
abbrev Kvs (F : FTy → Type) : Type := S38400x24x128.Idx → Elt F .i32
abbrev Tab (F : FTy → Type) : Type := S120x256.Idx → Elt F .i32
abbrev Len (F : FTy → Type) : Type := S120.Idx → Elt F .i32

/-- The word of the table for sequence `b`, page `j`. -/
def pageWord (tb : Tab F) (b j : ℕ) : BitVec 32 := tb (ix2 ⟨b % 120, Nat.mod_lt _ (by decide)⟩ ⟨j % 256, Nat.mod_lt _ (by decide)⟩)
/-- The page of the source array it names. -/
def pageW (tb : Tab F) (b j : ℕ) : Fin 38400 := ⟨(pageWord tb b j).toNat % 38400, Nat.mod_lt _ (by decide)⟩
/-- The length of sequence `b`. -/
def lenW (ln : Len F) (b : ℕ) : BitVec 32 := ln (ix1 ⟨b % 120, Nat.mod_lt _ (by decide)⟩)
/-- The number of its pages. -/
def npg (ln : Len F) (b : ℕ) : ℕ := npages (lenW ln b).toNat

/-- What the scratch holds once the transfers of the points before `t` have landed: zeros at first, then each point's
    pages over what its slot held. -/
def G (tb : Tab F) (ln : Len F) (kv : Kvs F) : ℕ → Scr F
  | 0 => fun _ => (0#32 : BitVec 32)
  | t + 1 => fun y => if (y 0).val = t % 2 ∧ (y 1).val < npg ln t then kv (ix3 (pageW tb t (y 1).val) (y 2) (y 3)) else G tb ln kv t y

section
variable (c : Dev nD)

/-- Elements of the scratch, owned. -/
abbrev scPt (S : Finset S2x256x24x128.Idx) (f : Scr F) : sProp (MM F) := scM0_0.view.loc (c : Thread nD τ) ↦[S]{fullShare} f
/-- Elements of the source array, held at a share. -/
abbrev kvPt (kv : Kvs F) (q : PosShare TreeShare) (S : Finset S38400x24x128.Idx) : sProp (MM F) := hbM0_0.view.loc (c : Thread nD τ) ↦[S]{q} kv
/-- Slot `s`, owned. -/
abbrev Own (s : ℕ) (f : Scr F) : sProp (MM F) := scPt c (sl s) f
/-- Slot `s`'s half of the source array. -/
def hq (s : ℕ) : PosShare TreeShare := if s = 0 then fullShare.left else fullShare.right
abbrev kvHalf (kv : Kvs F) (s : ℕ) : sProp (MM F) := kvPt c kv (hq s) Finset.univ
/-- Slot `s`'s semaphore at zero. -/
abbrev sem0 (s : ℕ) : sProp (MM F) := semVal ((c : Thread nD τ), SemLoc.dma (dsem s)) 0

/-! ## A slot as its pages -/

theorem sl_pages (s n : ℕ) : sl s = (Finset.univ : Finset (Fin n)).biUnion (fun j => pg s j.val) ∪ rs s n := by
  ext y
  simp only [Finset.mem_union, Finset.mem_biUnion, Finset.mem_univ, true_and, mem_sl, mem_pg, mem_rs]
  constructor
  · intro h
    by_cases hn : (y 1).val < n
    · exact Or.inl ⟨⟨(y 1).val, hn⟩, h, rfl⟩
    · exact Or.inr ⟨h, by omega⟩
  · rintro (⟨j, h, -⟩ | ⟨h, -⟩) <;> exact h

theorem pages_disjoint (s n : ℕ) : Disjoint ((Finset.univ : Finset (Fin n)).biUnion (fun j => pg s j.val)) (rs s n) := by
  rw [Finset.disjoint_left]
  intro y hy hy'
  obtain ⟨j, -, hj⟩ := Finset.mem_biUnion.mp hy
  have h1 := (mem_pg.mp hj).2
  have h2 := (mem_rs.mp hy').2
  have := j.isLt
  omega

/-- A slot is its first `n` pages and the rest. -/
theorem own_pages (s n : ℕ) (f : Scr F) :
    Own c s f ⊣⊢ iprop((bigSep Finset.univ fun j : Fin n => scPt c (pg s j.val) f) ∗ scPt c (rs s n) f) := by
  have e := pointsTo_biUnion (ℓ := scM0_0.view.loc (c : Thread nD τ)) (q := fullShare) (f := f) (Ix := Unit) (Name := ℕ) (U := Pipeline.UD sig nD τ) (Lvl := ℕ)
    (Finset.univ : Finset (Fin n)) (fun j => pg s j.val) (fun j _ j' _ hne => by
      rw [Finset.disjoint_left]; intro y hy hy'
      exact hne (Fin.ext ((mem_pg.mp hy).2.symm.trans (mem_pg.mp hy').2)))
  have u := pointsTo_union (ℓ := scM0_0.view.loc (c : Thread nD τ)) (q := fullShare) (f := f) (Ix := Unit) (Name := ℕ) (U := Pipeline.UD sig nD τ) (Lvl := ℕ) (pages_disjoint s n)
  rw [e, ← sl_pages s n] at u
  exact u

theorem sl_union : sl 0 ∪ sl 1 = Finset.univ := by
  ext y
  have h : (y 0).val < 2 := (y 0).isLt
  simp only [Finset.mem_union, mem_sl, Finset.mem_univ, iff_true]; omega

theorem sl_disjoint : Disjoint (sl 0) (sl 1) := by
  rw [Finset.disjoint_left]; intro y hy hy'
  have h1 := mem_sl.mp hy
  have h2 := mem_sl.mp hy'
  omega

/-- The scratch is its two slots. -/
theorem own_both (f : Scr F) : scPt c Finset.univ f ⊣⊢ iprop(Own c 0 f ∗ Own c 1 f) := by
  have u := pointsTo_union (ℓ := scM0_0.view.loc (c : Thread nD τ)) (q := fullShare) (f := f) (Ix := Unit) (Name := ℕ) (U := Pipeline.UD sig nD τ) (Lvl := ℕ) sl_disjoint
  rw [sl_union] at u
  exact u

/-- The source array is the two slots' halves. -/
theorem kv_both (kv : Kvs F) : kvPt c kv fullShare Finset.univ ⊣⊢ iprop(kvHalf c kv 0 ∗ kvHalf c kv 1) :=
  pointsTo_share (PosShare.mem_left_op_right _)

variable (tb : Tab F) (ln : Len F) (kv : Kvs F)

theorem G_on {t : ℕ} {y : S2x256x24x128.Idx} (h : (y 0).val = t % 2 ∧ (y 1).val < npg ln t) :
    G tb ln kv (t + 1) y = kv (ix3 (pageW tb t (y 1).val) (y 2) (y 3)) := if_pos h
theorem G_off {t : ℕ} {y : S2x256x24x128.Idx} (h : ¬((y 0).val = t % 2 ∧ (y 1).val < npg ln t)) :
    G tb ln kv (t + 1) y = G tb ln kv t y := if_neg h

/-- A point changes its own slot only; -/
theorem own_next {s t : ℕ} (h : s ≠ t % 2) : Own c s (G tb ln kv t) = Own c s (G tb ln kv (t + 1)) :=
  pointsTo_congr fun y hy => by
    have hs := mem_sl.mp hy
    exact (G_off tb ln kv fun h1 => h (hs.symm.trans h1.1)).symm

/-- and there only the pages of its sequence. -/
theorem rest_next (t : ℕ) : scPt c (rs (t % 2) (npg ln t)) (G tb ln kv t) = scPt c (rs (t % 2) (npg ln t)) (G tb ln kv (t + 1)) :=
  pointsTo_congr fun y hy => by
    have hs := mem_rs.mp hy
    exact (G_off tb ln kv fun h2 => by omega).symm

/-! ## The transfers of one point -/

/-- What the transfer of page `j` gives back: the page with its contents, and the source page it read. -/
abbrev Del (t : ℕ) (j : Fin (npg ln t)) : sProp (MM F) :=
  iprop(scPt c (pg (t % 2) j.val) (G tb ln kv (t + 1)) ∗ kvPt c kv (Transfers.shareTok (hq (t % 2)) (npg ln t) j) (srcSet (pageW tb t j.val).val))
/-- What its issue leaves in hand: the rest of its share of the source array. -/
abbrev Left (t : ℕ) (j : Fin (npg ln t)) : sProp (MM F) :=
  kvPt c kv (Transfers.shareTok (hq (t % 2)) (npg ln t) j) (Finset.univ \ srcSet (pageW tb t j.val).val)
/-- What it takes: the page, and a share of the source array. -/
abbrev Need (t : ℕ) (j : Fin (npg ln t)) : sProp (MM F) :=
  iprop(scPt c (pg (t % 2) j.val) (G tb ln kv t) ∗ kvPt c kv (Transfers.shareTok (hq (t % 2)) (npg ln t) j) Finset.univ)

/-- The point's transfers, `k` issued and `u` units consumed. -/
abbrev Bat (t k u : ℕ) : sProp (MM F) :=
  Transfers.Batch (countersEmb (U := Pipeline.UD sig nD τ)) (c : Thread nD τ) (.dma (dsem (t % 2))) () NB (Del c tb ln kv t) k u

/-- The pages' shares with `k` transfers issued. -/
abbrev Pages (t k : ℕ) : sProp (MM F) :=
  bigSep Finset.univ fun j : Fin (npg ln t) => if j.val < k then Left c tb ln kv t j else Need c tb ln kv t j

/-- What stays aside while the transfers run. -/
abbrev Aside (t : ℕ) : sProp (MM F) :=
  iprop(scPt c (rs (t % 2) (npg ln t)) (G tb ln kv (t + 1)) ∗ kvPt c kv (Transfers.shareDrop (hq (t % 2)) (npg ln t)) Finset.univ)

/-- A point's pages on their way, with `u` units consumed. -/
abbrev Flying (t u : ℕ) : sProp (MM F) := iprop(Bat c tb ln kv t (npg ln t) u ∗ Pages c tb ln kv t (npg ln t) ∗ Aside c tb ln kv t)

/-- Before the first issue. -/
theorem issue_start (t : ℕ) {E : Set ℕ} :
    iprop(Own c (t % 2) (G tb ln kv t) ∗ kvHalf c kv (t % 2) ∗ sem0 (F := F) c (t % 2))
      ⊢ |={E}=> iprop(Bat c tb ln kv t 0 0 ∗ Pages c tb ln kv t 0 ∗ Aside c tb ln kv t) := by
  iintro ⟨HO, HK, HS⟩
  imod (Transfers.batch_alloc' (countersEmb (U := Pipeline.UD sig nD τ)) (c : Thread nD τ) () NB (Del c tb ln kv t) (sm := .dma (dsem (t % 2))) (E := E)) $$ HS with HB
  imodintro
  isplitl [HB]; · iexact HB
  ihave HO' := (own_pages c (t % 2) (npg ln t) (G tb ln kv t)).1 $$ HO
  icases HO' with ⟨HP, HR⟩
  ihave HK' := (Transfers.pointsTo_toks_split (hq (t % 2)) (npg ln t)) $$ HK
  icases HK' with ⟨HD, HT⟩
  isplitl [HP HT]
  · iapply (Entails.of_eq (show iprop((bigSep Finset.univ fun j : Fin (npg ln t) => scPt c (pg (t % 2) j.val) (G tb ln kv t))
        ∗ (bigSep Finset.univ fun j : Fin (npg ln t) => kvPt c kv (Transfers.shareTok (hq (t % 2)) (npg ln t) j) Finset.univ)) = Pages c tb ln kv t 0 from
      (bigSep_sep _ _ _).symm.trans (bigSep_congr fun j _ => (if_neg (Nat.not_lt_zero _)).symm)))
    isplitl [HP] <;> iassumption
  · isplitl [HR]
    · iapply (Entails.of_eq (rest_next c tb ln kv t)); iexact HR
    · iexact HD

/-- Page `k`'s turn: its page and share come out, and what its issue leaves goes in. -/
theorem pages_take (t : ℕ) (k : Fin (npg ln t)) :
    Pages c tb ln kv t k.val ⊢ iprop(Need c tb ln kv t k ∗ (Left c tb ln kv t k -∗ Pages c tb ln kv t (k.val + 1))) := by
  have e1 : Pages c tb ln kv t k.val = iprop(Need c tb ln kv t k ∗ bigSep (Finset.univ.erase k) fun j : Fin (npg ln t) => if j.val < k.val then Left c tb ln kv t j else Need c tb ln kv t j) := by
    rw [Pages, bigSep_univ_split k, if_neg (Nat.lt_irrefl _)]; rfl
  have e2 : Pages c tb ln kv t (k.val + 1) = iprop(Left c tb ln kv t k ∗ bigSep (Finset.univ.erase k) fun j : Fin (npg ln t) => if j.val < k.val then Left c tb ln kv t j else Need c tb ln kv t j) := by
    rw [Pages, bigSep_univ_split k, if_pos (Nat.lt_succ_self _)]
    refine congrArg _ (bigSep_congr fun j hj => ?_)
    have hne : j.val ≠ k.val := fun h => (Finset.mem_erase.mp hj).1 (Fin.ext h)
    by_cases h : j.val < k.val
    · rw [if_pos h, if_pos (by omega)]
    · rw [if_neg h, if_neg (by omega)]
  rw [e1, e2]
  iintro ⟨HN, HE⟩
  isplitl [HN]; · iexact HN
  iintro HL
  isplitl [HL] <;> iassumption

/-- After the last wait. -/
theorem collect (t : ℕ) :
    Flying c tb ln kv t (NB * npg ln t)
      ⊢ |={Set.univ}=> iprop(Own c (t % 2) (G tb ln kv (t + 1)) ∗ kvHalf c kv (t % 2) ∗ sem0 (F := F) c (t % 2)) := by
  iintro ⟨HB, HL, HR, HD⟩
  imod (Transfers.batch_collect' (countersEmb (U := Pipeline.UD sig nD τ)) (c : Thread nD τ) NB_pos) $$ HB with ⟨HDel, HS⟩
  imodintro
  ihave HDel' := (Entails.of_eq (show bigSep Finset.univ (Del c tb ln kv t) = iprop((bigSep Finset.univ fun j : Fin (npg ln t) => scPt c (pg (t % 2) j.val) (G tb ln kv (t + 1)))
      ∗ bigSep Finset.univ fun j : Fin (npg ln t) => kvPt c kv (Transfers.shareTok (hq (t % 2)) (npg ln t) j) (srcSet (pageW tb t j.val).val)) from
    bigSep_sep (Finset.univ : Finset (Fin (npg ln t))) (fun j => scPt c (pg (t % 2) j.val) (G tb ln kv (t + 1)))
      (fun j => kvPt c kv (Transfers.shareTok (hq (t % 2)) (npg ln t) j) (srcSet (pageW tb t j.val).val)))) $$ HDel
  icases HDel' with ⟨HP, HT⟩
  isplitl [HP HR]
  · iapply (own_pages c (t % 2) (npg ln t) (G tb ln kv (t + 1))).2
    isplitl [HP] <;> iassumption
  isplitr [HS]
  · iapply (Transfers.pointsTo_toks_join (hq (t % 2)) (npg ln t))
    isplitl [HD]; · iexact HD
    ihave HL' := (Entails.of_eq (show Pages c tb ln kv t (npg ln t) = bigSep Finset.univ (fun j : Fin (npg ln t) => Left c tb ln kv t j) from
      bigSep_congr fun j _ => if_pos j.isLt)) $$ HL
    iapply (show iprop((bigSep Finset.univ fun j : Fin (npg ln t) => kvPt c kv (Transfers.shareTok (hq (t % 2)) (npg ln t) j) (srcSet (pageW tb t j.val).val))
        ∗ bigSep Finset.univ fun j : Fin (npg ln t) => Left c tb ln kv t j)
        ⊢ bigSep Finset.univ fun j : Fin (npg ln t) => kvPt c kv (Transfers.shareTok (hq (t % 2)) (npg ln t) j) Finset.univ from
      (Entails.of_eq (bigSep_sep _ _ _).symm).trans (bigSep_mono fun j _ => (pointsTo_split_subset (Finset.subset_univ _)).2))
    isplitl [HT] <;> iassumption
  · iexact HS

end

end Cert.Attend.KernelIdeal

end
-- ==== Proof.KernelIdeal.Issue.lean ====
/- The issue of one point's transfers: each trip of an issue loop reads a page's number off the table and starts its
   transfer into the slot. -/
module

public import proofs.«01_k».proof.Proof.KernelIdeal.Slots

@[expose] public section

noncomputable section

namespace Cert.Attend.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (tb : Tab F) (ln : Len F) (kv : Kvs F)

/-- The table's word at a trip's offsets, when it is in range, is the page's number. -/
theorem pageWord_val {b j : ℕ} (hw : ∀ x, ((tb x : BitVec 32)).toNat < 38400) : (pageW tb b j).val = (pageWord tb b j).toNat :=
  Nat.mod_eq_of_lt (hw _)

theorem npg_le (hl : ∀ x, ((ln x : BitVec 32)).toNat ≤ 4096) (t : ℕ) : npg ln t ≤ 256 := npages_le (hl _)

variable (𝒱 : Variants) (bd : Option 𝒱.V)

/-- One transfer's issue. -/
theorem issue_one {off : Fin 4 → ℕ} (h) {off' : Fin 3 → ℕ} (h') {t : ℕ} (k : Fin (npg ln t)) {d : DmaSem sig}
    (e : off = ![t % 2, k.val, 0, 0]) (e' : off' = ![(pageW tb t k.val).val, 0, 0]) (ed : d = dsem (t % 2))
    {hsrc hdst hsem} {K : PUnit → Prog (TpuEff nD τ sig (Elt F) Λ₀ .tc) PUnit} {Q : PUnit → sProp (MM F)} :
    iprop(Bat c tb ln kv t k.val 0 ∗ Pages c tb ln kv t k.val)
      ⊢ iprop((iprop(Bat c tb ln kv t (k.val + 1) 0 ∗ Pages c tb ln kv t (k.val + 1)) -∗ wp frame (wpE defs₀ 𝒱 (c : Thread nD τ) bd) Set.univ (K ⟨⟩) Q)
          -∗ wp frame (wpE defs₀ 𝒱 (c : Thread nD τ) bd) Set.univ (.op (.enqueueDma (srcM off' h') (.here (pageM off h)) (.dma d) hsrc hdst hsem) K) Q) := by
  subst ed
  iintro ⟨HB, HP⟩ HK
  ihave HP' := (pages_take c tb ln kv t k) $$ HP
  icases HP' with ⟨⟨Hd, Ht⟩, HW⟩
  ihave Ht' := (pointsTo_split_subset (Finset.subset_univ (srcSet (pageW tb t k.val).val))).1 $$ Ht
  icases Ht' with ⟨Hs, HL⟩
  iapply (Transfers.wp_dmaBatch (countersEmb (U := Pipeline.UD sig nD τ)) 𝒱 (c : Thread nD τ) bd (src := srcM off' h') (dst := pageM off h) (sm := .dma (dsem (t % 2)))
    (q := Transfers.shareTok (hq (t % 2)) (npg ln t) k) (fs := kv) (fd := G tb ln kv t) (Sd := pg (t % 2) k.val) (D := Del c tb ln kv t) (j := k.val) (u := 0)
    () NB (NB_amount h _) (le_of_eq (pageM_set h e)) k.isLt (Nat.zero_le _) ?_) $$ [HB Hd Hs]
  · rw [srcM_set h' e']
    refine sep_mono (Entails.of_eq (pointsTo_congr fun y hy => ?_)) .rfl
    have hv := mem_pg.mp hy
    exact (page_write h h' e e' (G tb ln kv t) kv hy).trans
      ((congrArg (fun j => kv (ix3 (pageW tb t j) (y 2) (y 3))) hv.2.symm).trans
        (G_on tb ln kv ⟨hv.1, lt_of_eq_of_lt hv.2 k.isLt⟩).symm)
  · rw [srcM_set h' e']
    isplitl [Hs]; · iexact Hs
    isplitl [Hd]; · iexact Hd
    iexact HB
  · iintro HB
    iapply HK
    isplitl [HB]; · iexact HB
    iapply HW; iexact HL

/-- One wait, for the units of one transfer. -/
theorem wait_one {off : Fin 4 → ℕ} (h) {off' : Fin 3 → ℕ} (h') {t : ℕ} {k : ℕ} (hk : k < npg ln t) {d : DmaSem sig} (ed : d = dsem (t % 2))
    {hsrc hdst} {W : Waits sig Unit} {K : PUnit → Prog (TpuEff nD τ sig (Elt F) Λ₀ .tc) PUnit} {Q : PUnit → sProp (MM F)} :
    iprop(Bat c tb ln kv t (npg ln t) (NB * k) ∗ owes (c : Thread nD τ) 0 W)
      ⊢ iprop((iprop(Bat c tb ln kv t (npg ln t) (NB * (k + 1)) ∗ owes (c : Thread nD τ) 0 (insert (SemLoc.dma d, ()) W)) -∗ wp frame (wpE defs₀ 𝒱 (c : Thread nD τ) bd) Set.univ (K ⟨⟩) Q)
          -∗ wp frame (wpE defs₀ 𝒱 (c : Thread nD τ) bd) Set.univ (.op (.waitDma2 d (srcM off' h') (pageM off h) hsrc hdst) K) Q) := by
  subst ed
  have hu : NB * k + 1 * NB ≤ NB * npg ln t := by
    rw [Nat.one_mul]; exact (Nat.mul_succ NB k).symm ▸ Nat.mul_le_mul_left NB hk
  have e : NB * (k + 1) = NB * k + 1 * NB := by rw [Nat.one_mul]; exact Nat.mul_succ NB k
  rw [e]
  exact Transfers.wp_waitBatchMul (countersEmb (U := Pipeline.UD sig nD τ)) 𝒱 (c : Thread nD τ) bd (sem := dsem (t % 2)) (srcw := srcM off' h') (dstw := pageM off h)
    () 1 ((NB_eq h).trans (Nat.one_mul NB).symm) hu

section
variable (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)
  (hl : ∀ x, ((ln x : BitVec 32)).toNat ≤ 4096) (hw : ∀ x, ((tb x : BitVec 32)).toNat < 38400)

include hl hw

/-- What an issue loop holds before trip `k`. -/
abbrev Issuing (t k : ℕ) : sProp (MM F) := iprop(tbPt0 c tbM0_0 tb ∗ Bat c tb ln kv t k 0 ∗ Pages c tb ln kv t k)

/-- A trip of the first point's issue of its own pages. -/
theorem t1_step (h1 : k0_cond1 i = 1#1) (hc : k0_chk1 i (lenW ln 0)) (k : Fin (k0_t1_loop (lenW ln 0)).trips) (acc : Unit) :
    Issuing c tb ln kv 0 k.val ⊢ wp frame (wpE defs₀ 𝒱 (c : Thread nD τ) bd) Set.univ
      (k0_t1_body (F := F) i tbM0_0 htbM0_0 tbM0_1 htbM0_1 arg3 harg3 arg4 harg4 arg5 harg5 arg6 harg6 hbM0_0 harg7 arg8 harg8 arg9 harg9 scM0_0 harg10 cc0_scratch1 h1 (lenW ln 0) hc k acc)
      (fun _ => Issuing c tb ln kv 0 (k.val + 1)) := by
  have hk : k.val < npg ln 0 := t1_lt (hl _) k
  have hk' : k.val < 256 := lt_of_lt_of_le hk (npg_le ln hl 0)
  iintro ⟨HT, HB, HP⟩
  unfold k0_t1_body
  sl_exec
  have hr : t1_step.sl.r tb ln i h1 hc k = pageWord tb 0 k.val := by
    unfold t1_step.sl.r
    refine (table_read _ (b := ⟨0, by decide⟩) (j := ⟨k.val, hk'⟩) (off1_eq (hl _) k) tb _).trans ?_
    exact congrArg tb (congrArg (ix2 _) (Fin.ext (Nat.mod_eq_of_lt hk').symm))
  rw [wp_assume_of 𝒱 (c : Thread nD τ) bd Set.univ (chk2_of i (by rw [hr]; exact hw _))]
  iapply (issue_one c tb ln kv 𝒱 bd _ _ ⟨k.val, hk⟩ (off2_eq (hl _) k)
    (show k0_off3 _ = _ by rw [hr]; show ![(pageWord tb 0 k.val).toNat, 0, 0] = _; rw [← pageWord_val tb hw]) (sem_eq _ (by decide) rfl)) $$ [HB HP]
  · isplitl [HB] <;> iassumption
  iintro ⟨HB, HP⟩
  rw [show ((Prog.ret PUnit.unit).bind fun _ => Pure.pure PUnit.unit : Prog (TpuEff nD τ sig (Elt F) Λ₀ .tc) PUnit) = .ret ⟨⟩ from rfl]
  sl_step
  isplitl [HT]; · iexact HT
  isplitl [HB] <;> iassumption

/-- A trip of a point's issue of the next point's pages. -/
theorem t3_step (h2 : k0_cond2 i = 1#1) (hc : k0_chk4 i (lenW ln ((i 0).val + 1))) (k : Fin (k0_t3_loop (lenW ln ((i 0).val + 1))).trips) (acc : Unit) :
    Issuing c tb ln kv ((i 0).val + 1) k.val ⊢ wp frame (wpE defs₀ 𝒱 (c : Thread nD τ) bd) Set.univ
      (k0_t3_body (F := F) i tbM0_0 htbM0_0 tbM0_1 htbM0_1 arg3 harg3 arg4 harg4 arg5 harg5 arg6 harg6 hbM0_0 harg7 arg8 harg8 arg9 harg9 scM0_0 harg10 cc0_scratch1 h2 (lenW ln ((i 0).val + 1)) hc k acc)
      (fun _ => Issuing c tb ln kv ((i 0).val + 1) (k.val + 1)) := by
  have hlt : (i 0).val + 1 < 120 := (cond2_iff i).mp h2
  have hk : k.val < npg ln ((i 0).val + 1) := t3_lt (hl _) k
  have hk' : k.val < 256 := lt_of_lt_of_le hk (npg_le ln hl _)
  iintro ⟨HT, HB, HP⟩
  unfold k0_t3_body
  sl_exec
  have hr : t3_step.sl.r tb ln i h2 hc k = pageWord tb ((i 0).val + 1) k.val := by
    unfold t3_step.sl.r
    refine (table_read _ (b := ⟨(i 0).val + 1, hlt⟩) (j := ⟨k.val, hk'⟩) (off8_eq i (hl _) k) tb _).trans ?_
    exact congrArg tb (congrArg₂ ix2 (Fin.ext (Nat.mod_eq_of_lt hlt).symm) (Fin.ext (Nat.mod_eq_of_lt hk').symm))
  rw [wp_assume_of 𝒱 (c : Thread nD τ) bd Set.univ (chk5_of i (by rw [hr]; exact hw _))]
  iapply (issue_one c tb ln kv 𝒱 bd _ _ ⟨k.val, hk⟩ (off10_eq i (hl _) k)
    (show k0_off11 _ = _ by rw [hr]; show ![(pageWord tb ((i 0).val + 1) k.val).toNat, 0, 0] = _; rw [← pageWord_val tb hw]) (sem_eq _ (Nat.mod_lt _ (by decide)) (off9_eq i))) $$ [HB HP]
  · isplitl [HB] <;> iassumption
  iintro ⟨HB, HP⟩
  rw [show ((Prog.ret PUnit.unit).bind fun _ => Pure.pure PUnit.unit : Prog (TpuEff nD τ sig (Elt F) Λ₀ .tc) PUnit) = .ret ⟨⟩ from rfl]
  sl_step
  isplitl [HT]; · iexact HT
  isplitl [HB] <;> iassumption

/-- What the wait loop holds before trip `k`. -/
abbrev Waiting (t k : ℕ) : sProp (MM F) :=
  iprop(tbPt0 c tbM0_0 tb ∗ Bat c tb ln kv t (npg ln t) (NB * k) ∗ ∃ W, owes (c : Thread nD τ) 0 W)

/-- A trip of a point's wait for its pages. -/
theorem t5_step (arg0 v21 : BitVec 32) (v35 : BitVec 1) (one : BitVec 32) (hc : k0_chk7 i (lenW ln (i 0).val)) (k : Fin (k0_t5_loop (lenW ln (i 0).val)).trips) (acc : Unit) :
    Waiting c tb ln kv (i 0).val k.val ⊢ wp frame (wpE defs₀ 𝒱 (c : Thread nD τ) bd) Set.univ
      (k0_t5_body (F := F) i tbM0_0 htbM0_0 tbM0_1 htbM0_1 arg3 harg3 arg4 harg4 arg5 harg5 arg6 harg6 hbM0_0 harg7 arg8 harg8 arg9 harg9 scM0_0 harg10 cc0_scratch1 arg0 (lenW ln (i 0).val) hc v21 v35 one k acc)
      (fun _ => Waiting c tb ln kv (i 0).val (k.val + 1)) := by
  have hlt : (i 0).val < 120 := (i 0).isLt
  have hk : k.val < npg ln (i 0).val := t5_lt (hl _) k
  have hk' : k.val < 256 := lt_of_lt_of_le hk (npg_le ln hl _)
  iintro ⟨HT, HB, %W, HO⟩
  unfold k0_t5_body
  sl_exec
  have hr : t5_step.sl.r tb ln i hc k = pageWord tb (i 0).val k.val := by
    unfold t5_step.sl.r
    refine (table_read _ (b := ⟨(i 0).val, hlt⟩) (j := ⟨k.val, hk'⟩) (off17_eq i (hl _) k) tb _).trans ?_
    exact congrArg tb (congrArg₂ ix2 (Fin.ext (Nat.mod_eq_of_lt hlt).symm) (Fin.ext (Nat.mod_eq_of_lt hk').symm))
  rw [wp_assume_of 𝒱 (c : Thread nD τ) bd Set.univ (chk8_of (by rw [hr]; exact hw _))]
  iapply (wait_one c tb ln kv 𝒱 bd _ _ (k := k.val) hk (sem_eq _ (Nat.mod_lt _ (by decide)) (off18_eq i))) $$ [HB HO]
  · isplitl [HB] <;> iassumption
  iintro ⟨HB, HO⟩
  rw [show ((Prog.ret PUnit.unit).bind fun _ => Pure.pure PUnit.unit : Prog (TpuEff nD τ sig (Elt F) Λ₀ .tc) PUnit) = .ret ⟨⟩ from rfl]
  sl_step
  isplitl [HT]; · iexact HT
  isplitl [HB]; · iexact HB
  iexists _; iexact HO

end

end Cert.Attend.KernelIdeal

end
-- ==== Proof.KernelIdeal.Chunk.lean ====
/- One chunk of 256 tokens: the words a trip of the chunk loop loads from its slot, the carried values it yields, and the
   trip itself. -/
module

public import proofs.«01_k».proof.Proof.KernelIdeal.Issue

@[expose] public section

noncomputable section

namespace Cert.Attend.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The words of chunk `k` of slot `s` from row `r` of each page on: the scales' and rotary channels' eight rows, -/
def metaWords (f : Scr F) (s k : ℕ) : Vec F S1x16x8x128 .i32 := fun x =>
  f (ix4 ⟨s % 2, Nat.mod_lt _ (by decide)⟩ ⟨(k * 16 + (x 1).val) % 256, Nat.mod_lt _ (by decide)⟩ ⟨(16 + (x 2).val) % 24, Nat.mod_lt _ (by decide)⟩ (x 3))
/-- and a group's four. -/
def codeWords (f : Scr F) (s k r : ℕ) : Vec F S1x16x4x128 .i32 := fun x =>
  f (ix4 ⟨s % 2, Nat.mod_lt _ (by decide)⟩ ⟨(k * 16 + (x 1).val) % 256, Nat.mod_lt _ (by decide)⟩ ⟨(r + (x 2).val) % 24, Nat.mod_lt _ (by decide)⟩ (x 3))

theorem meta_read {off : Fin 4 → ℕ} (h : ∀ a, off a + S1x16x8x128.size a ≤ S2x256x24x128.size a) {s k : ℕ} (e : off = ![s, k * 16, 16, 0]) (f : Scr F) :
    scM0_0.view.readAt (Elt F) (Rect.unit (s := S2x256x24x128) off S1x16x8x128.size h).toLoadRect f = metaWords f s k := by
  subst e
  rw [View.readAt_rect]
  funext x
  refine congrArg f (funext fun a => Fin.ext ?_)
  refine (ValueKit.rect_emb_unit_val (s := S2x256x24x128) _ S1x16x8x128.size h x a).trans ?_
  have b0 : s + 1 ≤ 2 := h 0
  have b1 : k * 16 + 16 ≤ 256 := h 1
  have h0 : (x 0 : ℕ) < 1 := (x 0).isLt
  have h1 : (x 1 : ℕ) < 16 := (x 1).isLt
  have h2 : (x 2 : ℕ) < 8 := (x 2).isLt
  fin_cases a
  · show s + (x 0 : ℕ) = s % 2; omega
  · show k * 16 + (x 1 : ℕ) = (k * 16 + (x 1 : ℕ)) % 256; omega
  · show 16 + (x 2 : ℕ) = (16 + (x 2 : ℕ)) % 24; omega
  · show 0 + (x 3 : ℕ) = (x 3 : ℕ); omega

theorem code_read {off : Fin 4 → ℕ} (h : ∀ a, off a + S1x16x4x128.size a ≤ S2x256x24x128.size a) {s k r : ℕ} (e : off = ![s, k * 16, r, 0]) (f : Scr F) :
    scM0_0.view.readAt (Elt F) (Rect.unit (s := S2x256x24x128) off S1x16x4x128.size h).toLoadRect f = codeWords f s k r := by
  subst e
  rw [View.readAt_rect]
  funext x
  refine congrArg f (funext fun a => Fin.ext ?_)
  refine (ValueKit.rect_emb_unit_val (s := S2x256x24x128) _ S1x16x4x128.size h x a).trans ?_
  have b0 : s + 1 ≤ 2 := h 0
  have b1 : k * 16 + 16 ≤ 256 := h 1
  have b2 : r + 4 ≤ 24 := h 2
  have h0 : (x 0 : ℕ) < 1 := (x 0).isLt
  have h1 : (x 1 : ℕ) < 16 := (x 1).isLt
  have h2 : (x 2 : ℕ) < 4 := (x 2).isLt
  fin_cases a
  · show s + (x 0 : ℕ) = s % 2; omega
  · show k * 16 + (x 1 : ℕ) = (k * 16 + (x 1 : ℕ)) % 256; omega
  · show r + (x 2 : ℕ) = (r + (x 2 : ℕ)) % 24; omega
  · show 0 + (x 3 : ℕ) = (x 3 : ℕ); omega

/-- A rectangle of one slot lies in the slot. -/
theorem rect_slot {off size : Fin 4 → ℕ} (h : ∀ a, off a + size a ≤ S2x256x24x128.size a) {s : ℕ} (e : off 0 = s) (e1 : size 0 = 1) :
    (scM0_0.view.setOn (Rect.unit (s := S2x256x24x128) off size h).toLoadRect.set : Finset S2x256x24x128.Idx) ⊆ sl s := by
  intro y hy
  have hy' : y ∈ (Rect.unit (s := S2x256x24x128) off size h).set := by
    rw [← View.set_slice_whole cc0_scratch0, View.set_slice]; exact hy
  have := (Rect.mem_set_unit.mp hy') 0
  rw [mem_sl]
  rw [e, e1] at this
  omega

/-- The carried values: the running maximum, the running sum, the running weighted sum. -/
abbrev St (F : FTy → Type) [FloatOps F] : Type := FVec F S32x1 .f32 × FVec F S32x1 .f32 × FVec F S32x512 .f32

/-- What chunk `k` makes of them. -/
def chunkStep (v48 : Elt F .i32) (v50 : FVec F S32x512 .bf16) (v52 : FVec F S48x128 .bf16) (f : Scr F) (s k : ℕ) (st : St F) : St F :=
  let a := Scf.iv 0#32 1#32 k
  let c0 := codeWords f s k 0
  let c1 := codeWords f s k 4
  let c2 := codeWords f s k 8
  let c3 := codeWords f s k 12
  let v129 := k0_pay3 v52 (metaWords f s k)
  let v166 := k0_pay7 v50 v52 (metaWords f s k) c0 c1 c2
  (k0_pay10 v48 v50 st.1 a v129 v166 c3, k0_pay13 v48 v50 st.1 st.2.1 a v129 v166 c3,
    k0_pay41 st.2.2 v129 (k0_pay6 c2) (k0_pay8 c3) (k0_pay11 v48 v50 st.1 a v129 v166 c3) (k0_pay14 v48 v50 st.1 a v129 v166 c3)
      (k0_pay15 v48 v50 st.1 a v129 (k0_pay4 c0) v166 c3) (k0_pay16 v48 v50 st.1 a v129 (k0_pay5 c1) v166 c3) (k0_pay17 v48 v50 st.1 a v129 v166 c3)
      (constant S32x128 .f32 0x00000000#32))

/-- The carried values after `k` chunks. -/
def chunks (v48 : Elt F .i32) (v50 : FVec F S32x512 .bf16) (v52 : FVec F S48x128 .bf16) (f : Scr F) (s : ℕ) (init : St F) : ℕ → St F
  | 0 => init
  | k + 1 => chunkStep v48 v50 v52 f s k (chunks v48 v50 v52 f s init k)

section
variable (c : Dev nD) (𝒱 : Variants) (bd : Option 𝒱.V) (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)

/-- A trip of the chunk loop: the slot is read, the carried values move on. -/
theorem t7_step (v9 : BitVec 32) (v48 : Elt F .i32) (hl : BitVec.toNat v48 ≤ 4096) (hc : k0_chk10 i v48) (v50 : FVec F S32x512 .bf16) (v52 : FVec F S48x128 .bf16)
    (v56 : FVec F S1x512 .f32) (v60 : FVec F S32x1 .f32) (v68 : FVec F S32 .f32) (f : Scr F)
    (k : Fin (k0_t7_loop v48).trips) (acc : St F) (Q : St F → sProp (MM F)) :
    iprop(Own c ((i 0).val % 2) f ∗ (Own c ((i 0).val % 2) f -∗ Q (chunkStep v48 v50 v52 f ((i 0).val % 2) k.val acc))) ⊢ wp frame (wpE defs₀ 𝒱 (c : Thread nD τ) bd) Set.univ
      (k0_t7_body (F := F) i tbM0_0 htbM0_0 tbM0_1 htbM0_1 arg3 harg3 arg4 harg4 arg5 harg5 arg6 harg6 hbM0_0 harg7 arg8 harg8 arg9 harg9 scM0_0 harg10 cc0_scratch1 v9 v48 hc v50 v52 v56 v60 v68 k acc) Q := by
  obtain ⟨a13, a14, a15⟩ := acc
  iintro ⟨HO, HQ⟩
  unfold k0_t7_body
  simp only [k0_part2_eq_skeleton, k0_part3_eq_skeleton]
  unfold k0_part2_skel
  iapply (wp_load 𝒱 (c : Thread nD τ) bd Set.univ (m := scM0_0) (S := sl ((i 0).val % 2)) (f := f) (rect_slot _ (congrFun (off26_eq i hl k) 0) rfl)) $$ HO
  iintro HO
  rw [meta_read _ (off26_eq i hl k)]
  iapply (wp_load 𝒱 (c : Thread nD τ) bd Set.univ (m := scM0_0) (S := sl ((i 0).val % 2)) (f := f) (rect_slot _ (congrFun (off27_eq i hl k) 0) rfl)) $$ HO
  iintro HO
  rw [code_read _ (off27_eq i hl k)]
  iapply (wp_load 𝒱 (c : Thread nD τ) bd Set.univ (m := scM0_0) (S := sl ((i 0).val % 2)) (f := f) (rect_slot _ (congrFun (off28_eq i hl k) 0) rfl)) $$ HO
  iintro HO
  rw [code_read _ (off28_eq i hl k)]
  iapply (wp_load 𝒱 (c : Thread nD τ) bd Set.univ (m := scM0_0) (S := sl ((i 0).val % 2)) (f := f) (rect_slot _ (congrFun (off29_eq i hl k) 0) rfl)) $$ HO
  iintro HO
  rw [code_read _ (off29_eq i hl k)]
  unfold k0_part3_skel
  iapply (wp_load 𝒱 (c : Thread nD τ) bd Set.univ (m := scM0_0) (S := sl ((i 0).val % 2)) (f := f) (rect_slot _ (congrFun (off30_eq i hl k) 0) rfl)) $$ HO
  iintro HO
  rw [code_read _ (off30_eq i hl k)]
  iapply (show Q (chunkStep v48 v50 v52 f ((i 0).val % 2) k.val (a13, a14, a15)) ⊢ wp frame (wpE defs₀ 𝒱 (c : Thread nD τ) bd) Set.univ
      (Prog.ret (chunkStep v48 v50 v52 f ((i 0).val % 2) k.val (a13, a14, a15))) Q from by iintro H; sl_step; iexact H)
  iapply HQ
  iexact HO

end

end Cert.Attend.KernelIdeal

end
-- ==== Proof.KernelIdeal.Phases.lean ====
/- The phases of one point: the issue of transfers (its own pages at the first point, the next point's at every point but
   the last), the wait for its pages, the chunks. -/
module

public import proofs.«01_k».proof.Proof.KernelIdeal.Chunk

@[expose] public section

noncomputable section

namespace Cert.Attend.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (tb : Tab F) (ln : Len F) (kv : Kvs F)

/-- The other slot, idle, before point `t` issues the next point's transfers. -/
abbrev Idle (t : ℕ) : sProp (MM F) :=
  iprop(Own c ((t + 1) % 2) (G tb ln kv t) ∗ kvHalf c kv ((t + 1) % 2) ∗ sem0 (F := F) c ((t + 1) % 2))
/-- What the other slot is once point `t` has issued: on its way, or idle after the last point. -/
abbrev Ahead (t : ℕ) : sProp (MM F) :=
  if t + 1 < 120 then Flying c tb ln kv (t + 1) 0 else Idle c tb ln kv t
/-- Point `t`'s slot, collected. -/
abbrev Collected (t : ℕ) : sProp (MM F) :=
  iprop(Own c (t % 2) (G tb ln kv (t + 1)) ∗ kvHalf c kv (t % 2) ∗ sem0 (F := F) c (t % 2))
/-- Nothing started. -/
abbrev Fresh : sProp (MM F) :=
  iprop((∃ d, scPt c Finset.univ d) ∗ (kvHalf c kv 0 ∗ kvHalf c kv 1) ∗ sem0 (F := F) c 0 ∗ sem0 (F := F) c 1)
/-- What point `t` finds. -/
abbrev Found (t : ℕ) : sProp (MM F) :=
  if t = 0 then Fresh c kv else iprop(Flying c tb ln kv t 0 ∗ Idle c tb ln kv t)

variable (𝒱 : Variants) (bd : Option 𝒱.V) (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)
  (hl : ∀ x, ((ln x : BitVec 32)).toNat ≤ 4096) (hw : ∀ x, ((tb x : BitVec 32)).toNat < 38400)

/-- The issue of a point's transfers, the loop whole. -/
theorem issue_wp {t : ℕ} {w : ℕ} (lp : Scf.Loop w) (hok : lp.OK) (htr : lp.trips = npg ln t)
    (body : Fin lp.trips → Unit → Prog (TpuEff nD τ sig (Elt F) Λ₀ .tc) Unit)
    (hb : ∀ k acc, Issuing c tb ln kv t k.val ⊢ wp frame (wpE defs₀ 𝒱 (c : Thread nD τ) bd) Set.univ (body k acc) (fun _ => Issuing c tb ln kv t (k.val + 1)))
    {β : Type} {K : Unit → Prog (TpuEff nD τ sig (Elt F) Λ₀ .tc) β} {Q : β → sProp (MM F)} :
    iprop(tbPt0 c tbM0_0 tb ∗ Own c (t % 2) (G tb ln kv t) ∗ kvHalf c kv (t % 2) ∗ sem0 (F := F) c (t % 2))
      ⊢ iprop((∀ u, iprop(tbPt0 c tbM0_0 tb ∗ Flying c tb ln kv t 0) -∗ wp frame (wpE defs₀ 𝒱 (c : Thread nD τ) bd) Set.univ (K u) Q)
          -∗ wp frame (wpE defs₀ 𝒱 (c : Thread nD τ) bd) Set.univ (lp.for hok () body >>= K) Q) := by
  iintro ⟨HT, HS⟩ HK
  imod (issue_start c tb ln kv t) $$ HS with ⟨HB, HP, HA⟩
  iapply (Scf.wp_for_bind Idealize.ShloMosaic.frame (wpE defs₀ 𝒱 (c : Thread nD τ) bd) Set.univ lp.lb lp.ub lp.st hok () body (fun k _ => Issuing c tb ln kv t k) hb) $$ [HT HB HP]
  · isplitl [HT]; · iexact HT
    isplitl [HB] <;> iassumption
  iintro %u ⟨HT, HB, HP⟩
  iapply HK
  rw [show Scf.trips lp.lb lp.ub lp.st = npg ln t from htr]
  isplitl [HT]; · iexact HT
  isplitl [HB]; · iexact HB
  isplitl [HP] <;> iassumption

/-- The wait for a point's transfers, the loop whole. -/
theorem wait_wp {t : ℕ} {w : ℕ} (lp : Scf.Loop w) (hok : lp.OK) (htr : lp.trips = npg ln t)
    (body : Fin lp.trips → Unit → Prog (TpuEff nD τ sig (Elt F) Λ₀ .tc) Unit)
    (hb : ∀ k acc, Waiting c tb ln kv t k.val ⊢ wp frame (wpE defs₀ 𝒱 (c : Thread nD τ) bd) Set.univ (body k acc) (fun _ => Waiting c tb ln kv t (k.val + 1)))
    {β : Type} {K : Unit → Prog (TpuEff nD τ sig (Elt F) Λ₀ .tc) β} {Q : β → sProp (MM F)} :
    iprop(tbPt0 c tbM0_0 tb ∗ Flying c tb ln kv t 0 ∗ ∃ W, owes (c : Thread nD τ) 0 W)
      ⊢ iprop((∀ u, iprop(tbPt0 c tbM0_0 tb ∗ Collected c tb ln kv t ∗ ∃ W, owes (c : Thread nD τ) 0 W) -∗ wp frame (wpE defs₀ 𝒱 (c : Thread nD τ) bd) Set.univ (K u) Q)
          -∗ wp frame (wpE defs₀ 𝒱 (c : Thread nD τ) bd) Set.univ (lp.for hok () body >>= K) Q) := by
  iintro ⟨HT, ⟨HB, HP, HA⟩, HO⟩ HK
  iapply (Scf.wp_for_bind Idealize.ShloMosaic.frame (wpE defs₀ 𝒱 (c : Thread nD τ) bd) Set.univ lp.lb lp.ub lp.st hok () body (fun k _ => Waiting c tb ln kv t k) hb) $$ [HT HB HO]
  · isplitl [HT]; · iexact HT
    isplitl [HB]; · iexact HB
    iexact HO
  iintro %u ⟨HT, HB, HO⟩
  rw [show Scf.trips lp.lb lp.ub lp.st = npg ln t from htr]
  imod (collect c tb ln kv t) $$ [HB HP HA] with HC
  · isplitl [HB]; · iexact HB
    isplitl [HP] <;> iassumption
  iapply HK
  isplitl [HT]; · iexact HT
  isplitl [HC] <;> iassumption

/-- A loop of no trips. -/
theorem none_wp {σ : Type} {w : ℕ} (lp : Scf.Loop w) (hok : lp.OK) (htr : lp.trips = 0) (init : σ)
    (body : Fin lp.trips → σ → Prog (TpuEff nD τ sig (Elt F) Λ₀ .tc) σ)
    {β : Type} {K : σ → Prog (TpuEff nD τ sig (Elt F) Λ₀ .tc) β} {Q : β → sProp (MM F)} :
    wp frame (wpE defs₀ 𝒱 (c : Thread nD τ) bd) Set.univ (K init) Q
      ⊢ wp frame (wpE defs₀ 𝒱 (c : Thread nD τ) bd) Set.univ (lp.for hok init body >>= K) Q := by
  iintro H
  iapply (Scf.wp_for_bind Idealize.ShloMosaic.frame (wpE defs₀ 𝒱 (c : Thread nD τ) bd) Set.univ lp.lb lp.ub lp.st hok init body (fun _ a => iprop(⌜a = init⌝))
    (fun k _ => (Nat.not_lt_zero k.val (lt_of_lt_of_eq k.isLt htr)).elim)) $$ []
  · ipureintro; rfl
  iintro %a %e
  subst e
  iexact H

end Cert.Attend.KernelIdeal

end
-- ==== Proof.KernelIdeal.Body.lean ====
/- The body at one point, in the three parts it is printed in: what it finds in the two slots, and what it leaves. -/
module

public import proofs.«01_k».proof.Proof.KernelIdeal.Phases
public import Idealize.ShloMosaic.Lib.WritesUnit

@[expose] public section

noncomputable section

namespace Cert.Attend.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (tb : Tab F) (ln : Len F) (kv : Kvs F) (𝒱 : Variants) (bd : Option 𝒱.V)

/-- A program in two halves, with what holds between them. -/
theorem wp_mid {α β : Type} {p : Prog (TpuEff nD τ sig (Elt F) Λ₀ .tc) α} {K : α → Prog (TpuEff nD τ sig (Elt F) Λ₀ .tc) β} {Q : β → sProp (MM F)}
    {P : sProp (MM F)} (R : α → sProp (MM F)) (h : P ⊢ wp frame (wpE defs₀ 𝒱 (c : Thread nD τ) bd) Set.univ p R)
    (hK : ∀ u, R u ⊢ wp frame (wpE defs₀ 𝒱 (c : Thread nD τ) bd) Set.univ (K u) Q) :
    P ⊢ wp frame (wpE defs₀ 𝒱 (c : Thread nD τ) bd) Set.univ (p >>= K) Q :=
  h.trans ((wp_mono _ _ _ hK).trans (Entails.of_eq (wp_bind _ _ _ _ _ _).symm))

theorem wp_cut {α β : Type} {p : Prog (TpuEff nD τ sig (Elt F) Λ₀ .tc) α} {K : α → Prog (TpuEff nD τ sig (Elt F) Λ₀ .tc) β} {Q : β → sProp (MM F)} :
    wp frame (wpE defs₀ 𝒱 (c : Thread nD τ) bd) Set.univ p (fun a => wp frame (wpE defs₀ 𝒱 (c : Thread nD τ) bd) Set.univ (K a) Q)
      ⊢ wp frame (wpE defs₀ 𝒱 (c : Thread nD τ) bd) Set.univ (p >>= K) Q := Entails.of_eq (wp_bind _ _ _ _ _ _).symm

/-- Zeros over the whole scratch are the contents before the first point. -/
theorem zeros (d : Scr F) (h) (z : S2x256x24x128.Idx → Elt F .i32) (hz : z = fun _ => (0#32 : BitVec 32)) :
    scM0_0.view.writes (Elt F) d [⟨Rect.unit (s := S2x256x24x128) ![0, 0, 0, 0] S2x256x24x128.size h, z⟩] = G tb ln kv 0 := by
  have hr : ∀ (g : Scr F) (y), g y = scM0_0.view.read (Elt F) g y := fun g y => rfl
  refine funext fun y => (hr _ y).trans ?_
  rw [View.read_writes_cons_unit_of_mem (v := scM0_0.view) (Val := Elt F) (f := d) h z [] y y rfl (fun a => by fin_cases a <;> simp), hz]
  rw [G]

theorem pay2_eq : (k0_pay2 : S2x256x24x128.Idx → BitVec 32) = fun _ => 0#32 := by
  unfold k0_pay2
  exact funext fun _ => rfl

variable (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)
  (hl : ∀ x, ((ln x : BitVec 32)).toNat ≤ 4096) (hw : ∀ x, ((tb x : BitVec 32)).toNat < 38400)
include hl hw

/-- The first part: at the first point zeros and the point's own transfers; then the next point's. -/
theorem part6_wp {Q : (Σ' (arg0 : BitVec 32) (v9 : BitVec 32) (v18 : Elt F .i32) (k0_hw7 : k0_chk7 i v18) (v21 : BitVec 32) (v35 : BitVec 1), BitVec 32) → sProp (MM F)} :
    iprop(tbPt0 c tbM0_0 tb ∗ tbPt0 c tbM0_1 ln ∗ Found c tb ln kv (i 0).val
      ∗ (∀ a0, ∀ v9, ∀ hw7, ∀ v21, ∀ v35, ∀ e, iprop(tbPt0 c tbM0_0 tb ∗ tbPt0 c tbM0_1 ln ∗ Flying c tb ln kv (i 0).val 0 ∗ Ahead c tb ln kv (i 0).val)
          -∗ Q ⟨a0, v9, lenW ln (i 0).val, hw7, v21, v35, e⟩))
    ⊢ wp frame (wpE defs₀ 𝒱 (c : Thread nD τ) bd) Set.univ
      (k0_part6 (F := F) i tbM0_0 htbM0_0 tbM0_1 htbM0_1 arg3 harg3 arg4 harg4 arg5 harg5 arg6 harg6 hbM0_0 harg7 arg8 harg8 arg9 harg9 scM0_0 harg10 cc0_scratch1) Q := by
  rw [k0_part6_eq_skeleton]
  unfold k0_part6_skel
  generalize hK : (iprop(∀ a0, ∀ v9, ∀ hw7, ∀ v21, ∀ v35, ∀ e, iprop(tbPt0 c tbM0_0 tb ∗ tbPt0 c tbM0_1 ln ∗ Flying c tb ln kv (i 0).val 0 ∗ Ahead c tb ln kv (i 0).val)
          -∗ Q ⟨a0, v9, lenW ln (i 0).val, hw7, v21, v35, e⟩) : sProp (MM F)) = HK
  lift_lets
  extract_lets
  rename_i jp2 jp1
  have hJ2 : iprop(tbPt0 c tbM0_0 tb ∗ tbPt0 c tbM0_1 ln ∗ (Flying c tb ln kv (i 0).val 0 ∗ Ahead c tb ln kv (i 0).val) ∗ HK)
      ⊢ wp frame (wpE defs₀ 𝒱 (c : Thread nD τ) bd) Set.univ (jp2 ⟨⟩) Q := by
    subst hK
    dsimp only [jp2]
    iintro ⟨HT, HL, ⟨HF, HA⟩, HK⟩
    sl_exec
    have hr : part6_wp.sl.r ln i = lenW ln (i 0).val := by
      unfold part6_wp.sl.r
      exact (lens_read _ (b := ⟨(i 0).val, (i 0).isLt⟩) (off16_eq i) ln _).trans (congrArg ln (congrArg ix1 (Fin.ext (Nat.mod_eq_of_lt (i 0).isLt).symm)))
    generalize part6_wp.sl.r ln i = w at hr ⊢
    subst hr
    rw [wp_assume_of 𝒱 (c : Thread nD τ) bd Set.univ (chk7_of (v := lenW ln (i 0).val) i (hl _))]
    iapply (show ∀ v, Q v ⊢ wp frame (wpE defs₀ 𝒱 (c : Thread nD τ) bd) Set.univ (.ret v) Q from fun v => by iintro H; sl_step; iexact H)
    iapply HK
    isplitl [HT]; · iexact HT
    isplitl [HL]; · iexact HL
    isplitl [HF] <;> iassumption
  clear_value jp2
  have hJ1 : iprop(tbPt0 c tbM0_0 tb ∗ tbPt0 c tbM0_1 ln ∗ (Flying c tb ln kv (i 0).val 0 ∗ Idle c tb ln kv (i 0).val) ∗ HK)
      ⊢ wp frame (wpE defs₀ 𝒱 (c : Thread nD τ) bd) Set.univ (jp1 ⟨⟩) Q := by
    by_cases h1 : (i 0).val + 1 < 120
    · have e1 : Ahead c tb ln kv (i 0).val = Flying c tb ln kv ((i 0).val + 1) 0 := if_pos h1
      have h2 := (cond2_iff i).mpr h1
      rw [e1] at hJ2
      rw [show jp1 ⟨⟩ = _ from dif_pos h2]
      rw [show Idle c tb ln kv (i 0).val = iprop(Own c (((i 0).val + 1) % 2) (G tb ln kv ((i 0).val + 1)) ∗ kvHalf c kv (((i 0).val + 1) % 2) ∗ sem0 (F := F) c (((i 0).val + 1) % 2)) from
        congrArg (fun P => iprop(P ∗ _)) (own_next c tb ln kv (by omega))]
      iintro ⟨HT, HL, ⟨HF, HI, HV, HM⟩, HK⟩
      sl_exec
      have hr : part6_wp.sl.r_1 ln i h2 = lenW ln ((i 0).val + 1) := by
        unfold part6_wp.sl.r_1
        exact (lens_read _ (b := ⟨(i 0).val + 1, h1⟩) (off7_eq i) ln _).trans (congrArg ln (congrArg ix1 (Fin.ext (Nat.mod_eq_of_lt h1).symm)))
      generalize part6_wp.sl.r_1 ln i h2 = w at hr ⊢
      subst hr
      rw [wp_assume_of 𝒱 (c : Thread nD τ) bd Set.univ (chk4_of (v := lenW ln ((i 0).val + 1)) i (hl _))]
      iapply (issue_wp c tb ln kv 𝒱 bd _ _ (t3_trips (v := lenW ln ((i 0).val + 1)) (hl _)) _
        (t3_step c tb ln kv 𝒱 bd i arg3 harg3 arg4 harg4 arg5 harg5 arg6 harg6 harg7 arg8 harg8 arg9 harg9 harg10 hl hw h2 (chk4_of (v := lenW ln ((i 0).val + 1)) i (hl _)))) $$ [HT HI HV HM]
      · isplitl [HT]; · iexact HT
        isplitl [HI]; · iexact HI
        isplitl [HV] <;> iassumption
      iintro %u ⟨HT, HN⟩
      iapply (none_wp c 𝒱 bd _ _ (t4_trips (v := lenW ln ((i 0).val + 1)) (hl _)))
      iapply hJ2
      isplitl [HT]; · iexact HT
      isplitl [HL]; · iexact HL
      isplitr [HK]
      · isplitl [HF] <;> iassumption
      · iexact HK
    · have e1 : Ahead c tb ln kv (i 0).val = Idle c tb ln kv (i 0).val := if_neg h1
      rw [e1] at hJ2
      rw [show jp1 ⟨⟩ = _ from dif_neg (mt (cond2_iff i).mp h1)]
      exact hJ2
  clear_value jp1
  by_cases h0 : (i 0).val = 0
  · rw [dif_pos ((cond1_iff i).mpr h0), show Found c tb ln kv (i 0).val = Fresh c kv from if_pos h0, k0_part1_eq_skeleton]
    unfold k0_part1_skel
    iintro ⟨HT, HL, ⟨⟨%d, HS⟩, ⟨HV0, HV1⟩, HM0, HM1⟩, HK⟩
    sl_exec
    have hr : part6_wp.sl.r_2 ln = lenW ln 0 := by
      unfold part6_wp.sl.r_2
      exact (lens_read _ (b := 0) rfl ln _)
    generalize part6_wp.sl.r_2 ln = w at hr ⊢
    subst hr
    iapply (Entails.of_eq (wp_assume_of 𝒱 (c : Thread nD τ) bd Set.univ (chk1_of (v := lenW ln 0) i (hl _))).symm)
    ihave HS' := ((Entails.of_eq (congrArg (scPt c Finset.univ) (zeros tb ln kv d inb_S2x256x24x128_S2x256x24x128_0_0_0_0 _ pay2_eq))).trans (own_both c _).1) $$ HS
    icases HS' with ⟨HS0, HS1⟩
    rw [h0] at hJ1
    iapply (wp_cut c 𝒱 bd)
    iapply (issue_wp c tb ln kv 𝒱 bd (t := 0) _ _ (t1_trips (v := lenW ln 0) (hl _)) _
      (t1_step c tb ln kv 𝒱 bd i arg3 harg3 arg4 harg4 arg5 harg5 arg6 harg6 harg7 arg8 harg8 arg9 harg9 harg10 hl hw ((cond1_iff i).mpr h0) (chk1_of (v := lenW ln 0) i (hl _)))) $$ [HT HS0 HV0 HM0]
    · isplitl [HT]; · iexact HT
      isplitl [HS0]; · iexact HS0
      isplitl [HV0] <;> iassumption
    iintro %u ⟨HT, HN⟩
    sl_step
    iapply (none_wp c 𝒱 bd _ _ (t2_trips (v := lenW ln 0) (hl _)))
    iapply hJ1
    isplitl [HT]; · iexact HT
    isplitl [HL]; · iexact HL
    isplitr [HK]
    · isplitl [HN]; · iexact HN
      isplitl [HS1]; · iexact HS1
      isplitl [HV1] <;> iassumption
    · iexact HK
  · rw [dif_neg (mt (cond1_iff i).mp h0), show Found c tb ln kv (i 0).val = _ from if_neg h0]
    exact hJ1

end Cert.Attend.KernelIdeal

end
-- ==== Proof.KernelIdeal.Whole.lean ====
/- The whole body at one point: from the two slots as the point finds them and the four blocks, to the two slots as it
   leaves them and the two results' blocks. -/
module

public import proofs.«01_k».proof.Proof.KernelIdeal.Body
public import Idealize.ShloMosaic.Lib.WholeRead

@[expose] public section

noncomputable section

namespace Cert.Attend.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load of a whole block reads its contents. -/
theorem block_read {sp : Space} {d : Fin 3 → ℕ} {e : EltTy} {m : Memref sig .tc sp ⟨3, d⟩ e} (h : m.IsWhole) (X : Shape.Idx ⟨3, d⟩ → Elt F e) (hb) :
    m.view.readAt (Elt F) (Rect.unit (s := ⟨3, d⟩) ![0, 0, 0] d hb).toLoadRect (h.unread X) = X := by
  funext x
  rw [h.readAt_unread]
  refine congrArg X (funext fun a => Fin.ext ?_)
  refine (ValueKit.rect_emb_unit_val (s := ⟨3, d⟩) _ d hb x a).trans ?_
  fin_cases a <;> exact Nat.zero_add _

/-- A store of a whole block leaves what was stored. -/
theorem block_write {sp : Space} {d : Fin 3 → ℕ} {e : EltTy} (m : Memref sig .tc sp ⟨3, d⟩ e) (f : m.view.ty.Contents (Elt F)) (X : Shape.Idx ⟨3, d⟩ → Elt F e) (hb) :
    m.view.read (Elt F) (m.view.writes (Elt F) f [⟨Rect.unit (s := ⟨3, d⟩) ![0, 0, 0] d hb, X⟩]) = X := by
  funext y
  exact View.read_writes_cons_unit_of_mem (v := m.view) (Val := Elt F) (f := f) hb X [] y y rfl (fun a => by fin_cases a <;> exact (Nat.zero_add _).symm)

variable (c : Dev nD) (tb : Tab F) (ln : Len F) (kv : Kvs F) (𝒱 : Variants) (bd : Option 𝒱.V)
variable (i : grid0.Coords)
  (arg3 : Memref sig .tc .vmem S1x32x512 .bf16) (harg3 : arg3.IsWhole) (arg4 : Memref sig .tc .vmem S1x48x128 .bf16) (harg4 : arg4.IsWhole)
  (arg5 : Memref sig .tc .vmem S1x1x512 .bf16) (harg5 : arg5.IsWhole) (arg6 : Memref sig .tc .vmem S1x1x128 .bf16) (harg6 : arg6.IsWhole)
  (harg7 : hbM0_0.IsWhole) (arg8 : Memref sig .tc .vmem S1x32x512 .bf16) (harg8 : arg8.IsWhole) (arg9 : Memref sig .tc .vmem S1x1x32 .f32) (harg9 : arg9.IsWhole)
  (harg10 : scM0_0.IsWhole)
  (hl : ∀ x, ((ln x : BitVec 32)).toNat ≤ 4096) (hw : ∀ x, ((tb x : BitVec 32)).toNat < 38400)
  (x3 : Vec F S1x32x512 .bf16) (x4 : Vec F S1x48x128 .bf16) (x5 : Vec F S1x1x512 .bf16) (x6 : Vec F S1x1x128 .bf16)

/-- The four blocks a point reads. -/
abbrev Blocks : sProp (MM F) :=
  iprop(owns (c : Thread nD τ) arg3 fullShare x3 ∗ owns (c : Thread nD τ) arg4 fullShare x4 ∗ owns (c : Thread nD τ) arg5 fullShare x5 ∗ owns (c : Thread nD τ) arg6 fullShare x6)

include hl hw

/-- The second part: the point's pages are awaited, and the blocks read. -/
theorem part7_wp (arg0 v21 : BitVec 32) (v35 : BitVec 1) (one : BitVec 32) (hc : k0_chk7 i (lenW ln (i 0).val))
    {Q : (Σ' (v48 : Elt F .i32) (k0_hw10 : k0_chk10 i v48) (v50 : FVec F S32x512 .bf16) (v52 : FVec F S48x128 .bf16) (v56 : FVec F S1x512 .f32) (v60 : FVec F S32x1 .f32), FVec F S32 .f32) → sProp (MM F)} :
    iprop(tbPt0 c tbM0_0 tb ∗ tbPt0 c tbM0_1 ln ∗ Flying c tb ln kv (i 0).val 0 ∗ (∃ W, owes (c : Thread nD τ) 0 W)
      ∗ Blocks c arg3 arg4 arg5 arg6 x3 x4 x5 x6
      ∗ (∀ hw10, iprop(tbPt0 c tbM0_0 tb ∗ tbPt0 c tbM0_1 ln ∗ Collected c tb ln kv (i 0).val ∗ (∃ W, owes (c : Thread nD τ) 0 W) ∗ Blocks c arg3 arg4 arg5 arg6 x3 x4 x5 x6)
          -∗ Q ⟨lenW ln (i 0).val, hw10, k0_pay33 x3, k0_pay34 x4, k0_pay35 x5, k0_pay36 x3 x5, k0_pay37 x4 x6⟩))
    ⊢ wp frame (wpE defs₀ 𝒱 (c : Thread nD τ) bd) Set.univ
      (k0_part7 (F := F) i tbM0_0 htbM0_0 tbM0_1 htbM0_1 arg3 harg3 arg4 harg4 arg5 harg5 arg6 harg6 hbM0_0 harg7 arg8 harg8 arg9 harg9 scM0_0 harg10 cc0_scratch1
        arg0 (lenW ln (i 0).val) hc v21 v35 one) Q := by
  rw [k0_part7_eq_skeleton]
  unfold k0_part7_skel
  unfold Blocks owns
  iintro ⟨HT, HL, HF, HO, ⟨⟨%f3, %e3, H3⟩, ⟨%f4, %e4, H4⟩, ⟨%f5, %e5, H5⟩, ⟨%f6, %e6, H6⟩⟩, HK⟩
  obtain rfl := harg3.eq_unread e3; obtain rfl := harg4.eq_unread e4; obtain rfl := harg5.eq_unread e5; obtain rfl := harg6.eq_unread e6
  iapply (wait_wp c tb ln kv 𝒱 bd _ _ (t5_trips (v := lenW ln (i 0).val) (hl _)) _
    (t5_step c tb ln kv 𝒱 bd i arg3 harg3 arg4 harg4 arg5 harg5 arg6 harg6 harg7 arg8 harg8 arg9 harg9 harg10 hl hw arg0 v21 v35 one hc)) $$ [HT HF HO]
  · isplitl [HT]; · iexact HT
    isplitl [HF] <;> iassumption
  iintro %u ⟨HT, HC, HO⟩
  iapply (none_wp c 𝒱 bd _ _ (t6_trips (v := lenW ln (i 0).val) (hl _)))
  sl_exec
  have hr : part7_wp.sl.r ln i = lenW ln (i 0).val := by
    unfold part7_wp.sl.r
    exact (lens_read _ (b := ⟨(i 0).val, (i 0).isLt⟩) (off25_eq i) ln _).trans (congrArg ln (congrArg ix1 (Fin.ext (Nat.mod_eq_of_lt (i 0).isLt).symm)))
  generalize part7_wp.sl.r ln i = w at hr ⊢
  subst hr
  rw [wp_assume_of 𝒱 (c : Thread nD τ) bd Set.univ (chk10_of (v := lenW ln (i 0).val) i (hl _))]
  sl_exec
  rw [show arg3.view.readAt (Elt F) (Rect.unit (s := S1x32x512) ![0, 0, 0] S1x32x512.size inb_S1x32x512_S1x32x512_0_0_0).toLoadRect (harg3.unread x3) = x3 from block_read harg3 x3 _,
    show arg4.view.readAt (Elt F) (Rect.unit (s := S1x48x128) ![0, 0, 0] S1x48x128.size inb_S1x48x128_S1x48x128_0_0_0).toLoadRect (harg4.unread x4) = x4 from block_read harg4 x4 _,
    show arg5.view.readAt (Elt F) (Rect.unit (s := S1x1x512) ![0, 0, 0] S1x1x512.size inb_S1x1x512_S1x1x512_0_0_0).toLoadRect (harg5.unread x5) = x5 from block_read harg5 x5 _,
    show arg6.view.readAt (Elt F) (Rect.unit (s := S1x1x128) ![0, 0, 0] S1x1x128.size inb_S1x1x128_S1x1x128_0_0_0).toLoadRect (harg6.unread x6) = x6 from block_read harg6 x6 _]
  iapply (show ∀ v, Q v ⊢ wp frame (wpE defs₀ 𝒱 (c : Thread nD τ) bd) Set.univ (.ret v) Q from fun v => by iintro H; sl_step; iexact H)
  iapply HK
  isplitl [HT]; · iexact HT
  isplitl [HL]; · iexact HL
  isplitl [HC]; · iexact HC
  isplitl [HO]; · iexact HO
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; · ipureintro; exact harg6.read_unread _
  iexact H6

omit hl hw in
/-- The third part: the chunks, and the first result's block. -/
theorem part8_wp (v9 : BitVec 32) (v48 : Elt F .i32) (hv : BitVec.toNat v48 ≤ 4096) (hc : k0_chk10 i v48) (v50 : FVec F S32x512 .bf16) (v52 : FVec F S48x128 .bf16)
    (v56 : FVec F S1x512 .f32) (v60 : FVec F S32x1 .f32) (v68 : FVec F S32 .f32) (f : Scr F) {Q : FVec F S32x1 .f32 → sProp (MM F)}
    (st : St F) (hst : st = chunks v48 v50 v52 f ((i 0).val % 2) (k0_pay38 v60 v68, k0_pay39, k0_pay40 v56) (nchunks v48.toNat)) :
    iprop(Own c ((i 0).val % 2) f ∗ (∃ d, owns (c : Thread nD τ) arg8 fullShare d)
      ∗ (iprop(Own c ((i 0).val % 2) f ∗ owns (c : Thread nD τ) arg8 fullShare (k0_pay43 st.2.1 st.2.2)) -∗ Q (k0_pay44 st.1 st.2.1)))
    ⊢ wp frame (wpE defs₀ 𝒱 (c : Thread nD τ) bd) Set.univ
      (k0_part8 (F := F) i tbM0_0 htbM0_0 tbM0_1 htbM0_1 arg3 harg3 arg4 harg4 arg5 harg5 arg6 harg6 hbM0_0 harg7 arg8 harg8 arg9 harg9 scM0_0 harg10 cc0_scratch1
        v9 v48 hc v50 v52 v56 v60 v68) Q := by
  rw [k0_part8_eq_skeleton]
  unfold k0_part8_skel
  unfold owns
  iintro ⟨HS, ⟨%d8, %f8, -, H8⟩, HK⟩
  iapply (Scf.wp_for_bind Idealize.ShloMosaic.frame (wpE defs₀ 𝒱 (c : Thread nD τ) bd) Set.univ _ _ _ _ _ _
    (fun k a => iprop(Own c ((i 0).val % 2) f ∗ ⌜a = chunks v48 v50 v52 f ((i 0).val % 2) (k0_pay38 v60 v68, k0_pay39, k0_pay40 v56) k⌝)) ?_) $$ [HS]
  · intro k acc
    refine BIBase.Entails.trans ?_ (t7_step c 𝒱 bd i arg3 harg3 arg4 harg4 arg5 harg5 arg6 harg6 harg7 arg8 harg8 arg9 harg9 harg10 v9 v48 hv hc v50 v52 v56 v60 v68 f k acc _)
    iintro ⟨HS, %e⟩
    subst e
    isplitl [HS]; · iexact HS
    iintro HS
    isplitl [HS]; · iexact HS
    ipureintro; rfl
  · isplitl [HS]; · iexact HS
    ipureintro; rfl
  iintro %a ⟨HS, %e⟩
  have e' : a = st := e.trans ((congrArg (chunks v48 v50 v52 f ((i 0).val % 2) (k0_pay38 v60 v68, k0_pay39, k0_pay40 v56)) (t7_trips hv)).trans hst.symm)
  obtain ⟨a0, a1, a2⟩ := a
  subst e'
  iapply (none_wp c 𝒱 bd _ _ (t8_trips (v := v48) hv))
  sl_exec
  iapply (show ∀ v, Q v ⊢ wp frame (wpE defs₀ 𝒱 (c : Thread nD τ) bd) Set.univ (.ret v) Q from fun v => by iintro H; sl_step; iexact H)
  iapply HK
  isplitl [HS]; · iexact HS
  iexists _; isplitr; swap; · iexact H8
  ipureintro; exact block_write arg8 _ _ _

/-- What the chunks of point `t` make of its blocks. -/
def final (t : ℕ) : St F :=
  chunks (lenW ln t) (k0_pay33 x3) (k0_pay34 x4) (G tb ln kv (t + 1)) (t % 2)
    (k0_pay38 (k0_pay36 x3 x5) (k0_pay37 x4 x6), k0_pay39, k0_pay40 (k0_pay35 x5)) (nchunks (lenW ln t).toNat)

/-- The first result's block. -/
def outBlock (t : ℕ) : Vec F S1x32x512 .bf16 := k0_pay43 (final tb ln kv x3 x4 x5 x6 t).2.1 (final tb ln kv x3 x4 x5 x6 t).2.2
/-- The second result's block. -/
def lseBlock (t : ℕ) : Vec F S1x1x32 .f32 := k0_pay1 (lenW ln t) (k0_pay44 (final tb ln kv x3 x4 x5 x6 t).1 (final tb ln kv x3 x4 x5 x6 t).2.1)

/-- The body at one point. -/
theorem body_wp {Q : PUnit → sProp (MM F)} :
    iprop((Found c tb ln kv (i 0).val ∗ tbPt0 c tbM0_0 tb ∗ tbPt0 c tbM0_1 ln) ∗ (∃ W, owes (c : Thread nD τ) 0 W)
      ∗ Blocks c arg3 arg4 arg5 arg6 x3 x4 x5 x6 ∗ (∃ d, owns (c : Thread nD τ) arg8 fullShare d) ∗ (∃ d, owns (c : Thread nD τ) arg9 fullShare d)
      ∗ (iprop(((Ahead c tb ln kv (i 0).val ∗ Collected c tb ln kv (i 0).val) ∗ tbPt0 c tbM0_0 tb ∗ tbPt0 c tbM0_1 ln) ∗ (∃ W, owes (c : Thread nD τ) 0 W)
        ∗ Blocks c arg3 arg4 arg5 arg6 x3 x4 x5 x6
        ∗ owns (c : Thread nD τ) arg8 fullShare (outBlock tb ln kv x3 x4 x5 x6 (i 0).val)
        ∗ owns (c : Thread nD τ) arg9 fullShare (lseBlock tb ln kv x3 x4 x5 x6 (i 0).val)) -∗ Q ⟨⟩))
    ⊢ wp frame (wpE defs₀ 𝒱 (c : Thread nD τ) bd) Set.univ
      (cc0_attend (F := F) i tbM0_0 htbM0_0 tbM0_1 htbM0_1 arg3 harg3 arg4 harg4 arg5 harg5 arg6 harg6 hbM0_0 harg7 arg8 harg8 arg9 harg9 scM0_0 harg10 cc0_scratch1) Q := by
  rw [cc0_attend_eq_skeleton]
  unfold cc0_attend_skel
  iintro ⟨⟨HF, HT, HL⟩, HO, HB, H8, H9, HK⟩
  iapply (wp_cut c 𝒱 bd)
  iapply (part6_wp c tb ln kv 𝒱 bd i arg3 harg3 arg4 harg4 arg5 harg5 arg6 harg6 harg7 arg8 harg8 arg9 harg9 harg10 hl hw)
  isplitl [HT]; · iexact HT
  isplitl [HL]; · iexact HL
  isplitl [HF]; · iexact HF
  iintro %a0 %v9 %hw7 %v21 %v35 %e ⟨HT, HL, HF, HA⟩
  iapply (wp_cut c 𝒱 bd)
  iapply (part7_wp c tb ln kv 𝒱 bd i arg3 harg3 arg4 harg4 arg5 harg5 arg6 harg6 harg7 arg8 harg8 arg9 harg9 harg10 hl hw x3 x4 x5 x6 a0 v21 v35 e hw7)
  isplitl [HT]; · iexact HT
  isplitl [HL]; · iexact HL
  isplitl [HF]; · iexact HF
  isplitl [HO]; · iexact HO
  isplitl [HB]; · iexact HB
  iintro %hw10 ⟨HT, HL, ⟨HS, HV, HM⟩, HO, HB⟩
  iapply (wp_cut c 𝒱 bd)
  iapply (part8_wp c 𝒱 bd i arg3 harg3 arg4 harg4 arg5 harg5 arg6 harg6 harg7 arg8 harg8 arg9 harg9 harg10 v9 (lenW ln (i 0).val) (hl _) hw10 _ _ _ _ _ (G tb ln kv ((i 0).val + 1))
    (final tb ln kv x3 x4 x5 x6 (i 0).val) rfl)
  isplitl [HS]; · iexact HS
  isplitl [H8]; · iexact H8
  iintro ⟨HS, H8⟩
  unfold owns
  icases H9 with ⟨%d9, %f9, -, H9⟩
  sl_exec
  sl_step
  iapply HK
  isplitl [HA HS HV HM HT HL]
  · isplitl [HA HS HV HM]
    · isplitl [HA]; · iexact HA
      isplitl [HS]; · iexact HS
      isplitl [HV] <;> iassumption
    isplitl [HT] <;> iassumption
  isplitl [HO]; · iexact HO
  isplitl [HB]; · iexact HB
  isplitl [H8]; · iexact H8
  iexists _; isplitr; swap; · iexact H9
  ipureintro; exact block_write arg9 _ _ _

end Cert.Attend.KernelIdeal

end
-- ==== Proof.KernelIdeal.Run.lean ====
/- The run: the proof data of the one pipeline (what every window's buffer holds after every point, and what the two slots
   hold between points), the body's obligation, and the launch. -/
module

public import proofs.«01_k».proof.Proof.KernelIdeal.Whole
public import Idealize.ShloMosaic.Lib.Claim

@[expose] public section

set_option maxRecDepth 16384

noncomputable section

namespace Cert.Attend.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section
variable (c : Dev nD) (tb : Tab F) (ln : Len F) (kv : Kvs F)

/-- The two slots between points: nothing started before the first point and after the last. -/
abbrev Between (t : ℕ) : sProp (MM F) := if t = 120 then Fresh c kv else Found c tb ln kv t

theorem between_found {t : ℕ} (h : t < 120) : Between c tb ln kv t = Found c tb ln kv t := if_neg (by omega)

/-- What a point leaves is what the next finds. -/
theorem between_next {t : ℕ} (h : t < 120) : iprop(Ahead c tb ln kv t ∗ Collected c tb ln kv t) ⊢ Between c tb ln kv (t + 1) := by
  by_cases h1 : t + 1 < 120
  · rw [between_found c tb ln kv h1, show Ahead c tb ln kv t = Flying c tb ln kv (t + 1) 0 from if_pos h1,
      show Found c tb ln kv (t + 1) = iprop(Flying c tb ln kv (t + 1) 0 ∗ Idle c tb ln kv (t + 1)) from if_neg (Nat.succ_ne_zero t)]
    unfold Idle Collected
    rw [show (t + 1 + 1) % 2 = t % 2 by omega]
  · obtain rfl : t = 119 := by omega
    rw [show Ahead c tb ln kv 119 = Idle c tb ln kv 119 from if_neg h1, show Between c tb ln kv (119 + 1) = Fresh c kv from if_pos rfl]
    unfold Idle Collected Fresh
    rw [show (119 + 1) % 2 = 0 from rfl, show 119 % 2 = 1 from rfl, own_next c tb ln kv (s := 0) (t := 119) (by decide)]
    iintro ⟨⟨HO, HV, HM⟩, HO', HV', HM'⟩
    isplitl [HO HO']
    · iexists (G tb ln kv (119 + 1))
      iapply (own_both c _).2
      isplitl [HO] <;> iassumption
    isplitl [HV HV']
    · isplitl [HV] <;> iassumption
    isplitl [HM] <;> iassumption
end

variable (m : (ℓ : Loc nD τ sig) → Buf (Elt F) ℓ) (ρ : Dev nD → PrngReg)

/-- The tables as the region finds them. -/
abbrev tabs : Tab F := tbl m 0
abbrev lens : Len F := tbl m 1
/-- The source array as the region finds it. -/
abbrev kvs (c : Dev nD) : Kvs F := V m c main_arg6

/-- What the region hands the body, and takes back. -/
theorem phi_fresh (c : Dev nD) : (Pipeline.ΦD osem0 spec0 H0 (V m) c : sProp (MM F)) ⊣⊢ iprop(Fresh c (kvs m c) ∗ (∃ r, prngReg c r)) := by
  rw [PhiD0_eq]
  constructor
  · iintro ⟨⟨%d, HS⟩, Hg, ⟨Hq0, Hq1⟩, Hh⟩
    isplitr [Hg]
    · isplitl [HS]
      · iexists d
        iapply (Entails.of_eq (owns_whole (c : Thread nD τ) cc0_scratch0 fullShare d))
        iexact HS
      isplitl [Hh]
      · iapply (kv_both c (kvs m c)).1; iexact Hh
      isplitl [Hq0]; · iexact Hq0
      iexact Hq1
    iexact Hg
  · iintro ⟨⟨⟨%d, HS⟩, HV, Hq0, Hq1⟩, Hg⟩
    isplitl [HS]
    · iexists d
      iapply (Entails.of_eq (owns_whole (c : Thread nD τ) cc0_scratch0 fullShare d).symm)
      iexact HS
    isplitl [Hg]; · iexact Hg
    isplitl [Hq0 Hq1]
    · isplitl [Hq0]; · iexact Hq0
      iexact Hq1
    iapply (kv_both c (kvs m c)).2; iexact HV

/-- The proof data of the one pipeline. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outBlock (tabs m) (lens m) (kvs m c) (iblk m hO c 0 t) (iblk m hO c 1 t) (iblk m hO c 2 t) (iblk m hO c 3 t) t.val
    | ⟨5, _⟩ => lseBlock (tabs m) (lens m) (kvs m c) (iblk m hO c 0 t) (iblk m hO c 1 t) (iblk m hO c 2 t) (iblk m hO c 3 t) t.val
  Φ t := iprop((Between c (tabs m) (lens m) (kvs m c) t.val ∗ (∃ r, prngReg c r)) ∗ tbPt0 c tbM0_0 (tabs m) ∗ tbPt0 c tbM0_1 (lens m))
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t
    = outBlock (tabs m) (lens m) (kvs m c) (iblk m hO c 0 t) (iblk m hO c 1 t) (iblk m hO c 2 t) (iblk m hO c 3 t) t.val := by dsimp only [dats]; try rfl
theorem after0_5 (hO : Ok m) (c : Dev nD) (t : Fin (cfgM m hO).N) : (dats m hO 0 c).after 5 t
    = lseBlock (tabs m) (lens m) (kvs m c) (iblk m hO c 0 t) (iblk m hO c 1 t) (iblk m hO c 2 t) (iblk m hO c 3 t) t.val := by dsimp only [dats]; try rfl

/-- Each input's buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is called with at point `t`, -/
def bodyPre (hO : Ok m) (c : Dev nD) (t : Fin (cfgM m hO).N) : sProp (MM F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MM F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

theorem coords_val : ∀ t : Fin 120, (grid0.coords t 0).val = t.val := by decide +kernel

variable (hl : ∀ x, ((lens m x : BitVec 32)).toNat ≤ 4096) (hw : ∀ x, ((tabs m x : BitVec 32)).toNat < 38400)
include hl hw

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have ht : t.val < 120 := t.isLt
  have hc : (grid0.coords t 0).val = t.val := coords_val t
  unfold bodyPre bodyPost bodyAt0
  simp only [before0_0, before0_1, before0_2, before0_3]
  rw [after0_0, after0_1, after0_2, after0_3, after0_4, after0_5]
  rw [show (dats m hO 0 c).Φ t.castSucc = iprop((Between c (tabs m) (lens m) (kvs m c) t.val ∗ (∃ r, prngReg c r)) ∗ tbPt0 c tbM0_0 (tabs m) ∗ tbPt0 c tbM0_1 (lens m)) from rfl,
    show (dats m hO 0 c).Φ t.succ = iprop((Between c (tabs m) (lens m) (kvs m c) (t.val + 1) ∗ (∃ r, prngReg c r)) ∗ tbPt0 c tbM0_0 (tabs m) ∗ tbPt0 c tbM0_1 (lens m)) from rfl,
    between_found c _ _ _ ht]
  unfold Dat.owesAt Pipeline.owesWithin
  rw [show (dats m hO 0 c).owed t.castSucc = 0 from rfl, show (dats m hO 0 c).owed t.succ = 0 from rfl]
  iintro ⟨⟨⟨HF, Hg⟩, HT, HL⟩, ⟨%W, -, HW⟩, ⟨%d0, H0⟩, ⟨%d1, H1⟩, ⟨%d2, H2⟩, ⟨%d3, H3⟩, ⟨%d4, H4⟩, ⟨%d5, H5⟩⟩
  have hb := body_wp c (tabs m) (lens m) (kvs m c) Variants.none none (grid0.coords t) (ms0_0 m hO t) (hs0_0 m hO t) (ms0_1 m hO t) (hs0_1 m hO t)
    (ms0_2 m hO t) (hs0_2 m hO t) (ms0_3 m hO t) (hs0_3 m hO t) (Memref.isWhole_whole _) (ms0_4 m hO t) (hs0_4 m hO t) (ms0_5 m hO t) (hs0_5 m hO t) (Memref.isWhole_whole _)
    hl hw (iblk m hO c 0 t) (iblk m hO c 1 t) (iblk m hO c 2 t) (iblk m hO c 3 t) (Q := fun _ => bodyPost m hO c t)
  rw [hc] at hb
  iapply hb
  isplitl [HF HT HL]
  · isplitl [HF]; · iexact HF
    isplitl [HT]; · iexact HT
    iexact HL
  isplitl [HW]; · iexists W; iexact HW
  isplitl [H0 H1 H2 H3]
  · isplitl [H0]; · iexact H0
    isplitl [H1]; · iexact H1
    isplitl [H2]; · iexact H2
    iexact H3
  isplitl [H4]; · iexists _; iexact H4
  isplitl [H5]; · iexists _; iexact H5
  iintro ⟨⟨HB, HT, HL⟩, ⟨%W', HW'⟩, ⟨H0, H1, H2, H3⟩, H4, H5⟩
  unfold bodyPost Dat.owesAt Pipeline.owesWithin
  rw [after0_0, after0_1, after0_2, after0_3, after0_4, after0_5,
    show (dats m hO 0 c).Φ t.succ = iprop((Between c (tabs m) (lens m) (kvs m c) (t.val + 1) ∗ (∃ r, prngReg c r)) ∗ tbPt0 c tbM0_0 (tabs m) ∗ tbPt0 c tbM0_1 (lens m)) from rfl,
    show (dats m hO 0 c).owed t.succ = 0 from rfl]
  isplitl [HB Hg HT HL]
  · isplitl [HB Hg]
    · isplitl [HB]
      · iapply (between_next c _ _ _ ht); iexact HB
      iexact Hg
    isplitl [HT]; · iexact HT
    iexact HL
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

omit hl hw in
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hl hw hO c t) rfl .rfl fun _ => .rfl

set_option backward.isDefEq.respectTransparency.types false in
/-- Every execution ends with every array as the proof data say, every other buffer as found, and every counter at zero. -/
theorem run_main_quiescent (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hl hw hO c).loose) (hshare := fun c => (dats m hO 0 c).share_full fun _ => rfl)
    (howed := fun _ _ => rfl) (V := V m) (hmain := hmain m Variants.none) (hA := A_eq m hO) (hpf := V_pre m)
    (hin := fun c => by
      rw [PhiT0_eq]
      change _ ⊢ iprop((Between c (tabs m) (lens m) (kvs m c) 0 ∗ (∃ r, prngReg c r)) ∗ tbPt0 c tbM0_0 (tabs m) ∗ tbPt0 c tbM0_1 (lens m))
      rw [between_found c _ _ _ (show 0 < 120 by decide), show Found c (tabs m) (lens m) (kvs m c) 0 = Fresh c (kvs m c) from if_pos rfl]
      iintro ⟨HD, HT⟩
      ihave HD' := (phi_fresh m c).1 $$ HD
      icases HD' with ⟨HF, Hg⟩
      isplitr [HT]
      · isplitl [HF] <;> iassumption
      iexact HT)
    (hout := fun c => by
      change iprop((Between c (tabs m) (lens m) (kvs m c) 120 ∗ (∃ r, prngReg c r)) ∗ tbPt0 c tbM0_0 (tabs m) ∗ tbPt0 c tbM0_1 (lens m)) ⊢ _
      rw [show Between c (tabs m) (lens m) (kvs m c) 120 = Fresh c (kvs m c) from if_pos rfl]
      iintro ⟨HF, -⟩
      iapply (phi_fresh m c).2
      iexact HF)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hl hw hO)

/-- The argument arrays end unchanged, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (fun c => (dats m hO 0 c).toR) (A_eq m hO)
      ((θ_run defs _ _).mono (fun _ h c => ⟨fun w => ((dats m hO 0 c).toR_arrAt_iff w _ _).mpr ((h c).1 w), (h c).2⟩) (run_main m ρ hl hw hO)))
    ((θ_run defs _ _).mono (fun _ h => h.2) (run_main_quiescent m ρ hl hw hO))

end Cert.Attend.KernelIdeal

end
-- ==== Proof.KernelIdeal.Range.lean ====
/- What the precondition says of the two tables: every page number of the page table names a page of the source array, and
   every length is at most the 4096 tokens a row of the page table can hold. -/
module

public import proofs.«01_k».proof.Proof.KernelIdeal.Run
public import proofs.«01_k».proof.Defs

@[expose] public section

set_option maxRecDepth 16384

noncomputable section

namespace Cert.Attend.KernelIdeal

open Cert.KernelIdeal Cert.KernelIdeal.Gen
open Idealize.ShloMosaic Idealize.ShloMosaic.TcCoe

/-- A signed word from zero up to below a small bound is, unsigned, below it. -/
theorem below_of_signed (a k : BitVec 32) (hk : k.toNat < 2 ^ 31) (h : IntOp.andi (IntOp.cmpi .sge a 0#32) (IntOp.cmpi .slt a k) = 1#1) :
    a.toNat < k.toNat := by
  have h0 : (0#32).sle a = true ∧ a.slt k = true := by
    revert h
    simp only [IntOp.andi, IntOp.cmpi]
    cases (0#32).sle a <;> cases a.slt k <;> simp
  have h1 := h0.1
  have h2 := h0.2
  simp only [BitVec.sle, BitVec.slt, decide_eq_true_eq, BitVec.toInt_eq_toNat_cond] at h1 h2
  have := a.isLt
  simp at h1 h2
  split at h1 <;> split at h2 <;> omega

/-- The same for a bound that is itself allowed. -/
theorem most_of_signed (a k : BitVec 32) (hk : k.toNat < 2 ^ 31) (h : IntOp.andi (IntOp.cmpi .sge a 0#32) (IntOp.cmpi .sle a k) = 1#1) :
    a.toNat ≤ k.toNat := by
  have h0 : (0#32).sle a = true ∧ a.sle k = true := by
    revert h
    simp only [IntOp.andi, IntOp.cmpi]
    cases (0#32).sle a <;> cases a.sle k <;> simp
  have h1 := h0.1
  have h2 := h0.2
  simp only [BitVec.sle, decide_eq_true_eq, BitVec.toInt_eq_toNat_cond] at h1 h2
  have := a.isLt
  simp at h1 h2
  split at h1 <;> split at h2 <;> omega

variable {F : FTy → Type} [FloatOps F]
variable (m : (ℓ : Loc nD τ sig) → Buf (Elt F) ℓ)

/-- The page numbers are in range when the precondition's first result says so. -/
theorem tabs_lt (h : ∀ i : S120x256.Idx, IntOp.andi (IntOp.cmpi .sge (m (((0 : Dev nD).tc : Thread nD τ).loc main_arg0) i) 0#32)
    (IntOp.cmpi .slt (m (((0 : Dev nD).tc : Thread nD τ).loc main_arg0) i) 38400#32) = 1#1) :
    ∀ x, (tabs m x : BitVec 32).toNat < 38400 := by
  intro x
  have e : tabs m = m (((0 : Dev nD).tc : Thread nD τ).loc main_arg0) := V_main_arg0 m 0
  rw [e]
  exact below_of_signed _ 38400#32 (by decide) (h x)

/-- The lengths are in range when the precondition's second result says so. -/
theorem lens_le (h : ∀ i : S120.Idx, IntOp.andi (IntOp.cmpi .sge (m (((0 : Dev nD).tc : Thread nD τ).loc main_arg1) i) 0#32)
    (IntOp.cmpi .sle (m (((0 : Dev nD).tc : Thread nD τ).loc main_arg1) i) 4096#32) = 1#1) :
    ∀ x, (lens m x : BitVec 32).toNat ≤ 4096 := by
  intro x
  have e : lens m = m (((0 : Dev nD).tc : Thread nD τ).loc main_arg1) := V_main_arg1 m 0
  rw [e]
  exact most_of_signed _ 4096#32 (by decide) (h x)

/-- No window's index map reads a table, so the pipeline's side condition on them is empty. -/
theorem ok : Ok m := by
  show True
  trivial

end Cert.Attend.KernelIdeal

namespace Cert.Attend

open Cert.KernelIdeal Cert.KernelIdeal.Gen Cert.Attend.KernelIdeal
open Idealize.ShloMosaic Idealize.ShloMosaic.TcCoe

/-- The frame of the attend call under the range precondition. -/
theorem frame_KernelIdeal [hP : Cert.Pre_in_range.Facts] : Cert.quiescent_KernelIdeal (hKernelIdeal := Cert.KernelIdeal.Gen.facts) (hPre_in_range := hP) := by
  intro m g hpre
  exact frame m g (lens_le m fun i => congrFun (hpre 0).2 i) (tabs_lt m fun i => congrFun (hpre 0).1 i) (ok m)

end Cert.Attend

end
-- ==== Proof.Value.KernelHost.lean ====
/- What the kernel's host operations leave in the arrays its windows read, at an index: the rotated queries with the four rows that
   pick a token's scales out, the new latent and the rotated key. -/
module

public import proofs.«01_k».proof.Proof.KernelIdeal.Entry
public import Idealize.ShloMosaic.Lib.Routing.OpsSet
public import Idealize.ShloMosaic.Lib.StableHlo.ReadAt
public import Idealize.ShloMosaic.Lib.Pointwise

@[expose] public section

noncomputable section

namespace Cert.Attend.KernelIdeal

open Cert.KernelIdeal Cert.KernelIdeal.Gen Idealize.ShloMosaic Idealize.ShloMosaic.TcCoe
open Idealize.SL.Sem

variable (m : (ℓ : Loc nD τ sig) → Buf (Elt Ideal) ℓ)

/-- The arguments a core holds at launch. -/
abbrev pageA (c : Dev nD) : IVec S120x256 32 := m ((c.tc : Thread nD τ).loc main_arg0)
abbrev lenA (c : Dev nD) : IVec S120 32 := m ((c.tc : Thread nD τ).loc main_arg1)
abbrev qA (c : Dev nD) : FVec Ideal S120x32x512 .bf16 := m ((c.tc : Thread nD τ).loc main_arg2)
abbrev qrA (c : Dev nD) : FVec Ideal S120x32x64 .bf16 := m ((c.tc : Thread nD τ).loc main_arg3)
abbrev nlA (c : Dev nD) : FVec Ideal S120x512 .bf16 := m ((c.tc : Thread nD τ).loc main_arg4)
abbrev krA (c : Dev nD) : FVec Ideal S120x64 .bf16 := m ((c.tc : Thread nD τ).loc main_arg5)
abbrev kvA (c : Dev nD) : IVec S38400x24x128 32 := m ((c.tc : Thread nD τ).loc main_arg6)

theorem host_nl (c : Dev nD) (b : Fin 120) (j : Fin 512) : V m c main_v27 (ix3 b 0 j) = nlA m c (ix2 b j) := by
  unfold V
  after_reads_at

theorem host_kr (c : Dev nD) (b : Fin 120) (k : Fin 128) :
    V m c main_v26 (ix3 b 0 k) = if h : k.val < 64 then krA m c (ix2 b ⟨k.val, h⟩) else 0 := by
  have e : FloatOps.sitofp (F := Ideal) FTy.bf16 0#32 = (0 : EReal) := by
    show (((0#32 : BitVec 32).toInt : ℝ) : EReal) = 0
    simp
  rw [← e]
  unfold V
  after_reads_at

/-- The rotated queries set into zeros at the start of the array. -/
theorem scatter_at (x0 : FVec Ideal S120x48x128 .bf16) (idx : IVec S2 32) (u : FVec Ideal S120x32x64 .bf16) (h0 : ∀ j, idx j = 0#32) (b : Fin 120) (r : Fin 48) (k : Fin 128) :
    Host.scatter scatter_S120x48x128_S2_S120x32x64_012_n_12_0 (fun _ b => b) x0 idx u (ix3 b r k)
      = if h : r.val < 32 ∧ k.val < 64 then u (ix3 b ⟨r.val, h.1⟩ ⟨k.val, h.2⟩) else x0 (ix3 b r k) := by
  have hs : ∀ (y : S120x32x64.Idx) (a : Fin 3), (scatter_S120x48x128_S2_S120x32x64_012_n_12_0).start y idx a = 0 := by
    intro y a
    unfold ScatterDims.start
    fin_cases a <;> simp [scatter_S120x48x128_S2_S120x32x64_012_n_12_0, h0]
  have hw : ∀ (y : S120x32x64.Idx) (a : Fin 3), (scatter_S120x48x128_S2_S120x32x64_012_n_12_0).window y a = (y a).val := by
    intro y a
    fin_cases a <;> rfl
  have hl : ∀ y : S120x32x64.Idx, (scatter_S120x48x128_S2_S120x32x64_012_n_12_0).resultIdx? y idx = some (ix3 b r k)
      ↔ (y 0).val = b.val ∧ (y 1).val = r.val ∧ (y 2).val = k.val := by
    intro y
    rw [Routing.resultIdx?_eq_some]
    constructor
    · intro h
      have h0 := h 0
      have h1 := h 1
      have h2 := h 2
      rw [hs, hw, zero_add] at h0 h1 h2
      exact ⟨Int.ofNat_inj.1 h0, Int.ofNat_inj.1 h1, Int.ofNat_inj.1 h2⟩
    · rintro ⟨e0, e1, e2⟩ a
      rw [hs, hw, zero_add]
      fin_cases a
      · exact congrArg Int.ofNat e0
      · exact congrArg Int.ofNat e1
      · exact congrArg Int.ofNat e2
  by_cases h : r.val < 32 ∧ k.val < 64
  · rw [dif_pos h]
    refine Routing.scatter_set_hit _ x0 idx u (ix3 b r k) _ (fun y hy => ?_) (ix3 b ⟨r.val, h.1⟩ ⟨k.val, h.2⟩) ((hl _).2 ⟨rfl, rfl, rfl⟩)
    obtain ⟨e0, e1, e2⟩ := (hl y).1 hy
    refine congrArg u (funext fun a => Fin.ext ?_)
    fin_cases a
    · exact e0
    · exact e1
    · exact e2
  · rw [dif_neg h]
    refine Routing.scatter_set_miss _ x0 idx u (ix3 b r k) fun y hy => h ?_
    obtain ⟨e0, e1, e2⟩ := (hl y).1 hy
    exact ⟨e1 ▸ (y 1).isLt, e2 ▸ (y 2).isLt⟩

/-- A comparison's bit as a number. -/
theorem bit_value (p : Prop) [Decidable p] (x : BitVec 1) (h : x = if p then 1#1 else 0#1) :
    FloatOps.uitofp (F := Ideal) FTy.bf16 x = if p then (1 : EReal) else 0 := by
  subst h
  show (((if p then 1#1 else 0#1 : BitVec 1).toNat : ℝ) : EReal) = _
  by_cases h : p <;> simp [h]

theorem row_bit : ∀ r : Fin 48, IntOp.andi (IntOp.cmpi CmpIPredicate.sge (BitVec.ofNat 32 r.val) 32#32) (IntOp.cmpi CmpIPredicate.slt (BitVec.ofNat 32 r.val) 36#32)
    = if 32 ≤ r.val ∧ r.val < 36 then 1#1 else 0#1 := by decide +kernel

/-- The rows that pick out the scales, before they are spread over the batch. -/
theorem mask_at (r : Fin 48) (k : Fin 128) :
    (mulf (F := Ideal) (uitofp FTy.bf16 (cmpi CmpIPredicate.eq (addi (iotaInDim S48x128 32 0) (broadcastInDim S48x128 ![] bcast_S_S48x128 (constantI S_ 32 32#32))) (iotaInDim S48x128 32 1)))
      (broadcastInDim S48x128 ![0, 1] bcast_S48x1_S48x128_0_1 (broadcastInDim S48x1 ![0] bcast_S48_S48x1_0
        (uitofp FTy.bf16 (andi (cmpi CmpIPredicate.sge (iotaInDim S48 32 0) (broadcastInDim S48 ![] bcast_S_S48 (constantI S_ 32 32#32)))
          (cmpi CmpIPredicate.slt (iotaInDim S48 32 0) (broadcastInDim S48 ![] bcast_S_S48 (constantI S_ 32 36#32))))))) (ix2 r k) : EReal)
      = (if r.val + 32 = k.val then 1 else 0) * (if 32 ≤ r.val ∧ r.val < 36 then 1 else 0) := by
  pointwise
  refine congrArg₂ (· * ·) (bit_value _ _ ?_) (bit_value _ _ (row_bit r))
  have e : (IntOp.addi (BitVec.ofNat 32 r.val) 32#32 = BitVec.ofNat 32 k.val) ↔ r.val + 32 = k.val := by
    show (BitVec.ofNat 32 r.val + 32#32 = BitVec.ofNat 32 k.val) ↔ _
    rw [← BitVec.toNat_inj, BitVec.toNat_add, BitVec.toNat_ofNat, BitVec.toNat_ofNat, BitVec.toNat_ofNat]
    omega
  by_cases h : r.val + 32 = k.val
  · rw [if_pos h, e.2 h]
    simp [IntOp.cmpi]
  · rw [if_neg h]
    have h' := fun q => h (e.1 q)
    show BitVec.ofBool (IntOp.addi (BitVec.ofNat 32 r.val) 32#32 == BitVec.ofNat 32 k.val) = 0#1
    rw [beq_false_of_ne h']
    rfl

theorem host_qm (c : Dev nD) (b : Fin 120) (r : Fin 48) (k : Fin 128) :
    V m c main_v24 (ix3 b r k) = (if h : r.val < 32 ∧ k.val < 64 then qrA m c (ix3 b ⟨r.val, h.1⟩ ⟨k.val, h.2⟩) else 0)
      + (if r.val + 32 = k.val then 1 else 0) * (if 32 ≤ r.val ∧ r.val < 36 then 1 else 0) := by
  unfold V
  after_reads_simp
  all_goals try simp -implicitDefEqProofs only [StableHlo.TRef.toBuf, StableHlo.TRef.ofBuf, cast_cast, cast_eq]
  have e1 : StableHlo.upto (List.flatten [hostOps0, hostOps0_1, hostOps0_2]) (fun b => m (c, b)) 6 (Proc.tc.devRef main_v1) = (fun _ => 0#32) := by
    after_reads_simp
    rfl
  have e2 : StableHlo.upto (List.flatten [hostOps0, hostOps0_1, hostOps0_2]) (fun b => m (c, b)) 6 (Proc.tc.devRef main_v2) = (fun _ => 0#32) := by
    after_reads_simp
    rfl
  rw [e1, e2]
  rw [← mask_at]
  refine Eq.trans (b := _ + _) (congrArg₂ (· + ·) (scatter_at _ _ _ (fun j => ?_) b r k) ?_) (congrArg (· + _) ?_)
  · obtain ⟨i, rfl⟩ : ∃ i : Fin 2, j = ix1 i := ⟨j 0, funext fun a => by fin_cases a; rfl⟩
    fin_cases i <;> rfl
  · generalize mulf (F := Ideal) (uitofp FTy.bf16 _) _ = X
    pointwise
  · refine congrArg (fun z => dite _ _ fun _ => z) ?_
    show Ideal.ofBits .bf16 0#16 = 0
    simp [Ideal.ofBits, Ideal.ieee]

end Cert.Attend.KernelIdeal

end
-- ==== Proof.Value.Decode.lean ====
/- The codes and the bf16 fields packed in a 32-bit word, and what reading a block of words at a narrower width gives. -/
module

public import Idealize.ShloMosaic.Lib.Pointwise
public import Idealize.ShloMosaic.Lib.BitcastPair

@[expose] public section

noncomputable section

namespace Cert.Attend

open Idealize.ShloMosaic

/-- Byte `i` of a word as an fp8 code, -/
def codeOf (w : BitVec 32) (i : ℕ) : EReal := Ideal.ofBits .fp8e4m3 (w.extractLsb' (8 * i) 8)
/-- and half `i` of a word as a bf16 value. -/
def halfOf (w : BitVec 32) (i : ℕ) : EReal := Ideal.ofBits .bf16 (w.extractLsb' (16 * i) 16)

theorem bitcast_32_8 {s t : Shape} (x : s.Idx → BitVec 32) (h : s.Bitcasts 32 t 8) (j : t.Idx) :
    bitcast t 8 x h j = (x (h.srcIdx j (t.row j / 4) (fun a ha => by
        have := h.pos_lt j 0 (by decide) a ha; omega))).extractLsb' (8 * (t.row j % 4)) 8 := by
  apply BitVec.eq_of_getLsbD_eq
  intro i hi
  rw [bitcast_getLsbD x h j i hi (by decide), BitVec.getLsbD_extractLsb']
  have ep : (t.row j * 8 + i) / 32 = t.row j / 4 := by omega
  have eq : (t.row j * 8 + i) % 32 = 8 * (t.row j % 4) + i := by omega
  rw [h.srcIdx_congr j ep _ (fun a ha => by have := h.pos_lt j 0 (by decide) a ha; omega), eq]
  simp [hi]

/-- Rows of codes: row `r` is byte `r % 4` of word row `r / 4`. -/
theorem codes_ix2 {R R' N : ℕ} (x : IVec ⟨2, ![R, N]⟩ 32) (h : (⟨2, ![R, N]⟩ : Shape).Bitcasts 32 ⟨2, ![R', N]⟩ 8) (r : Fin R') (c : Fin N) (hr : r.val / 4 < R) :
    bitcastToFloat (F := Ideal) .fp8e4m3 (bitcast ⟨2, ![R', N]⟩ 8 x h) (ix2 r c) = codeOf (x (ix2 ⟨r.val / 4, hr⟩ c)) (r.val % 4) := by
  show Ideal.ofBits .fp8e4m3 (bitcast ⟨2, ![R', N]⟩ 8 x h (ix2 r c)) = _
  rw [bitcast_32_8]
  unfold codeOf
  have hrow : Shape.row (⟨2, ![R', N]⟩ : Shape) (ix2 r c) = r.val := rfl
  have e : ∀ hp, h.srcIdx (ix2 r c) (Shape.row (⟨2, ![R', N]⟩ : Shape) (ix2 r c) / 4) hp = ix2 ⟨r.val / 4, hr⟩ c := fun hp => by
    funext a
    fin_cases a
    · rfl
    · rfl
  rw [e, hrow]

/-- Rows of bf16 values: row `r` is half `r % 2` of word row `r / 2`. -/
theorem halves_ix2 {R R' N : ℕ} (x : IVec ⟨2, ![R, N]⟩ 32) (h : (⟨2, ![R, N]⟩ : Shape).Bitcasts 32 ⟨2, ![R', N]⟩ 16) (r : Fin R') (c : Fin N) (hr : r.val / 2 < R) :
    bitcastToFloat (F := Ideal) .bf16 (bitcast ⟨2, ![R', N]⟩ 16 x h) (ix2 r c) = halfOf (x (ix2 ⟨r.val / 2, hr⟩ c)) (r.val % 2) := by
  show Ideal.ofBits .bf16 (bitcast ⟨2, ![R', N]⟩ 16 x h (ix2 r c)) = _
  rw [bitcast_32_16]
  unfold halfOf
  have hrow : Shape.row (⟨2, ![R', N]⟩ : Shape) (ix2 r c) = r.val := rfl
  have e : ∀ hp, h.srcIdx (ix2 r c) (Shape.row (⟨2, ![R', N]⟩ : Shape) (ix2 r c) / 2) hp = ix2 ⟨r.val / 2, hr⟩ c := fun hp => by
    funext a
    fin_cases a
    · rfl
    · rfl
  rw [e, hrow]

end Cert.Attend

end
-- ==== Proof.Value.Softmax.lean ====
/- Softmax over the reals, taken a chunk at a time: for one query row with `n` cached scores and the new token's, the
   running sum and the running weighted sum rescaled from one reference point to the next, and what they come to. -/
module

public import Idealize.ShloMosaic.PureOps.Ideal.Laws

@[expose] public section

noncomputable section

namespace Cert.Attend

open Idealize.ShloMosaic
open scoped BigOperators

variable (n : ℕ) (σ : ℕ → ℝ) (σn : ℝ)

/-- Token `t`'s weight relative to the reference point `M`: nothing past the row's length. -/
def wt (M : ℝ) (t : ℕ) : ℝ := if t < n then Real.exp (σ t - M) else 0
/-- Token `t`'s masked score. -/
def score (t : ℕ) : EReal := if t < n then ((σ t : ℝ) : EReal) else ⊥
/-- The sum of the first `T` tokens' weights and the new token's. -/
def mass (M : ℝ) (T : ℕ) : ℝ := ∑ t ∈ Finset.range T, wt n σ M t + Real.exp (σn - M)
/-- The same weights' sum of one column of the values. -/
def weighted (v : ℕ → ℝ) (vn : ℝ) (M : ℝ) (T : ℕ) : ℝ := ∑ t ∈ Finset.range T, wt n σ M t * v t + Real.exp (σn - M) * vn

theorem exp_score (M : ℝ) (t : ℕ) : Ideal.exp (score n σ t - (M : EReal)) = ((wt n σ M t : ℝ) : EReal) := by
  unfold score wt
  split
  · rw [← EReal.coe_sub, Ideal.exp_coe]
  · rw [EReal.bot_sub, Ideal.exp_bot, EReal.coe_zero]

theorem exp_coe_sub (a b : ℝ) : Ideal.exp ((a : EReal) - (b : EReal)) = ((Real.exp (a - b) : ℝ) : EReal) := by
  rw [← EReal.coe_sub, Ideal.exp_coe]

theorem wt_shift (M M' : ℝ) (t : ℕ) : wt n σ M t * Real.exp (M - M') = wt n σ M' t := by
  unfold wt
  split
  · rw [← Real.exp_add]; congr 1; ring
  · rw [zero_mul]

theorem exp_shift (a M M' : ℝ) : Real.exp (a - M) * Real.exp (M - M') = Real.exp (a - M') := by
  rw [← Real.exp_add]; congr 1; ring

theorem mass_shift (M M' : ℝ) (T : ℕ) : mass n σ σn M T * Real.exp (M - M') = mass n σ σn M' T := by
  unfold mass
  rw [add_mul, Finset.sum_mul, exp_shift]
  simp only [wt_shift]

theorem weighted_shift (v : ℕ → ℝ) (vn : ℝ) (M M' : ℝ) (T : ℕ) :
    weighted n σ σn v vn M T * Real.exp (M - M') = weighted n σ σn v vn M' T := by
  unfold weighted
  rw [add_mul, Finset.sum_mul, mul_right_comm (Real.exp (σn - M)), exp_shift]
  congr 1
  refine Finset.sum_congr rfl fun t _ => ?_
  rw [mul_right_comm, wt_shift]

theorem mass_add (M : ℝ) (T K : ℕ) : mass n σ σn M T + ∑ j : Fin K, wt n σ M (T + j.val) = mass n σ σn M (T + K) := by
  unfold mass
  rw [Finset.sum_range_add, Finset.sum_range (fun x => wt n σ M (T + x))]
  ring

theorem weighted_add (v : ℕ → ℝ) (vn : ℝ) (M : ℝ) (T K : ℕ) :
    weighted n σ σn v vn M T + ∑ j : Fin K, wt n σ M (T + j.val) * v (T + j.val) = weighted n σ σn v vn M (T + K) := by
  unfold weighted
  rw [Finset.sum_range_add, Finset.sum_range (fun x => wt n σ M (T + x) * v (T + x))]
  ring

theorem mass_start : mass n σ σn σn 0 = 1 := by simp [mass]
theorem weighted_start (v : ℕ → ℝ) (vn : ℝ) : weighted n σ σn v vn σn 0 = vn := by simp [weighted]

theorem mass_pos (M : ℝ) (T : ℕ) : 0 < mass n σ σn M T := by
  unfold mass
  refine add_pos_of_nonneg_of_pos (Finset.sum_nonneg fun t _ => ?_) (Real.exp_pos _)
  unfold wt
  split
  · exact (Real.exp_pos _).le
  · exact le_rfl

theorem sum_all (f : ℕ → ℝ) (hf : ∀ t, n ≤ t → f t = 0) {T T' : ℕ} (hT : n ≤ T) (hT' : n ≤ T') :
    ∑ t ∈ Finset.range T, f t = ∑ t ∈ Finset.range T', f t := by
  have key : ∀ {U : ℕ}, n ≤ U → ∑ t ∈ Finset.range n, f t = ∑ t ∈ Finset.range U, f t := fun {U} hU =>
    Finset.sum_subset (Finset.range_subset_range.mpr hU) fun t _ h => hf t (by simpa using h)
  rw [← key hT, ← key hT']

theorem wt_past (M : ℝ) (t : ℕ) (h : n ≤ t) : wt n σ M t = 0 := by
  unfold wt; rw [if_neg (by omega)]

theorem mass_all (M : ℝ) {T T' : ℕ} (hT : n ≤ T) (hT' : n ≤ T') : mass n σ σn M T = mass n σ σn M T' := by
  unfold mass
  rw [sum_all n _ (wt_past n σ M) hT hT']

theorem weighted_all (v : ℕ → ℝ) (vn : ℝ) (M : ℝ) {T T' : ℕ} (hT : n ≤ T) (hT' : n ≤ T') :
    weighted n σ σn v vn M T = weighted n σ σn v vn M T' := by
  unfold weighted
  rw [sum_all n _ (fun t h => by rw [wt_past n σ M t h, zero_mul]) hT hT']

/-- The softmax's average of a column, over all 4096 tokens a row can hold, -/
def average (v : ℕ → ℝ) (vn : ℝ) : ℝ := weighted n σ σn v vn 0 4096 / mass n σ σn 0 4096
/-- and the logarithm of the sum of the scores' exponentials. -/
def logMass : ℝ := Real.log (mass n σ σn 0 4096)

theorem average_of (v : ℕ → ℝ) (vn : ℝ) (M : ℝ) {T : ℕ} (hT : n ≤ T) (hn : n ≤ 4096) :
    weighted n σ σn v vn M T / mass n σ σn M T = average n σ σn v vn := by
  rw [mass_all n σ σn M hT hn, weighted_all n σ σn v vn M hT hn, ← mass_shift n σ σn 0 M, ← weighted_shift n σ σn v vn 0 M]
  exact mul_div_mul_right _ _ (Real.exp_pos _).ne'

theorem logMass_of (M : ℝ) {T : ℕ} (hT : n ≤ T) (hn : n ≤ 4096) : M + Real.log (mass n σ σn M T) = logMass n σ σn := by
  rw [mass_all n σ σn M hT hn, ← mass_shift n σ σn 0 M, Real.log_mul (mass_pos n σ σn _ _).ne' (Real.exp_pos _).ne', Real.log_exp]
  unfold logMass
  ring

theorem average_log (v : ℕ → ℝ) (vn : ℝ) : weighted n σ σn v vn (logMass n σ σn) 4096 = average n σ σn v vn := by
  rw [← weighted_shift n σ σn v vn 0, zero_sub, Real.exp_neg, logMass, Real.exp_log (mass_pos n σ σn _ _), ← div_eq_mul_inv]
  rfl

/-! ## The same at extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A maximum of masked scores with a real is real. -/
theorem max_real {ι : Type} (s : Finset ι) (f : ι → EReal) (M : ℝ) (hf : ∀ i, f i ≠ ⊤) (b : EReal) (hb : b ≠ ⊤) :
    ∃ M' : ℝ, max (M : EReal) (s.fold max b f) = (M' : EReal) := by
  have h1 : max (M : EReal) (s.fold max b f) ≠ ⊤ := by
    have : s.fold max b f < ⊤ := (Finset.fold_max_lt ⊤).mpr ⟨lt_top_iff_ne_top.mpr hb, fun i _ => lt_top_iff_ne_top.mpr (hf i)⟩
    exact (max_lt (EReal.coe_lt_top M) this).ne
  have h2 : max (M : EReal) (s.fold max b f) ≠ ⊥ := by
    have : (M : EReal) ≤ max (M : EReal) (s.fold max b f) := le_max_left _ _
    exact (lt_of_lt_of_le (EReal.bot_lt_coe M) this).ne'
  exact ⟨_, (EReal.coe_toReal h1 h2).symm⟩

theorem score_ne_top (t : ℕ) : score n σ t ≠ ⊤ := by
  unfold score
  split
  · exact EReal.coe_ne_top _
  · exact bot_ne_top

/-- The weight of a masked token times its scale and code, whatever those are past the row's length. -/
theorem wt_value (M : ℝ) (sc cd : EReal) (v : ℝ) (t : ℕ) (h : t < n → sc * cd = (v : EReal)) :
    Ideal.exp (score n σ t - (M : EReal)) * sc * cd = ((wt n σ M t * v : ℝ) : EReal) := by
  rw [exp_score, mul_assoc]
  by_cases ht : t < n
  · rw [h ht, EReal.coe_mul]
  · rw [wt_past n σ M t (by omega), zero_mul, EReal.coe_zero, zero_mul]

theorem mass_chunk (M M' : ℝ) (T : ℕ) :
    ((mass n σ σn M T : ℝ) : EReal) * Ideal.exp ((M : EReal) - (M' : EReal)) + ∑ j : Fin 256, Ideal.exp (score n σ (T + j.val) - (M' : EReal))
      = ((mass n σ σn M' (T + 256) : ℝ) : EReal) := by
  rw [exp_coe_sub, ← EReal.coe_mul, mass_shift]
  simp only [exp_score]
  rw [coe_sum, ← EReal.coe_add, mass_add]

theorem weighted_chunk (v : ℕ → ℝ) (vn : ℝ) (M M' : ℝ) (T : ℕ) (sc cd : Fin 256 → EReal)
    (h : ∀ j : Fin 256, T + j.val < n → sc j * cd j = ((v (T + j.val) : ℝ) : EReal)) :
    ((weighted n σ σn v vn M T : ℝ) : EReal) * Ideal.exp ((M : EReal) - (M' : EReal))
        + ∑ j : Fin 256, Ideal.exp (score n σ (T + j.val) - (M' : EReal)) * sc j * cd j
      = ((weighted n σ σn v vn M' (T + 256) : ℝ) : EReal) := by
  rw [exp_coe_sub, ← EReal.coe_mul, weighted_shift, Finset.sum_congr rfl fun j _ => wt_value n σ M' (sc j) (cd j) (v (T + j.val)) _ (h j),
    coe_sum, ← EReal.coe_add, weighted_add]

/-- The sum over all tokens at once. -/
theorem mass_whole (M : ℝ) :
    ∑ j : Fin 4096, Ideal.exp (score n σ j.val - (M : EReal)) + Ideal.exp ((σn : EReal) - (M : EReal)) = ((mass n σ σn M 4096 : ℝ) : EReal) := by
  simp only [exp_score, exp_coe_sub]
  rw [coe_sum, ← EReal.coe_add]
  unfold mass
  rw [Finset.sum_range]

theorem weighted_whole (v : ℕ → ℝ) (vn : ℝ) (M : ℝ) (sc cd : Fin 4096 → EReal) (h : ∀ j : Fin 4096, j.val < n → sc j * cd j = ((v j.val : ℝ) : EReal)) :
    ∑ j : Fin 4096, Ideal.exp (score n σ j.val - (M : EReal)) * sc j * cd j + Ideal.exp ((σn : EReal) - (M : EReal)) * (vn : EReal)
      = ((weighted n σ σn v vn M 4096 : ℝ) : EReal) := by
  rw [exp_coe_sub, Finset.sum_congr rfl fun j _ => wt_value n σ M (sc j) (cd j) (v j.val) _ (h j), coe_sum, ← EReal.coe_mul, ← EReal.coe_add]
  unfold weighted
  rw [Finset.sum_range]

theorem div_coe_pos (a b : ℝ) (hb : 0 < b) : Ideal.div (a : EReal) (b : EReal) = ((a / b : ℝ) : EReal) := by
  rw [Ideal.div_coe hb.ne', ← EReal.coe_mul]
  congr 1
  ring

theorem log_coe_pos (a : ℝ) (ha : 0 < a) : Ideal.log (a : EReal) = ((Real.log a : ℝ) : EReal) := by
  rw [Ideal.log_coe, if_neg (not_le.mpr ha)]

end Cert.Attend

end
-- ==== Proof.Value.Spec.lean ====
/- What the attention kernel computes for one row of the batch, from the row's words, as reals: the decoded words, the scores,
   and the two results as the softmax average and the logarithm of the softmax's mass. -/
module

public import proofs.«01_k».proof.Proof.Value.Decode
public import proofs.«01_k».proof.Proof.Value.Softmax

@[expose] public section

noncomputable section

namespace Cert.Attend

open Idealize.ShloMosaic
open scoped BigOperators

/-- A value that is a real number. -/
def IsReal (x : EReal) : Prop := ∃ a : ℝ, x = (a : EReal)

theorem IsReal.eq {x : EReal} (h : IsReal x) : x = ((x.toReal : ℝ) : EReal) := by obtain ⟨a, rfl⟩ := h; rw [EReal.toReal_coe]
theorem IsReal.add {x y : EReal} (hx : IsReal x) (hy : IsReal y) : IsReal (x + y) := by
  obtain ⟨a, rfl⟩ := hx; obtain ⟨b, rfl⟩ := hy; exact ⟨a + b, by rw [EReal.coe_add]⟩
theorem IsReal.mul {x y : EReal} (hx : IsReal x) (hy : IsReal y) : IsReal (x * y) := by
  obtain ⟨a, rfl⟩ := hx; obtain ⟨b, rfl⟩ := hy; exact ⟨a * b, by rw [EReal.coe_mul]⟩
theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

theorem ninf : Ideal.ofBits FTy.f32 4286578688#32 = ⊥ := by simp [Ideal.ofBits, Ideal.ieee]

/-- A token's number, as a word, compared with the length. -/
theorem lt_word (t : ℕ) (ht : t < 4096) (n : BitVec 32) (hn : n.toNat ≤ 4096) :
    IntOp.cmpi CmpIPredicate.slt (BitVec.ofNat 32 t) n = if t < n.toNat then 1#1 else 0#1 := by
  have hs : (BitVec.ofNat 32 t).slt n = decide (t < n.toNat) := by
    rw [BitVec.slt_eq_decide]
    have h1 : (BitVec.ofNat 32 t).toNat = t := by simp; omega
    rw [BitVec.toInt_eq_toNat_of_lt (by omega), BitVec.toInt_eq_toNat_of_lt (by omega), h1]
    simp
  simp only [IntOp.cmpi, hs]
  by_cases h : t < n.toNat <;> simp [h]

/-- The scale of the scores. -/
def SC : EReal := Ideal.ofBits .f32 0x3D93CD3A#32

theorem ieee_real (e m : ℕ) {w : ℕ} (b : BitVec w) (h : (b.extractLsb' m e).toNat ≠ 2 ^ e - 1) : IsReal (Ideal.ieee e m b) := by
  unfold Ideal.ieee
  simp only
  rw [if_neg h]
  split <;> exact ⟨_, rfl⟩

theorem SC_real : IsReal SC := ieee_real 8 23 0x3D93CD3A#32 (by decide)

section
/- `W p r c`: word `(r, c)` of the row's page number `p`. -/
variable (W : ℕ → ℕ → Fin 128 → BitVec 32)

/-- Group `g`'s code of token `t`, channel `c`, -/
def cd (g t : ℕ) (c : Fin 128) : EReal := codeOf (W (t / 16) (4 * g + t / 4 % 4) c) (t % 4)
/-- and the `k`-th of the token's bf16 fields: its rotated key in lanes 0..63, the groups' scales in lanes 64..67. -/
def mt (t : ℕ) (k : Fin 128) : EReal := halfOf (W (t / 16) (16 + t / 2 % 8) k) (t % 2)

variable (q nl : Fin 512 → EReal) (qr kr : Fin 64 → EReal)

/-- The score of token `t` for one head, before the mask. -/
def raw (t : ℕ) : EReal :=
  (((((∑ k : Fin 64, qr k * mt W t ⟨k.val, by omega⟩)
    + (∑ c : Fin 128, q ⟨c.val, by omega⟩ * cd W 0 t c) * mt W t 64)
    + (∑ c : Fin 128, q ⟨128 + c.val, by omega⟩ * cd W 1 t c) * mt W t 65)
    + (∑ c : Fin 128, q ⟨256 + c.val, by omega⟩ * cd W 2 t c) * mt W t 66)
    + (∑ c : Fin 128, q ⟨384 + c.val, by omega⟩ * cd W 3 t c) * mt W t 67) * SC
/-- The new token's. -/
def rawNew : EReal := ((∑ c : Fin 512, q c * nl c) + ∑ k : Fin 64, qr k * kr k) * SC
/-- Column `c` of token `t`'s value. -/
def value (c : Fin 512) (t : ℕ) : EReal := mt W t ⟨64 + c.val / 128, by omega⟩ * cd W (c.val / 128) t ⟨c.val % 128, by omega⟩

/-- The same as reals. -/
def σ (t : ℕ) : ℝ := (raw W q qr t).toReal
def σn : ℝ := (rawNew q nl qr kr).toReal
def val (c : Fin 512) (t : ℕ) : ℝ := (value W c t).toReal

/-- A row's inputs are real numbers, its words' as far as its length `n`. -/
structure Good (n : ℕ) : Prop where
  cd : ∀ g t c, g < 4 → t < n → IsReal (cd W g t c)
  mt : ∀ t k, t < n → IsReal (mt W t k)
  q : ∀ c, IsReal (q c)
  nl : ∀ c, IsReal (nl c)
  qr : ∀ k, IsReal (qr k)
  kr : ∀ k, IsReal (kr k)

variable {W q nl qr kr} {n : ℕ}

theorem Good.raw_real (h : Good W q nl qr kr n) {t : ℕ} (ht : t < n) : IsReal (raw W q qr t) := by
  have f : ∀ (g : ℕ) (q' : Fin 128 → EReal) (k : Fin 128), g < 4 → (∀ c, IsReal (q' c)) → IsReal ((∑ c : Fin 128, q' c * Attend.cd W g t c) * Attend.mt W t k) := fun g q' k hg hq =>
    (IsReal.sum _ _ fun c => (hq c).mul (h.cd g t c hg ht)).mul (h.mt t k ht)
  exact (((((IsReal.sum _ _ fun k => (h.qr k).mul (h.mt t _ ht)).add (f 0 _ _ (by omega) fun c => h.q _)).add (f 1 _ _ (by omega) fun c => h.q _)).add (f 2 _ _ (by omega) fun c => h.q _)).add
    (f 3 _ _ (by omega) fun c => h.q _)).mul SC_real

theorem Good.rawNew_real (h : Good W q nl qr kr n) : IsReal (rawNew q nl qr kr) :=
  ((IsReal.sum _ _ fun c => (h.q c).mul (h.nl c)).add (IsReal.sum _ _ fun k => (h.qr k).mul (h.kr k))).mul SC_real

theorem Good.value_real (h : Good W q nl qr kr n) (c : Fin 512) {t : ℕ} (ht : t < n) : IsReal (value W c t) :=
  (h.mt t _ ht).mul (h.cd _ t _ (by omega) ht)

theorem Good.raw_eq (h : Good W q nl qr kr n) {t : ℕ} (ht : t < n) : raw W q qr t = ((σ W q qr t : ℝ) : EReal) := (h.raw_real ht).eq
theorem Good.rawNew_eq (h : Good W q nl qr kr n) : rawNew q nl qr kr = ((σn q nl qr kr : ℝ) : EReal) := h.rawNew_real.eq
theorem Good.value_eq (h : Good W q nl qr kr n) (c : Fin 512) {t : ℕ} (ht : t < n) : value W c t = ((val W c t : ℝ) : EReal) := (h.value_real c ht).eq

end

section
variable (W : ℕ → ℕ → Fin 128 → BitVec 32) (q nl : Fin 512 → EReal) (qr kr : Fin 64 → EReal) (n : BitVec 32)

/-- The first result: the average of the values' column `c`, -/
def outOf (c : Fin 512) : EReal := ((average n.toNat (σ W q qr) (σn q nl qr kr) (val W c) (nl c).toReal : ℝ) : EReal)
/-- and the second: the logarithm of the mass, less the logarithm of the number of tokens. -/
def lseOf : EReal := ((logMass n.toNat (σ W q qr) (σn q nl qr kr) : ℝ) : EReal) - Ideal.log (FloatOps.sitofp (F := Ideal) .f32 (n + 1#32))
end

end Cert.Attend

end
-- ==== Proof.Value.KernelChunk.lean ====
/- The values of one chunk of the kernel, at an index. -/
module

public import proofs.«01_k».proof.Proof.Value.Spec
public import proofs.«01_k».proof.Proof.KernelIdeal.Chunk

@[expose] public section

noncomputable section

namespace Cert.Attend.KernelIdeal

open Idealize.ShloMosaic Cert.KernelIdeal Cert.KernelIdeal.Gen
open scoped BigOperators

theorem pay4_apply (w : Vec Ideal S1x16x4x128 .i32) (j : Fin 256) (c : Fin 128) :
    k0_pay4 w (ix2 j c) = codeOf (w (ix4 0 ⟨j.val / 16, by omega⟩ ⟨j.val / 4 % 4, by omega⟩ c)) (j.val % 4) := by
  unfold k0_pay4
  rw [codes_ix2 _ _ j c (by omega)]
  congr 1
  pointwise
  congr 2
  exact Fin.ext (by show j.val / 4 / 4 = j.val / 16; omega)
theorem pay5_apply (w : Vec Ideal S1x16x4x128 .i32) (j : Fin 256) (c : Fin 128) :
    k0_pay5 w (ix2 j c) = codeOf (w (ix4 0 ⟨j.val / 16, by omega⟩ ⟨j.val / 4 % 4, by omega⟩ c)) (j.val % 4) := pay4_apply w j c
theorem pay6_apply (w : Vec Ideal S1x16x4x128 .i32) (j : Fin 256) (c : Fin 128) :
    k0_pay6 w (ix2 j c) = codeOf (w (ix4 0 ⟨j.val / 16, by omega⟩ ⟨j.val / 4 % 4, by omega⟩ c)) (j.val % 4) := pay4_apply w j c
theorem pay8_apply (w : Vec Ideal S1x16x4x128 .i32) (j : Fin 256) (c : Fin 128) :
    k0_pay8 w (ix2 j c) = codeOf (w (ix4 0 ⟨j.val / 16, by omega⟩ ⟨j.val / 4 % 4, by omega⟩ c)) (j.val % 4) := pay4_apply w j c

theorem pay3_apply (v52 : FVec Ideal S48x128 .bf16) (w : Vec Ideal S1x16x8x128 .i32) (r : Fin 48) (j : Fin 256) :
    k0_pay3 v52 w (ix2 r j) = ∑ k : Fin 128, v52 (ix2 r k) * halfOf (w (ix4 0 ⟨j.val / 16, by omega⟩ ⟨j.val / 2 % 8, by omega⟩ k)) (j.val % 2) := by
  unfold k0_pay3
  have e : ∀ k : Fin 128, bitcastToFloat (F := Ideal) .bf16 (bitcast S256x128 16 (shapeCast S128x128 (shapeCast S16x8x128 w shapeCasts_S1x16x8x128_S16x8x128) shapeCasts_S16x8x128_S128x128) bitcasts_S128x128_w32_S256x128_w16) (ix2 j k)
      = halfOf (w (ix4 0 ⟨j.val / 16, by omega⟩ ⟨j.val / 2 % 8, by omega⟩ k)) (j.val % 2) := fun k => by
    rw [halves_ix2 _ _ j k (by omega)]
    congr 1
    pointwise
    congr 2
    exact Fin.ext (by show j.val / 2 / 8 = j.val / 16; omega)
  simp only [← e]
  generalize bitcastToFloat (F := Ideal) .bf16 _ = X
  pointwise

theorem pay7_apply (v50 : FVec Ideal S32x512 .bf16) (v52 : FVec Ideal S48x128 .bf16) (w : Vec Ideal S1x16x8x128 .i32) (c0 c1 c2 : Vec Ideal S1x16x4x128 .i32) (h : Fin 32) (j : Fin 256) :
    k0_pay7 v50 v52 w c0 c1 c2 (ix2 h j) = ((k0_pay3 v52 w (ix2 ⟨h.val, by omega⟩ j)
      + (∑ c : Fin 128, v50 (ix2 h ⟨c.val, by omega⟩) * k0_pay4 c0 (ix2 j c)) * k0_pay3 v52 w (ix2 32 j))
      + (∑ c : Fin 128, v50 (ix2 h ⟨128 + c.val, by omega⟩) * k0_pay5 c1 (ix2 j c)) * k0_pay3 v52 w (ix2 33 j))
      + (∑ c : Fin 128, v50 (ix2 h ⟨256 + c.val, by omega⟩) * k0_pay6 c2 (ix2 j c)) * k0_pay3 v52 w (ix2 34 j) := by
  unfold k0_pay7
  generalize k0_pay3 v52 w = v129
  generalize k0_pay4 c0 = x0
  generalize k0_pay5 c1 = x1
  generalize k0_pay6 c2 = x2
  pointwise

variable (v48 : Elt Ideal .i32) (v50 : FVec Ideal S32x512 .bf16) (m l : FVec Ideal S32x1 .f32) (a : BitVec 32) (v129 : FVec Ideal S48x256 .f32) (v166 : FVec Ideal S32x256 .f32)
  (w : Vec Ideal S1x16x4x128 .i32)

theorem pay9_apply (h : Fin 32) (j : Fin 256) :
    k0_pay9 v48 v50 a v129 v166 w (ix2 h j) = Scalar.select (IntOp.cmpi CmpIPredicate.slt (IntOp.addi (Scalar.muli a 256#32) (BitVec.ofNat 32 ↑j)) v48)
      ((v166 (ix2 h j) + (∑ c : Fin 128, v50 (ix2 h ⟨384 + c.val, by omega⟩) * k0_pay8 w (ix2 j c)) * v129 (ix2 35 j)) * SC)
      (Ideal.ofBits FTy.f32 4286578688#32) := by
  unfold k0_pay9 SC
  generalize k0_pay8 w = cd
  pointwise
theorem pay10_apply (h : Fin 32) :
    k0_pay10 v48 v50 m a v129 v166 w (ix2 h 0) = max (m (ix2 h 0)) (Finset.fold max (Ideal.ofBits FTy.f32 4286578688#32) (fun j => k0_pay9 v48 v50 a v129 v166 w (ix2 h j)) Finset.univ) := by
  unfold k0_pay10
  generalize k0_pay9 v48 v50 a v129 v166 w = S
  pointwise
theorem pay11_apply (h : Fin 32) :
    k0_pay11 v48 v50 m a v129 v166 w (ix2 h 0) = Ideal.exp (m (ix2 h 0) - k0_pay10 v48 v50 m a v129 v166 w (ix2 h 0)) := by
  unfold k0_pay11
  generalize k0_pay10 v48 v50 m a v129 v166 w = S
  pointwise
theorem pay12_apply (h : Fin 32) (j : Fin 256) :
    k0_pay12 v48 v50 m a v129 v166 w (ix2 h j) = Ideal.exp (k0_pay9 v48 v50 a v129 v166 w (ix2 h j) - k0_pay10 v48 v50 m a v129 v166 w (ix2 h 0)) := by
  unfold k0_pay12
  generalize k0_pay10 v48 v50 m a v129 v166 w = M
  generalize k0_pay9 v48 v50 a v129 v166 w = S
  pointwise
theorem pay13_apply (h : Fin 32) :
    k0_pay13 v48 v50 m l a v129 v166 w (ix2 h 0) = l (ix2 h 0) * k0_pay11 v48 v50 m a v129 v166 w (ix2 h 0) + ∑ j : Fin 256, k0_pay12 v48 v50 m a v129 v166 w (ix2 h j) := by
  unfold k0_pay13
  generalize k0_pay11 v48 v50 m a v129 v166 w = A
  generalize k0_pay12 v48 v50 m a v129 v166 w = S
  pointwise
theorem pay14_apply (h : Fin 32) (j : Fin 256) : k0_pay14 v48 v50 m a v129 v166 w (ix2 h j) = k0_pay12 v48 v50 m a v129 v166 w (ix2 h j) := by
  unfold k0_pay14
  generalize k0_pay12 v48 v50 m a v129 v166 w = S
  pointwise

theorem acc_apply (acc : FVec Ideal S32x512 .f32) (cd0 cd1 cd2 cd3 : FVec Ideal S256x128 .fp8e4m3) (A : FVec Ideal S32x1 .f32) (h : Fin 32) (c : Fin 512) :
    k0_pay41 acc v129 cd2 cd3 A (k0_pay14 v48 v50 m a v129 v166 w) (k0_pay15 v48 v50 m a v129 cd0 v166 w) (k0_pay16 v48 v50 m a v129 cd1 v166 w) (k0_pay17 v48 v50 m a v129 v166 w)
        (constant S32x128 .f32 0x00000000#32) (ix2 h c)
      = acc (ix2 h c) * A (ix2 h 0) +
        if h1 : c.val < 128 then ∑ j : Fin 256, k0_pay14 v48 v50 m a v129 v166 w (ix2 h j) * v129 (ix2 32 j) * cd0 (ix2 j ⟨c.val, by omega⟩)
        else if h2 : c.val - 128 < 128 then ∑ j : Fin 256, k0_pay14 v48 v50 m a v129 v166 w (ix2 h j) * v129 (ix2 33 j) * cd1 (ix2 j ⟨c.val - 128, by omega⟩)
        else if h3 : c.val - 128 - 128 < 128 then ∑ j : Fin 256, k0_pay14 v48 v50 m a v129 v166 w (ix2 h j) * v129 (ix2 34 j) * cd2 (ix2 j ⟨c.val - 128 - 128, by omega⟩)
        else ∑ j : Fin 256, k0_pay14 v48 v50 m a v129 v166 w (ix2 h j) * v129 (ix2 35 j) * cd3 (ix2 j ⟨c.val - 128 - 128 - 128, by omega⟩) := by
  unfold k0_pay41 k0_pay15 k0_pay16 k0_pay17
  generalize k0_pay14 v48 v50 m a v129 v166 w = P
  pointwise

end Cert.Attend.KernelIdeal

end
-- ==== Proof.Value.KernelRow.lean ====
/- One head of one row over the chunks: the carried values are the softmax's partial sums. -/
module

public import proofs.«01_k».proof.Proof.Value.KernelChunk

@[expose] public section

noncomputable section

namespace Cert.Attend.KernelIdeal

open Idealize.ShloMosaic Cert.KernelIdeal Cert.KernelIdeal.Gen
open scoped BigOperators

/-- The mask's comparison, of a token's number with the length. -/
theorem mask_word (k j : ℕ) (hk : k < 16) (hj : j < 256) (n : BitVec 32) (hn : n.toNat ≤ 4096) :
    IntOp.cmpi CmpIPredicate.slt (IntOp.addi (Scalar.muli (Scf.iv 0#32 1#32 k) 256#32) (BitVec.ofNat 32 j)) n = if 256 * k + j < n.toNat then 1#1 else 0#1 := by
  have e : IntOp.addi (Scalar.muli (Scf.iv 0#32 1#32 k) 256#32) (BitVec.ofNat 32 j) = BitVec.ofNat 32 (256 * k + j) := by
    apply BitVec.eq_of_toNat_eq
    simp [IntOp.addi, Scalar.muli, IntOp.muli, Scf.iv]
    omega
  rw [e]
  exact lt_word _ (by omega) n hn

theorem sum_low (qr : Fin 64 → EReal) (f g : Fin 128 → EReal) (hf : ∀ k, f k = if hk : k.val < 64 then qr ⟨k.val, hk⟩ else 0) :
    ∑ k : Fin 128, f k * g k = ∑ k : Fin 64, qr k * g ⟨k.val, by omega⟩ := by
  have h := Fin.sum_univ_add (a := 64) (b := 64) (fun k : Fin 128 => f k * g k)
  refine h.trans ?_
  rw [show (∑ i : Fin 64, (fun k : Fin 128 => f k * g k) (Fin.natAdd 64 i)) = 0 from Finset.sum_eq_zero fun i _ => by
    show f _ * g _ = 0
    rw [hf, dif_neg (by simp), zero_mul], add_zero]
  refine Finset.sum_congr rfl fun i _ => ?_
  show f _ * g _ = _
  rw [hf, dif_pos (show (Fin.castAdd 64 i).val < 64 from i.isLt)]
  rfl

theorem sum_one (i : ℕ) (hi : i < 128) (f g : Fin 128 → EReal) (hf : ∀ k, f k = if k.val = i then 1 else 0) :
    ∑ k : Fin 128, f k * g k = g ⟨i, hi⟩ := by
  rw [Finset.sum_eq_single ⟨i, hi⟩ (fun k _ hk => by rw [hf, if_neg (fun h => hk (Fin.ext h)), zero_mul]) (fun h => absurd (Finset.mem_univ _) h), hf, if_pos rfl, one_mul]

section
variable (W : ℕ → ℕ → Fin 128 → BitVec 32) (q nl : Fin 512 → EReal) (qr kr : Fin 64 → EReal)
  (n : BitVec 32) (v50 : FVec Ideal S32x512 .bf16) (v52 : FVec Ideal S48x128 .bf16) (f : Scr Ideal) (s : ℕ) (h : Fin 32)

/-- What the kernel's blocks hold for one head: its query, the rotated query's row and the mask's rows, and the row's words. -/
structure Holds : Prop where
  le : n.toNat ≤ 4096
  good : Good W q nl qr kr n.toNat
  hq : ∀ c, v50 (ix2 h c) = q c
  hqr : ∀ k : Fin 128, v52 (ix2 ⟨h.val, by omega⟩ k) = if hk : k.val < 64 then qr ⟨k.val, hk⟩ else 0
  hmask : ∀ (g : ℕ) (hg : g < 4) (k : Fin 128), v52 (ix2 ⟨32 + g, by omega⟩ k) = if k.val = 64 + g then 1 else 0
  hW : ∀ p r c, 16 * p < n.toNat → r < 24 → f (ValueIdx.ix4 ⟨s % 2, Nat.mod_lt _ (by decide)⟩ ⟨p % 256, Nat.mod_lt _ (by decide)⟩ ⟨r % 24, Nat.mod_lt _ (by decide)⟩ c) = W p r c

variable {W q nl qr kr n v50 v52 f s h} (H : Holds W q nl qr kr n v50 v52 f s h)
include H

theorem meta_row (k : ℕ) (r : Fin 48) (j : Fin 256) (ht : 256 * k + j.val < n.toNat) :
    k0_pay3 v52 (metaWords f s k) (ix2 r j) = ∑ x : Fin 128, v52 (ix2 r x) * mt W (256 * k + j.val) x := by
  rw [pay3_apply]
  refine Finset.sum_congr rfl fun x _ => ?_
  congr 1
  unfold mt
  rw [← H.hW ((256 * k + j.val) / 16) _ x (by omega) (by omega)]
  have e1 : (256 * k + j.val) / 16 = k * 16 + j.val / 16 := by omega
  have e2 : (256 * k + j.val) / 2 % 8 = j.val / 2 % 8 := by omega
  have e3 : (256 * k + j.val) % 2 = j.val % 2 := by omega
  simp only [e1, e2, e3]
  rfl

theorem code_row (k g : ℕ) (hg : g < 4) (j : Fin 256) (c : Fin 128) (ht : 256 * k + j.val < n.toNat) :
    k0_pay4 (codeWords f s k (4 * g)) (ix2 j c) = cd W g (256 * k + j.val) c := by
  rw [pay4_apply]
  unfold cd
  rw [← H.hW ((256 * k + j.val) / 16) _ c (by omega) (by omega)]
  have e1 : (256 * k + j.val) / 16 = k * 16 + j.val / 16 := by omega
  have e2 : (256 * k + j.val) / 4 % 4 = j.val / 4 % 4 := by omega
  have e3 : (256 * k + j.val) % 4 = j.val % 4 := by omega
  simp only [e1, e2, e3]
  rfl

theorem meta_score (k : ℕ) (j : Fin 256) (ht : 256 * k + j.val < n.toNat) :
    k0_pay3 v52 (metaWords f s k) (ix2 ⟨h.val, by omega⟩ j) = ∑ x : Fin 64, qr x * mt W (256 * k + j.val) ⟨x.val, by omega⟩ := by
  rw [meta_row H k _ j ht, sum_low qr _ _ H.hqr]

theorem meta_scale (k g : ℕ) (hg : g < 4) (j : Fin 256) (ht : 256 * k + j.val < n.toNat) :
    k0_pay3 v52 (metaWords f s k) (ix2 ⟨32 + g, by omega⟩ j) = mt W (256 * k + j.val) ⟨64 + g, by omega⟩ := by
  rw [meta_row H k _ j ht, sum_one (64 + g) (by omega) _ _ (H.hmask g hg)]

/-- The masked scores. -/
theorem scores (k : ℕ) (hk : k < 16) (j : Fin 256) :
    k0_pay9 n v50 (Scf.iv 0#32 1#32 k) (k0_pay3 v52 (metaWords f s k))
      (k0_pay7 v50 v52 (metaWords f s k) (codeWords f s k 0) (codeWords f s k 4) (codeWords f s k 8)) (codeWords f s k 12) (ix2 h j)
      = score n.toNat (σ W q qr) (256 * k + j.val) := by
  rw [pay9_apply, mask_word k j.val hk j.isLt n H.le]
  unfold score
  by_cases ht : 256 * k + j.val < n.toNat
  · rw [if_pos ht, if_pos ht, ← H.good.raw_eq ht, pay7_apply]
    have c0 := fun c => code_row H k 0 (by omega) j c ht
    have c1 := fun c => code_row H k 1 (by omega) j c ht
    have c2 := fun c => code_row H k 2 (by omega) j c ht
    have c3 := fun c => code_row H k 3 (by omega) j c ht
    have m0 := meta_scale H k 0 (by omega) j ht
    have m1 := meta_scale H k 1 (by omega) j ht
    have m2 := meta_scale H k 2 (by omega) j ht
    have m3 := meta_scale H k 3 (by omega) j ht
    refine (if_pos rfl).trans ?_
    unfold raw
    refine congrArg (· * SC) ?_
    refine congrArg₂ (· + ·) (congrArg₂ (· + ·) (congrArg₂ (· + ·) (congrArg₂ (· + ·) (meta_score H k j ht) ?_) ?_) ?_) ?_
    · exact congrArg₂ (· * ·) (Finset.sum_congr rfl fun c _ => congrArg₂ (· * ·) (H.hq _) (c0 c)) m0
    · exact congrArg₂ (· * ·) (Finset.sum_congr rfl fun c _ => congrArg₂ (· * ·) (H.hq _) (c1 c)) m1
    · exact congrArg₂ (· * ·) (Finset.sum_congr rfl fun c _ => congrArg₂ (· * ·) (H.hq _) (c2 c)) m2
    · exact congrArg₂ (· * ·) (Finset.sum_congr rfl fun c _ => congrArg₂ (· * ·) (H.hq _) (c3 c)) m3
  · rw [if_neg ht, if_neg ht]
    refine (if_neg (by decide)).trans ninf

/-- The carried values after `k` chunks: a reference point, the mass and the weighted sums relative to it. -/
def Carried (W : ℕ → ℕ → Fin 128 → BitVec 32) (q nl : Fin 512 → EReal) (qr kr : Fin 64 → EReal) (n : BitVec 32) (h : Fin 32) (st : St Ideal) (k : ℕ) : Prop :=
  ∃ M : ℝ, st.1 (ix2 h 0) = (M : EReal) ∧ st.2.1 (ix2 h 0) = ((mass n.toNat (σ W q qr) (σn q nl qr kr) M (256 * k) : ℝ) : EReal)
    ∧ ∀ c : Fin 512, st.2.2 (ix2 h c) = ((weighted n.toNat (σ W q qr) (σn q nl qr kr) (val W c) (nl c).toReal M (256 * k) : ℝ) : EReal)

theorem step (k : ℕ) (hk : k < 16) (st : St Ideal) (hst : Carried W q nl qr kr n h st k) :
    Carried W q nl qr kr n h (chunkStep n v50 v52 f s k st) (k + 1) := by
  obtain ⟨M, h1, h2, h3⟩ := hst
  have hs := scores H k hk
  unfold chunkStep
  simp only
  generalize hv166 : k0_pay7 v50 v52 (metaWords f s k) (codeWords f s k 0) (codeWords f s k 4) (codeWords f s k 8) = v166 at hs
  generalize hv129 : k0_pay3 v52 (metaWords f s k) = v129 at hs
  obtain ⟨M', hM'⟩ := max_real Finset.univ (fun j : Fin 256 => score n.toNat (σ W q qr) (256 * k + j.val)) M (fun j => score_ne_top _ _ _) ⊥ (by simp)
  have e1 : k0_pay10 n v50 st.1 (Scf.iv 0#32 1#32 k) v129 v166 (codeWords f s k 12) (ix2 h 0) = (M' : EReal) := by
    rw [pay10_apply, h1, ninf]
    simp only [hs]
    exact hM'
  have ep : ∀ j, k0_pay12 n v50 st.1 (Scf.iv 0#32 1#32 k) v129 v166 (codeWords f s k 12) (ix2 h j) = Ideal.exp (score n.toNat (σ W q qr) (256 * k + j.val) - (M' : EReal)) := fun j => by
    rw [pay12_apply, hs, e1]
  have ea : k0_pay11 n v50 st.1 (Scf.iv 0#32 1#32 k) v129 v166 (codeWords f s k 12) (ix2 h 0) = Ideal.exp ((M : EReal) - (M' : EReal)) := by
    rw [pay11_apply, h1, e1]
  refine ⟨M', e1, ?_, fun c => ?_⟩
  · show k0_pay13 _ _ _ _ _ _ _ _ _ = _
    rw [pay13_apply, h2, ea]
    simp only [ep]
    exact mass_chunk _ _ _ M M' (256 * k)
  · show k0_pay41 _ _ _ _ _ _ _ _ _ _ _ = _
    rw [acc_apply, h3 c, ea]
    simp only [pay14_apply, ep]
    have hw : ∀ (g : ℕ) (hg : g < 4) (x : Fin 128), c.val = 128 * g + x.val →
        ((weighted n.toNat (σ W q qr) (σn q nl qr kr) (val W c) (nl c).toReal M (256 * k) : ℝ) : EReal) * Ideal.exp ((M : EReal) - (M' : EReal))
          + ∑ j : Fin 256, Ideal.exp (score n.toNat (σ W q qr) (256 * k + j.val) - (M' : EReal)) * v129 (ix2 ⟨32 + g, by omega⟩ j) * k0_pay4 (codeWords f s k (4 * g)) (ix2 j x)
        = ((weighted n.toNat (σ W q qr) (σn q nl qr kr) (val W c) (nl c).toReal M' (256 * (k + 1)) : ℝ) : EReal) := fun g hg x hx =>
      weighted_chunk n.toNat (σ W q qr) (σn q nl qr kr) (val W c) (nl c).toReal M M' (256 * k) (fun j => v129 (ix2 ⟨32 + g, by omega⟩ j)) (fun j => k0_pay4 (codeWords f s k (4 * g)) (ix2 j x)) (fun j ht => by
        rw [← hv129, meta_scale H k g hg j ht, code_row H k g hg j x ht, ← H.good.value_eq c ht]
        unfold value
        have eg : c.val / 128 = g := by omega
        have ex : (⟨c.val % 128, by omega⟩ : Fin 128) = x := Fin.ext (by show c.val % 128 = x.val; omega)
        simp only [eg, ex])
    split_ifs with g0 g1 g2
    · exact hw 0 (by omega) ⟨c.val, by omega⟩ (by simp)
    · exact hw 1 (by omega) ⟨c.val - 128, by omega⟩ (by simp; omega)
    · exact hw 2 (by omega) ⟨c.val - 128 - 128, by omega⟩ (by simp; omega)
    · exact hw 3 (by omega) ⟨c.val - 128 - 128 - 128, by omega⟩ (by simp; omega)

theorem run_chunks (init : St Ideal) (h0 : Carried W q nl qr kr n h init 0) : ∀ k, k ≤ 16 → Carried W q nl qr kr n h (chunks n v50 v52 f s init k) k
  | 0, _ => h0
  | k + 1, hk => step H k (by omega) _ (run_chunks init h0 k (by omega))

end

end Cert.Attend.KernelIdeal

end
-- ==== Proof.Value.KernelBlock.lean ====
/- The blocks of the kernel's two results at one row of the batch. -/
module

public import proofs.«01_k».proof.Proof.Value.KernelRow
public import proofs.«01_k».proof.Proof.KernelIdeal.Whole

@[expose] public section

noncomputable section

namespace Cert.Attend.KernelIdeal

open Idealize.ShloMosaic Cert.KernelIdeal Cert.KernelIdeal.Gen
open scoped BigOperators

section
variable (x3 : Vec Ideal S1x32x512 .bf16) (x4 : Vec Ideal S1x48x128 .bf16) (x5 : Vec Ideal S1x1x512 .bf16) (x6 : Vec Ideal S1x1x128 .bf16)

theorem pay33_apply (h : Fin 32) (c : Fin 512) : k0_pay33 x3 (ix2 h c) = x3 (ix3 0 h c) := by pointwise [k0_pay33]
theorem pay34_apply (r : Fin 48) (k : Fin 128) : k0_pay34 x4 (ix2 r k) = x4 (ix3 0 r k) := by pointwise [k0_pay34]
theorem pay40_apply (h : Fin 32) (c : Fin 512) : k0_pay40 (k0_pay35 x5) (ix2 h c) = x5 (ix3 0 0 c) := by pointwise [k0_pay40, k0_pay35]
theorem pay39_apply (h : Fin 32) : k0_pay39 (F := Ideal) (ix2 h 0) = 1 := by
  have e : k0_pay39 (F := Ideal) (ix2 h 0) = Ideal.ofBits .f32 0x3F800000#32 := by pointwise [k0_pay39]
  rw [e, Ideal.ofBits_one_f32]
theorem pay38_apply (h : Fin 32) : k0_pay38 (k0_pay36 x3 x5) (k0_pay37 x4 x6) (ix2 h 0)
    = ((∑ c : Fin 512, x3 (ix3 0 h c) * x5 (ix3 0 0 c)) + ∑ k : Fin 128, x4 (ix3 0 ⟨h.val, by omega⟩ k) * x6 (ix3 0 0 k)) * SC := by
  unfold SC
  pointwise [k0_pay38, k0_pay36, k0_pay37, k0_pay33, k0_pay34, k0_pay35]
end

theorem pay43_apply (l : FVec Ideal S32x1 .f32) (acc : FVec Ideal S32x512 .f32) (h : Fin 32) (c : Fin 512) :
    k0_pay43 l acc (ix3 0 h c) = Ideal.div (acc (ix2 h c)) (l (ix2 h 0)) := by pointwise [k0_pay43]
theorem pay1_apply (n : BitVec 32) (m l : FVec Ideal S32x1 .f32) (h : Fin 32) :
    k0_pay1 n (k0_pay44 m l) (ix3 0 0 h) = (m (ix2 h 0) + Ideal.log (l (ix2 h 0))) - Ideal.log (FloatOps.sitofp (F := Ideal) .f32 (n + 1#32)) := by
  pointwise [k0_pay1, k0_pay44]
  rfl

section
variable (tb : Tab Ideal) (ln : Len Ideal) (kv : Kvs Ideal)
  (x3 : Vec Ideal S1x32x512 .bf16) (x4 : Vec Ideal S1x48x128 .bf16) (x5 : Vec Ideal S1x1x512 .bf16) (x6 : Vec Ideal S1x1x128 .bf16)

/-- The words of row `t`, by page. -/
def words (t : ℕ) (p r : ℕ) (c : Fin 128) : BitVec 32 := kv (ValueIdx.ix3 (pageW (F := Ideal) tb t p) ⟨r % 24, Nat.mod_lt _ (by decide)⟩ c)

variable {q : Fin 32 → Fin 512 → EReal} {nl : Fin 512 → EReal} {qr : Fin 32 → Fin 64 → EReal} {kr : Fin 64 → EReal} (t : ℕ)

/-- What the blocks of one point hold. -/
structure Point : Prop where
  le : (lenW (F := Ideal) ln t).toNat ≤ 4096
  good : ∀ h, Good (words tb kv t) (q h) nl (qr h) kr (lenW (F := Ideal) ln t).toNat
  hq : ∀ h c, x3 (ix3 0 h c) = q h c
  hqr : ∀ (h : Fin 32) (k : Fin 128), x4 (ix3 0 ⟨h.val, by omega⟩ k) = if hk : k.val < 64 then qr h ⟨k.val, hk⟩ else 0
  hmask : ∀ (g : ℕ) (hg : g < 4) (k : Fin 128), x4 (ix3 0 ⟨32 + g, by omega⟩ k) = if k.val = 64 + g then 1 else 0
  hnl : ∀ c, x5 (ix3 0 0 c) = nl c
  hkr : ∀ k : Fin 128, x6 (ix3 0 0 k) = if hk : k.val < 64 then kr ⟨k.val, hk⟩ else 0

variable {tb ln kv x3 x4 x5 x6 t} (B : Point tb ln kv x3 x4 x5 x6 (q := q) (nl := nl) (qr := qr) (kr := kr) t)
include B

theorem holds (h : Fin 32) : Holds (words tb kv t) (q h) nl (qr h) kr (lenW (F := Ideal) ln t) (k0_pay33 x3) (k0_pay34 x4) (G tb ln kv (t + 1)) (t % 2) h where
  le := B.le
  good := B.good h
  hq c := (pay33_apply x3 h c).trans (B.hq h c)
  hqr k := (pay34_apply x4 _ k).trans (B.hqr h k)
  hmask g hg k := (pay34_apply x4 _ k).trans (B.hmask g hg k)
  hW p r c hp hr := by
    have hp' : p < 256 := by have := B.le; omega
    refine (G_on tb ln kv ⟨?_, ?_⟩).trans ?_
    · show t % 2 % 2 = t % 2
      omega
    · show p % 256 < npg ln t
      unfold npg npages
      omega
    · show kv (ValueIdx.ix3 (pageW (F := Ideal) tb t (p % 256)) ⟨r % 24, _⟩ c) = _
      rw [Nat.mod_eq_of_lt hp']
      rfl

theorem carried (h : Fin 32) : Carried (words tb kv t) (q h) nl (qr h) kr (lenW (F := Ideal) ln t) h (final tb ln kv x3 x4 x5 x6 t) (nchunks (lenW (F := Ideal) ln t).toNat) := by
  refine run_chunks (holds B h) _ ⟨σn (q h) nl (qr h) kr, ?_, ?_, fun c => ?_⟩ _ ?_
  · show k0_pay38 (k0_pay36 x3 x5) (k0_pay37 x4 x6) (ix2 h 0) = _
    rw [pay38_apply, ← (B.good h).rawNew_eq]
    unfold rawNew
    rw [sum_low (qr h) _ _ (B.hqr h)]
    refine congrArg (· * SC) (congrArg₂ (· + ·) (Finset.sum_congr rfl fun c _ => by rw [B.hq, B.hnl]) (Finset.sum_congr rfl fun k _ => ?_))
    rw [B.hkr, dif_pos (show (⟨k.val, by omega⟩ : Fin 128).val < 64 from k.isLt)]
  · show k0_pay39 (F := Ideal) (ix2 h 0) = _
    rw [pay39_apply, Nat.mul_zero, mass_start, EReal.coe_one]
  · show k0_pay40 (k0_pay35 x5) (ix2 h c) = _
    rw [pay40_apply, Nat.mul_zero, weighted_start, B.hnl]
    exact ((B.good h).nl c).eq
  · have := B.le
    unfold nchunks
    omega

theorem reach : (lenW (F := Ideal) ln t).toNat ≤ 256 * nchunks (lenW (F := Ideal) ln t).toNat := by unfold nchunks; omega

theorem out_at (h : Fin 32) (c : Fin 512) : outBlock tb ln kv x3 x4 x5 x6 t (ix3 0 h c) = outOf (words tb kv t) (q h) nl (qr h) kr (lenW (F := Ideal) ln t) c := by
  obtain ⟨M, h1, h2, h3⟩ := carried B h
  unfold outBlock outOf
  rw [pay43_apply, h2, h3, div_coe_pos _ _ (mass_pos _ _ _ _ _), average_of _ _ _ _ _ M (reach B) B.le]

theorem lse_at (h : Fin 32) : lseBlock tb ln kv x3 x4 x5 x6 t (ix3 0 0 h) = lseOf (words tb kv t) (q h) nl (qr h) kr (lenW (F := Ideal) ln t) := by
  obtain ⟨M, h1, h2, h3⟩ := carried B h
  unfold lseBlock lseOf
  rw [pay1_apply, h1, h2, log_coe_pos _ (mass_pos _ _ _ _ _), ← EReal.coe_add, logMass_of _ _ _ M (reach B) B.le]

end

end Cert.Attend.KernelIdeal

end
-- ==== Proof.Value.Asked.lean ====
/- What both programs are given, as plain arrays, and what is asked of it: page numbers and lengths in range, and finite codes,
   scales and operands throughout. -/
module

public import proofs.«01_k».proof.Proof.Value.Spec

@[expose] public section

noncomputable section

namespace Cert.Attend

open Idealize.ShloMosaic

variable (pg : (⟨2, ![120, 256]⟩ : Shape).Idx → BitVec 32) (ln : (⟨1, ![120]⟩ : Shape).Idx → BitVec 32)
  (q : (⟨3, ![120, 32, 512]⟩ : Shape).Idx → EReal) (qr : (⟨3, ![120, 32, 64]⟩ : Shape).Idx → EReal)
  (nl : (⟨2, ![120, 512]⟩ : Shape).Idx → EReal) (kr : (⟨2, ![120, 64]⟩ : Shape).Idx → EReal)
  (kv : (⟨3, ![38400, 24, 128]⟩ : Shape).Idx → BitVec 32)

/-- The words of sequence `b`: row `r` of its page `p`. -/
def pageWords (b : Fin 120) (p r : ℕ) (c : Fin 128) : BitVec 32 :=
  kv (ix3 ⟨(pg (ix2 b ⟨p % 256, Nat.mod_lt _ (by decide)⟩)).toNat % 38400, Nat.mod_lt _ (by decide)⟩ ⟨r % 24, Nat.mod_lt _ (by decide)⟩ c)

/-- Everything asked of the arguments. -/
structure Fine : Prop where
  page : ∀ b p, (pg (ix2 b p)).toNat < 38400
  len : ∀ b, (ln (ix1 b)).toNat ≤ 4096
  cd : ∀ b g t c, g < 4 → IsReal (Attend.cd (pageWords pg kv b) g t c)
  mt : ∀ b t k, IsReal (Attend.mt (pageWords pg kv b) t k)
  q : ∀ j, IsReal (q j)
  nl : ∀ j, IsReal (nl j)
  qr : ∀ j, IsReal (qr j)
  kr : ∀ j, IsReal (kr j)

variable {pg ln q qr nl kr kv}

theorem Fine.good (h : Fine pg ln q qr nl kr kv) (b : Fin 120) (x : Fin 32) (n : ℕ) :
    Good (pageWords pg kv b) (fun c => q (ix3 b x c)) (fun c => nl (ix2 b c)) (fun k => qr (ix3 b x k)) (fun k => kr (ix2 b k)) n where
  cd g t c hg _ := h.cd b g t c hg
  mt t k _ := h.mt b t k
  q c := h.q _
  nl c := h.nl _
  qr k := h.qr _
  kr k := h.kr _

variable (pg ln q qr nl kr kv)

/-- The attention output and the log-sum-exp of sequence `b`, head `h`. -/
def outAt (b : Fin 120) (h : Fin 32) (c : Fin 512) : EReal :=
  outOf (pageWords pg kv b) (fun c => q (ix3 b h c)) (fun c => nl (ix2 b c)) (fun k => qr (ix3 b h k)) (fun k => kr (ix2 b k)) (ln (ix1 b)) c
def lseAt (b : Fin 120) (h : Fin 32) : EReal :=
  lseOf (pageWords pg kv b) (fun c => q (ix3 b h c)) (fun c => nl (ix2 b c)) (fun k => qr (ix3 b h k)) (fun k => kr (ix2 b k)) (ln (ix1 b))

end Cert.Attend

end
-- ==== Proof.Value.KernelArray.lean ====
/- The kernel's two result arrays at an index: point `t` writes row `t`, from row `t` of every operand. -/
module

public import proofs.«01_k».proof.Proof.KernelIdeal.Run
public import proofs.«01_k».proof.Proof.Value.KernelHost
public import proofs.«01_k».proof.Proof.Value.KernelBlock
public import proofs.«01_k».proof.Proof.Value.Asked
public import Idealize.ShloMosaic.Lib.Pipeline.Value

@[expose] public section

set_option maxRecDepth 16384

noncomputable section

namespace Cert.Attend.KernelIdeal

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (hO : Ok m) (c : Dev nD)

theorem index0_0 : ∀ t : Fin 120, cc0_transform_0 (grid0.coords t) = ![t.val, 0, 0] := by decide +kernel
theorem index0_1 : ∀ t : Fin 120, cc0_transform_1 (grid0.coords t) = ![t.val, 0, 0] := by decide +kernel
theorem index0_2 : ∀ t : Fin 120, cc0_transform_2 (grid0.coords t) = ![t.val, 0, 0] := by decide +kernel
theorem index0_3 : ∀ t : Fin 120, cc0_transform_3 (grid0.coords t) = ![t.val, 0, 0] := by decide +kernel
theorem index0_4 : ∀ t : Fin 120, cc0_transform_5 (grid0.coords t) = ![t.val, 0, 0] := by decide +kernel
theorem index0_5 : ∀ t : Fin 120, cc0_transform_6 (grid0.coords t) = ![t.val, 0, 0] := by decide +kernel

theorem iblk0 (t : Fin 120) (h : Fin 32) (j : Fin 512) : iblk m hO c 0 t (ix3 0 h j) = qA m c (ix3 t h j) := by
  have hi := index0_0 t
  unfold iblk
  show V m c main_arg2 ((((cfgM m hO).win 0).blk t).view.emb (ix3 0 h j)) = _
  rw [V_main_arg2]
  refine congrArg (qA m c) (funext fun a => Fin.ext ?_)
  match a with
  | ⟨0, _⟩ => show cc0_transform_0 (grid0.coords t) 0 * 1 + 1 * 0 = t.val; rw [hi]; show t.val * 1 + 1 * 0 = t.val; omega
  | ⟨1, _⟩ => show cc0_transform_0 (grid0.coords t) 1 * 32 + 1 * h.val = h.val; rw [hi]; show 0 * 32 + 1 * h.val = h.val; omega
  | ⟨2, _⟩ => show cc0_transform_0 (grid0.coords t) 2 * 512 + 1 * j.val = j.val; rw [hi]; show 0 * 512 + 1 * j.val = j.val; omega

theorem iblk1 (t : Fin 120) (h : Fin 48) (j : Fin 128) : iblk m hO c 1 t (ix3 0 h j) = V m c main_v24 (ix3 t h j) := by
  have hi := index0_1 t
  unfold iblk
  show V m c main_v24 ((((cfgM m hO).win 1).blk t).view.emb (ix3 0 h j)) = _
  refine congrArg (V m c main_v24) (funext fun a => Fin.ext ?_)
  match a with
  | ⟨0, _⟩ => show cc0_transform_1 (grid0.coords t) 0 * 1 + 1 * 0 = t.val; rw [hi]; show t.val * 1 + 1 * 0 = t.val; omega
  | ⟨1, _⟩ => show cc0_transform_1 (grid0.coords t) 1 * 48 + 1 * h.val = h.val; rw [hi]; show 0 * 48 + 1 * h.val = h.val; omega
  | ⟨2, _⟩ => show cc0_transform_1 (grid0.coords t) 2 * 128 + 1 * j.val = j.val; rw [hi]; show 0 * 128 + 1 * j.val = j.val; omega

theorem iblk2 (t : Fin 120) (j : Fin 512) : iblk m hO c 2 t (ix3 0 0 j) = V m c main_v27 (ix3 t 0 j) := by
  have hi := index0_2 t
  unfold iblk
  show V m c main_v27 ((((cfgM m hO).win 2).blk t).view.emb (ix3 0 0 j)) = _
  refine congrArg (V m c main_v27) (funext fun a => Fin.ext ?_)
  match a with
  | ⟨0, _⟩ => show cc0_transform_2 (grid0.coords t) 0 * 1 + 1 * 0 = t.val; rw [hi]; show t.val * 1 + 1 * 0 = t.val; omega
  | ⟨1, _⟩ => show cc0_transform_2 (grid0.coords t) 1 * 1 + 1 * 0 = 0; rw [hi]; rfl
  | ⟨2, _⟩ => show cc0_transform_2 (grid0.coords t) 2 * 512 + 1 * j.val = j.val; rw [hi]; show 0 * 512 + 1 * j.val = j.val; omega

theorem iblk3 (t : Fin 120) (j : Fin 128) : iblk m hO c 3 t (ix3 0 0 j) = V m c main_v26 (ix3 t 0 j) := by
  have hi := index0_3 t
  unfold iblk
  show V m c main_v26 ((((cfgM m hO).win 3).blk t).view.emb (ix3 0 0 j)) = _
  refine congrArg (V m c main_v26) (funext fun a => Fin.ext ?_)
  match a with
  | ⟨0, _⟩ => show cc0_transform_3 (grid0.coords t) 0 * 1 + 1 * 0 = t.val; rw [hi]; show t.val * 1 + 1 * 0 = t.val; omega
  | ⟨1, _⟩ => show cc0_transform_3 (grid0.coords t) 1 * 1 + 1 * 0 = 0; rw [hi]; rfl
  | ⟨2, _⟩ => show cc0_transform_3 (grid0.coords t) 2 * 128 + 1 * j.val = j.val; rw [hi]; show 0 * 128 + 1 * j.val = j.val; omega

/-- The arguments of every device are those of the only one. -/
theorem dev_eq (c c' : Dev nD) : c = c' := Subsingleton.elim _ _

variable (H : Fine (pageA m c) (lenA m c) (qA m c) (qrA m c) (nlA m c) (krA m c) (kvA m c))

theorem tabs_eq : tabs m = pageA m c := by
  rw [dev_eq c 0]; exact V_main_arg0 m 0
theorem lens_eq : lens m = lenA m c := by
  rw [dev_eq c 0]; exact V_main_arg1 m 0
theorem kvs_eq : kvs m c = kvA m c := V_main_arg6 m c

theorem words_eq (t : Fin 120) : words (tabs m) (kvs m c) t.val = pageWords (pageA m c) (kvA m c) t := by
  funext p r k
  unfold words pageWords
  rw [tabs_eq m c, kvs_eq m c]
  have e : (⟨t.val % 120, Nat.mod_lt _ (by decide)⟩ : Fin 120) = t := Fin.ext (Nat.mod_eq_of_lt t.isLt)
  have ep : pageW (F := Ideal) (pageA m c) t.val p = ⟨(pageA m c (ix2 t ⟨p % 256, Nat.mod_lt _ (by decide)⟩)).toNat % 38400, Nat.mod_lt _ (by decide)⟩ := Fin.ext (by
    show (pageA m c (ix2 ⟨t.val % 120, Nat.mod_lt _ (by decide)⟩ ⟨p % 256, Nat.mod_lt _ (by decide)⟩)).toNat % 38400 = _
    rw [e])
  rw [ep]
  rfl

theorem lenW_eq (t : Fin 120) : lenW (F := Ideal) (lens m) t.val = lenA m c (ix1 t) := by
  unfold lenW
  rw [lens_eq m c]
  have e : (⟨t.val % 120, Nat.mod_lt _ (by decide)⟩ : Fin 120) = t := Fin.ext (Nat.mod_eq_of_lt t.isLt)
  rw [e]
  rfl

include H

/-- What point `t` reads. -/
theorem point (t : Fin 120) : Point (tabs m) (lens m) (kvs m c) (iblk m hO c 0 t) (iblk m hO c 1 t) (iblk m hO c 2 t) (iblk m hO c 3 t)
    (q := fun h j => qA m c (ix3 t h j)) (nl := fun j => nlA m c (ix2 t j)) (qr := fun h k => qrA m c (ix3 t h k)) (kr := fun k => krA m c (ix2 t k)) t.val where
  le := by rw [lenW_eq m c]; exact H.len t
  good h := by rw [words_eq, lenW_eq m c]; exact H.good t h _
  hq h j := iblk0 m hO c t h j
  hqr h k := by
    refine (iblk1 m hO c t _ k).trans ((host_qm m c t _ k).trans ?_)
    have e : ¬ (32 ≤ h.val ∧ h.val < 36) := by omega
    show (if _ : h.val < 32 ∧ k.val < 64 then _ else (0 : EReal)) + _ * (if 32 ≤ h.val ∧ h.val < 36 then 1 else 0) = _
    rw [if_neg e, mul_zero, add_zero]
    by_cases hk : k.val < 64
    · rw [dif_pos ⟨h.isLt, hk⟩, dif_pos hk]
    · rw [dif_neg fun q => hk q.2, dif_neg hk]
  hmask g hg k := by
    refine (iblk1 m hO c t _ k).trans ((host_qm m c t _ k).trans ?_)
    have e0 : ¬ (32 + g < 32 ∧ k.val < 64) := by omega
    show (if _ : 32 + g < 32 ∧ k.val < 64 then _ else (0 : EReal)) + (if 32 + g + 32 = k.val then 1 else 0) * (if 32 ≤ 32 + g ∧ 32 + g < 36 then 1 else 0) = _
    rw [dif_neg e0, if_pos (show 32 ≤ 32 + g ∧ 32 + g < 36 by omega), mul_one, zero_add]
    by_cases hk : k.val = 64 + g
    · rw [if_pos hk, if_pos (by omega)]
    · rw [if_neg hk, if_neg (by omega)]
  hnl j := (iblk2 m hO c t j).trans (host_nl m c t j)
  hkr k := (iblk3 m hO c t k).trans (host_kr m c t k)

/-- The attention output. -/
theorem out_array (b : Fin 120) (h : Fin 32) (j : Fin 512) : (dats m hO 0 c).arrAt 4 (cfgM m hO).N (ix3 b h j)
    = outAt (pageA m c) (lenA m c) (qA m c) (qrA m c) (nlA m c) (krA m c) (kvA m c) b h j := by
  have hi := index0_4
  have hd : ∀ t t' : Fin (cfgM m hO).N, ((cfgM m hO).win 4).flush t = true → ((cfgM m hO).win 4).flush t' = true → t ≠ t' →
      Disjoint (((cfgM m hO).win 4).blk t).view.set (((cfgM m hO).win 4).blk t').view.set :=
    fun t t' _ _ hne => ((cfgM m hO).win 4).disjoint_blk fun e => hne (by
      have e' := congrFun ((hi t).symm.trans (e.trans (hi t'))) (0 : Fin 3)
      exact Fin.ext e')
  have key := (dats m hO 0 c).arrAt_emb_eq_flushed 4 hd b (flush0_4 (adm m hO) (show Fin 120 from b)) (ix3 0 h j)
  have e : (((cfgM m hO).win 4).blk b).view.emb (ix3 0 h j) = ix3 b h j := funext fun a => Fin.ext (by
    have hb := hi b
    match a with
    | ⟨0, _⟩ => show cc0_transform_5 (grid0.coords b) 0 * 1 + 1 * 0 = b.val; rw [hb]; show b.val * 1 + 1 * 0 = b.val; omega
    | ⟨1, _⟩ => show cc0_transform_5 (grid0.coords b) 1 * 32 + 1 * h.val = h.val; rw [hb]; show 0 * 32 + 1 * h.val = h.val; omega
    | ⟨2, _⟩ => show cc0_transform_5 (grid0.coords b) 2 * 512 + 1 * j.val = j.val; rw [hb]; show 0 * 512 + 1 * j.val = j.val; omega)
  rw [e] at key
  refine key.trans ?_
  show (dats m hO 0 c).after 4 b (ix3 0 h j) = _
  refine (congrFun (after0_4 m hO c b) (ix3 0 h j)).trans ?_
  refine (out_at (point m hO c H b) h j).trans ?_
  rw [words_eq, lenW_eq m c]
  rfl

/-- The log-sum-exp. -/
theorem lse_array (b : Fin 120) (h : Fin 32) : (dats m hO 0 c).arrAt 5 (cfgM m hO).N (ix3 b 0 h)
    = lseAt (pageA m c) (lenA m c) (qA m c) (qrA m c) (nlA m c) (krA m c) (kvA m c) b h := by
  have hi := index0_5
  have hd : ∀ t t' : Fin (cfgM m hO).N, ((cfgM m hO).win 5).flush t = true → ((cfgM m hO).win 5).flush t' = true → t ≠ t' →
      Disjoint (((cfgM m hO).win 5).blk t).view.set (((cfgM m hO).win 5).blk t').view.set :=
    fun t t' _ _ hne => ((cfgM m hO).win 5).disjoint_blk fun e => hne (by
      have e' := congrFun ((hi t).symm.trans (e.trans (hi t'))) (0 : Fin 3)
      exact Fin.ext e')
  have key := (dats m hO 0 c).arrAt_emb_eq_flushed 5 hd b (flush0_5 (adm m hO) (show Fin 120 from b)) (ix3 0 0 h)
  have e : (((cfgM m hO).win 5).blk b).view.emb (ix3 0 0 h) = ix3 b 0 h := funext fun a => Fin.ext (by
    have hb := hi b
    match a with
    | ⟨0, _⟩ => show cc0_transform_6 (grid0.coords b) 0 * 1 + 1 * 0 = b.val; rw [hb]; show b.val * 1 + 1 * 0 = b.val; omega
    | ⟨1, _⟩ => show cc0_transform_6 (grid0.coords b) 1 * 1 + 1 * 0 = 0; rw [hb]; rfl
    | ⟨2, _⟩ => show cc0_transform_6 (grid0.coords b) 2 * 32 + 1 * h.val = h.val; rw [hb]; show 0 * 32 + 1 * h.val = h.val; omega)
  rw [e] at key
  refine key.trans ?_
  show (dats m hO 0 c).after 5 b (ix3 0 0 h) = _
  refine (congrFun (after0_5 m hO c b) (ix3 0 0 h)).trans ?_
  refine (lse_at (point m hO c H b) h).trans ?_
  rw [words_eq, lenW_eq m c]
  rfl

end Cert.Attend.KernelIdeal

end
-- ==== Proof.Value.RefChunk.lean ====
/- The values of the reference, at an index. -/
module

public import proofs.«01_k».proof.Proof.Value.Spec
public import proofs.«01_k».proof.Proof.Gen.ReferenceIdeal.Skeleton

@[expose] public section

noncomputable section

namespace Cert.Attend.ReferenceIdeal

open Idealize.ShloMosaic Cert.ReferenceIdeal Cert.ReferenceIdeal.Gen
open scoped BigOperators

section
variable (w : Vec Ideal S737280x128 .i32)

/-- The words of row `b` of the batch, by page. -/
def words (b : ℕ) (p r : ℕ) (c : Fin 128) : BitVec 32 := w (ix2 ⟨((b * 256 + p) * 24 + r) % 737280, Nat.mod_lt _ (by decide)⟩ c)

theorem pay4_eq : k0_pay4 w = w := by
  unfold k0_pay4
  exact shapeCast_self w _

theorem codes_row (r : Fin 2949120) (c : Fin 128) :
    bitcastToFloat (F := Ideal) .fp8e4m3 (bitcast S2949120x128 8 (k0_pay4 w) bitcasts_S737280x128_w32_S2949120x128_w8) (ix2 r c)
      = codeOf (w (ix2 ⟨r.val / 4, by omega⟩ c)) (r.val % 4) := by
  rw [codes_ix2 _ _ r c (by omega), pay4_eq]
theorem halves_row (r : Fin 1474560) (c : Fin 128) :
    bitcastToFloat (F := Ideal) .bf16 (bitcast S1474560x128 16 (k0_pay4 w) bitcasts_S737280x128_w32_S1474560x128_w16) (ix2 r c)
      = halfOf (w (ix2 ⟨r.val / 2, by omega⟩ c)) (r.val % 2) := by
  rw [halves_ix2 _ _ r c (by omega), pay4_eq]

theorem pay5_apply (b : Fin 120) (p : Fin 256) (g : Fin 4) (u : Fin 16) (c : Fin 128) :
    k0_pay5 w (ix5 b p g u c) = codeOf (words w b.val p.val (4 * g.val + u.val / 4) c) (u.val % 4) := by
  have hr := codes_row w ⟨b.val * 24576 + p.val * 96 + (g.val * 16 + u.val), by omega⟩ c
  unfold k0_pay5
  generalize bitcastToFloat (F := Ideal) .fp8e4m3 _ = X at hr ⊢
  have e : (b.val * 24576 + p.val * 96 + (g.val * 16 + u.val)) / 4 = ((b.val * 256 + p.val) * 24 + (4 * g.val + u.val / 4)) % 737280 := by omega
  have e' : (b.val * 24576 + p.val * 96 + (g.val * 16 + u.val)) % 4 = u.val % 4 := by omega
  simp only [e, e'] at hr
  refine Eq.trans ?_ hr
  pointwise

theorem pay6_apply (b : Fin 120) (t : Fin 4096) (k : Fin 128) : k0_pay6 w (ix3 b t k) = mt (words w b.val) t.val k := by
  have hr := halves_row w ⟨b.val * 12288 + t.val / 16 * 48 + (32 + t.val % 16), by omega⟩ k
  unfold k0_pay6
  generalize bitcastToFloat (F := Ideal) .bf16 _ = X at hr ⊢
  have e : (b.val * 12288 + t.val / 16 * 48 + (32 + t.val % 16)) / 2 = ((b.val * 256 + t.val / 16) * 24 + (16 + t.val / 2 % 8)) % 737280 := by omega
  have e' : (b.val * 12288 + t.val / 16 * 48 + (32 + t.val % 16)) % 2 = t.val % 2 := by omega
  simp only [e, e'] at hr
  refine Eq.trans ?_ hr
  pointwise

theorem group_eq (b : Fin 120) (g : Fin 4) (t : Fin 4096) (c : Fin 128) :
    k0_pay5 w (ix5 b ⟨t.val / 16, by omega⟩ g ⟨t.val % 16, by omega⟩ c) = cd (words w b.val) g.val t.val c := by
  rw [pay5_apply]
  unfold cd
  have e : t.val % 16 / 4 = t.val / 4 % 4 := by omega
  have e' : t.val % 16 % 4 = t.val % 4 := by omega
  simp only [e, e']

theorem pay8_apply (b : Fin 120) (t : Fin 4096) (c : Fin 128) : k0_pay8 w (ix3 b t c) = cd (words w b.val) 0 t.val c := by
  refine Eq.trans ?_ (group_eq w b 0 t c)
  unfold k0_pay8
  generalize k0_pay5 w = X
  pointwise
theorem pay10_apply (b : Fin 120) (t : Fin 4096) (c : Fin 128) : k0_pay10 w (ix3 b t c) = cd (words w b.val) 1 t.val c := by
  refine Eq.trans ?_ (group_eq w b 1 t c)
  unfold k0_pay10
  generalize k0_pay5 w = X
  pointwise
theorem pay13_apply (b : Fin 120) (t : Fin 4096) (c : Fin 128) : k0_pay13 w (ix3 b t c) = cd (words w b.val) 2 t.val c := by
  refine Eq.trans ?_ (group_eq w b 2 t c)
  unfold k0_pay13
  generalize k0_pay5 w = X
  pointwise
theorem pay16_apply (b : Fin 120) (t : Fin 4096) (c : Fin 128) : k0_pay16 (k0_pay5 w) (ix3 b t c) = cd (words w b.val) 3 t.val c := by
  refine Eq.trans ?_ (group_eq w b 3 t c)
  unfold k0_pay16
  generalize k0_pay5 w = X
  pointwise

theorem scale_row (X : FVec Ideal S120x4096x128 .bf16) (b : Fin 120) (t : Fin 4096) : k0_pay17 X (ix3 b 0 t) = X (ix3 b t 67) := by
  pointwise [k0_pay17]
theorem pay9_apply (b : Fin 120) (t : Fin 4096) : k0_pay9 w (ix3 b 0 t) = mt (words w b.val) t.val 64 := by
  rw [← pay6_apply]
  unfold k0_pay9
  generalize k0_pay6 w = X
  pointwise
theorem pay11_apply (b : Fin 120) (t : Fin 4096) : k0_pay11 w (ix3 b 0 t) = mt (words w b.val) t.val 65 := by
  rw [← pay6_apply]
  unfold k0_pay11
  generalize k0_pay6 w = X
  pointwise
theorem pay14_apply (b : Fin 120) (t : Fin 4096) : k0_pay14 w (ix3 b 0 t) = mt (words w b.val) t.val 66 := by
  rw [← pay6_apply]
  unfold k0_pay14
  generalize k0_pay6 w = X
  pointwise
theorem pay17_apply (b : Fin 120) (t : Fin 4096) : k0_pay17 (k0_pay6 w) (ix3 b 0 t) = mt (words w b.val) t.val 67 := by
  rw [← pay6_apply]
  exact scale_row _ b t
end

theorem pay12_apply (w : Vec Ideal S737280x128 .i32) (v11 : Vec Ideal S120x32x512 .bf16) (v12 : Vec Ideal S120x32x64 .bf16) (b : Fin 120) (h : Fin 32) (t : Fin 4096) :
    k0_pay12 w v11 v12 (ix3 b h t) = ((∑ k : Fin 64, v12 (ix3 b h k) * k0_pay6 w (ix3 b t ⟨k.val, by omega⟩))
      + (∑ c : Fin 128, v11 (ix3 b h ⟨c.val, by omega⟩) * k0_pay8 w (ix3 b t c)) * k0_pay9 w (ix3 b 0 t))
      + (∑ c : Fin 128, v11 (ix3 b h ⟨128 + c.val, by omega⟩) * k0_pay10 w (ix3 b t c)) * k0_pay11 w (ix3 b 0 t) := by
  unfold k0_pay12
  generalize k0_pay6 w = x0
  generalize k0_pay8 w = x1
  generalize k0_pay9 w = x2
  generalize k0_pay10 w = x3
  generalize k0_pay11 w = x4
  pointwise

theorem pay15_apply (v11 : Vec Ideal S120x32x512 .bf16) (b : Fin 120) (h : Fin 32) (c : Fin 128) : k0_pay15 v11 (ix3 b h c) = v11 (ix3 b h ⟨256 + c.val, by omega⟩) := by
  pointwise [k0_pay15]

theorem pay18_apply (v11 : Vec Ideal S120x32x512 .bf16) (v12 : Vec Ideal S120x32x64 .bf16) (v13 : Vec Ideal S120x1x512 .bf16) (v70 : Vec Ideal S120x1x64 .bf16) (b : Fin 120) (h : Fin 32) :
    k0_pay18 v11 v12 (k0_pay7 v13) v70 (ix3 b h 0) = ((∑ c : Fin 512, v11 (ix3 b h c) * v13 (ix3 b 0 c)) + ∑ k : Fin 64, v12 (ix3 b h k) * v70 (ix3 b 0 k)) * SC := by
  unfold SC
  pointwise [k0_pay18, k0_pay7]

section
variable (v6 : FVec Ideal S120x256x4x16x128 .bf16) (v10 : FVec Ideal S120x4096x128 .bf16) (v11 : Vec Ideal S120x32x512 .bf16) (v12 : Vec Ideal S120x32x64 .bf16)
  (v14 : FVec Ideal S120x1x512 .bf16) (v38 : FVec Ideal S120x32x4096 .f32) (v41 : FVec Ideal S120x4096x128 .bf16) (v44 : FVec Ideal S120x1x4096 .f32)
  (v45 : FVec Ideal S120x32x128 .bf16) (v70 : Vec Ideal S120x1x64 .bf16) (v81 : Vec Ideal S120x1x1 .i32)

theorem mask_at (b : Fin 120) (h : Fin 32) (t : Fin 4096) :
    cmpi .slt (iota .tc S120x32x4096 32 [2] iota_S120x32x4096_d2_w32) (broadcastTo S120x32x4096 (shapeCast S120x1x1 v81 shapeCasts_S120x1x1_S120x1x1) broadcasts_S120x1x1_S120x32x4096) (ix3 b h t)
      = IntOp.cmpi CmpIPredicate.slt (BitVec.ofNat 32 t.val) (v81 (ix3 b 0 0)) := by pointwise

theorem pay19_apply (b : Fin 120) (h : Fin 32) (t : Fin 4096) :
    k0_pay19 v6 v10 v11 v38 v41 v44 v45 v81 (ix3 b h t) = Scalar.select (IntOp.cmpi CmpIPredicate.slt (BitVec.ofNat 32 t.val) (v81 (ix3 b 0 0)))
      (((v38 (ix3 b h t) + (∑ c : Fin 128, v45 (ix3 b h c) * v41 (ix3 b t c)) * v44 (ix3 b 0 t))
        + (∑ c : Fin 128, v11 (ix3 b h ⟨384 + c.val, by omega⟩) * k0_pay16 v6 (ix3 b t c)) * k0_pay17 v10 (ix3 b 0 t)) * SC)
      (Ideal.ofBits FTy.f32 4286578688#32) := by
  unfold k0_pay19 SC
  generalize k0_pay16 v6 = x0
  generalize k0_pay17 v10 = x1
  rw [← mask_at v81 b h t]
  generalize cmpi .slt _ _ = M
  pointwise

theorem col_max (x : FVec Ideal S120x32 .f32) (y : FVec Ideal S120x32x1 .f32) (b : Fin 120) (h : Fin 32) :
    maximumf (shapeCast S120x32x1 x shapeCasts_S120x32_S120x32x1) y (ix3 b h 0) = max (x (ix2 b h)) (y (ix3 b h 0)) := by pointwise

theorem rowmax (x : FVec Ideal S120x32x4096 .f32) (b : Fin 120) (h : Fin 32) :
    multiReduction .maximumf [2] S120x32 x 0xFF800000#32 reduces_S120x32x4096_S120x32 (.inl rfl) rfl (ix2 b h)
      = Finset.fold max (Ideal.ofBits FTy.f32 4286578688#32) (fun t : Fin 4096 => x (ix3 b h t)) Finset.univ := by
  refine (Ideal.multiReduction_maximumf_single x _ reduces_S120x32x4096_S120x32 (.inl rfl) rfl (ix2 b h)).trans ?_
  refine congrArg (fun f => Finset.fold max (Ideal.ofBits FTy.f32 4286578688#32) f Finset.univ) (funext fun t => congrArg x (funext fun a => ?_))
  fin_cases a <;> rfl

theorem pay20_apply (b : Fin 120) (h : Fin 32) :
    k0_pay20 v6 v10 v11 v12 v14 v38 v41 v44 v45 v70 v81 (ix3 b h 0)
      = max (Finset.fold max (Ideal.ofBits FTy.f32 4286578688#32) (fun t => k0_pay19 v6 v10 v11 v38 v41 v44 v45 v81 (ix3 b h t)) Finset.univ) (k0_pay18 v11 v12 v14 v70 (ix3 b h 0)) := by
  unfold k0_pay20
  generalize k0_pay19 v6 v10 v11 v38 v41 v44 v45 v81 = x0
  generalize k0_pay18 v11 v12 v14 v70 = x1
  have e := rowmax x0 b h
  generalize Finset.fold max (Ideal.ofBits FTy.f32 4286578688#32) (fun t : Fin 4096 => x0 (ix3 b h t)) Finset.univ = z at e ⊢
  subst e
  generalize multiReduction (F := Ideal) .maximumf [2] S120x32 x0 0xFF800000#32 reduces_S120x32x4096_S120x32 (.inl rfl) rfl = x2
  exact col_max x2 x1 b h

theorem pay21_apply (b : Fin 120) (h : Fin 32) (t : Fin 4096) :
    k0_pay21 v6 v10 v11 v12 v14 v38 v41 v44 v45 v70 v81 (ix3 b h t)
      = k0_pay19 v6 v10 v11 v38 v41 v44 v45 v81 (ix3 b h t) - k0_pay20 v6 v10 v11 v12 v14 v38 v41 v44 v45 v70 v81 (ix3 b h 0) := by
  unfold k0_pay21
  generalize k0_pay19 v6 v10 v11 v38 v41 v44 v45 v81 = x0
  generalize k0_pay20 v6 v10 v11 v12 v14 v38 v41 v44 v45 v70 v81 = x1
  pointwise
end

section
variable (v79 v89 : FVec Ideal S120x32x1 .f32) (v86 v91 : FVec Ideal S120x32x4096 .f32) (b : Fin 120) (h : Fin 32)

theorem pay22_apply : k0_pay22 v79 v89 v91 (ix3 b h 0) = v89 (ix3 b h 0) + Ideal.log ((∑ t : Fin 4096, Ideal.exp (v91 (ix3 b h t))) + Ideal.exp (v79 (ix3 b h 0) - v89 (ix3 b h 0))) := by
  pointwise [k0_pay22]
theorem pay23_apply (t : Fin 4096) : k0_pay23 v79 v86 v89 v91 (ix3 b h t) = Ideal.exp (v86 (ix3 b h t) - k0_pay22 v79 v89 v91 (ix3 b h 0)) := by
  unfold k0_pay23
  generalize k0_pay22 v79 v89 v91 = X
  pointwise
theorem pay24_apply : k0_pay24 v79 v89 v91 (ix3 b h 0) = Ideal.exp (v79 (ix3 b h 0) - k0_pay22 v79 v89 v91 (ix3 b h 0)) := by
  unfold k0_pay24
  generalize k0_pay22 v79 v89 v91 = X
  pointwise
theorem pay25_apply (v107 : Vec Ideal S120x1x1 .f32) : k0_pay25 v79 v89 v91 v107 (ix3 b 0 h) = k0_pay22 v79 v89 v91 (ix3 b h 0) - Ideal.log (v107 (ix3 b 0 0)) := by
  unfold k0_pay25
  generalize k0_pay22 v79 v89 v91 = X
  pointwise

variable (v13 : Vec Ideal S120x1x512 .bf16) (cdv : FVec Ideal S120x4096x128 .bf16) (scv : FVec Ideal S120x1x4096 .f32) (c : Fin 128)

theorem pay26_apply : k0_pay26 (k0_pay7 v13) cdv scv v79 v86 v89 v91 (ix3 b h c)
    = (∑ t : Fin 4096, k0_pay23 v79 v86 v89 v91 (ix3 b h t) * scv (ix3 b 0 t) * cdv (ix3 b t c)) + k0_pay24 v79 v89 v91 (ix3 b h 0) * v13 (ix3 b 0 ⟨c.val, by omega⟩) := by
  unfold k0_pay26
  generalize k0_pay23 v79 v86 v89 v91 = X
  generalize k0_pay24 v79 v89 v91 = Y
  pointwise [k0_pay7]
theorem pay1_apply : k0_pay1 (k0_pay27 cdv scv v79 v86 v89 v91) (k0_pay28 v79 v89 v91) (k0_pay29 (k0_pay7 v13)) (ix3 b h c)
    = (∑ t : Fin 4096, k0_pay23 v79 v86 v89 v91 (ix3 b h t) * scv (ix3 b 0 t) * cdv (ix3 b t c)) + k0_pay24 v79 v89 v91 (ix3 b h 0) * v13 (ix3 b 0 ⟨128 + c.val, by omega⟩) := by
  unfold k0_pay1 k0_pay27 k0_pay28 k0_pay29
  generalize k0_pay23 v79 v86 v89 v91 = X
  generalize k0_pay24 v79 v89 v91 = Y
  pointwise [k0_pay7]
theorem pay2_apply (X : FVec Ideal S120x32x4096 .bf16) (Y : FVec Ideal S120x32x1 .bf16) : k0_pay2 (k0_pay7 v13) cdv scv X Y (ix3 b h c)
    = (∑ t : Fin 4096, X (ix3 b h t) * scv (ix3 b 0 t) * cdv (ix3 b t c)) + Y (ix3 b h 0) * v13 (ix3 b 0 ⟨256 + c.val, by omega⟩) := by
  pointwise [k0_pay2, k0_pay7]
theorem pay3_apply (X : FVec Ideal S120x32x4096 .bf16) (Y : FVec Ideal S120x32x1 .bf16) : k0_pay3 (k0_pay7 v13) cdv scv X Y (ix3 b h c)
    = (∑ t : Fin 4096, X (ix3 b h t) * scv (ix3 b 0 t) * cdv (ix3 b t c)) + Y (ix3 b h 0) * v13 (ix3 b 0 ⟨384 + c.val, by omega⟩) := by
  pointwise [k0_pay3, k0_pay7]
end

end Cert.Attend.ReferenceIdeal

end
-- ==== Proof.Value.RefRow.lean ====
/- The reference's two results for one head of one row of the batch. -/
module

public import proofs.«01_k».proof.Proof.Value.RefChunk

@[expose] public section

noncomputable section

namespace Cert.Attend.ReferenceIdeal

open Idealize.ShloMosaic Cert.ReferenceIdeal Cert.ReferenceIdeal.Gen
open scoped BigOperators

section
variable (x0 : Vec Ideal S120x1x1 .i32) (x1 : Vec Ideal S120x1x1 .f32) (x2 : Vec Ideal S120x32x512 .bf16) (x3 : Vec Ideal S120x32x64 .bf16) (x4 : Vec Ideal S120x1x512 .bf16)
  (x5 : Vec Ideal S120x1x64 .bf16) (x6 : Vec Ideal S737280x128 .i32)

/-- The masked scores, the new token's, their maximum and the differences. -/
def sc : FVec Ideal S120x32x4096 .f32 := k0_pay19 (k0_pay5 x6) (k0_pay6 x6) x2 (k0_pay12 x6 x2 x3) (k0_pay13 x6) (k0_pay14 x6) (k0_pay15 x2) x0
def scNew : FVec Ideal S120x32x1 .f32 := k0_pay18 x2 x3 (k0_pay7 x4) x5
def top : FVec Ideal S120x32x1 .f32 := k0_pay20 (k0_pay5 x6) (k0_pay6 x6) x2 x3 (k0_pay7 x4) (k0_pay12 x6 x2 x3) (k0_pay13 x6) (k0_pay14 x6) (k0_pay15 x2) x5 x0
def dif : FVec Ideal S120x32x4096 .f32 := k0_pay21 (k0_pay5 x6) (k0_pay6 x6) x2 x3 (k0_pay7 x4) (k0_pay12 x6 x2 x3) (k0_pay13 x6) (k0_pay14 x6) (k0_pay15 x2) x5 x0

variable {q nl : Fin 512 → EReal} {qr kr : Fin 64 → EReal} (b : Fin 120) (h : Fin 32)

/-- What the arrays hold of one head of one row. -/
structure Holds (W : ℕ → ℕ → Fin 128 → BitVec 32) (q nl : Fin 512 → EReal) (qr kr : Fin 64 → EReal) (n : BitVec 32) : Prop where
  le : n.toNat ≤ 4096
  good : Good W q nl qr kr n.toNat
  hn : x0 (ix3 b 0 0) = n
  hq : ∀ c, x2 (ix3 b h c) = q c
  hqr : ∀ k, x3 (ix3 b h k) = qr k
  hnl : ∀ c, x4 (ix3 b 0 c) = nl c
  hkr : ∀ k, x5 (ix3 b 0 k) = kr k
  hW : ∀ p r c, p < 256 → r < 24 → words x6 b.val p r c = W p r c

variable {x0 x1 x2 x3 x4 x5 x6 b h} {W : ℕ → ℕ → Fin 128 → BitVec 32} {n : BitVec 32} (H : Holds x0 x2 x3 x4 x5 x6 b h W q nl qr kr n)
include H

theorem mt_eq (t : Fin 4096) (k : Fin 128) : mt (words x6 b.val) t.val k = mt W t.val k := by
  unfold mt
  rw [H.hW _ _ _ (by omega) (by omega)]
theorem cd_eq (g : ℕ) (hg : g < 4) (t : Fin 4096) (c : Fin 128) : cd (words x6 b.val) g t.val c = cd W g t.val c := by
  unfold cd
  rw [H.hW _ _ _ (by omega) (by omega)]

theorem sc_at (t : Fin 4096) : sc x0 x2 x3 x6 (ix3 b h t) = score n.toNat (σ W q qr) t.val := by
  unfold sc
  rw [pay19_apply, H.hn, lt_word t.val t.isLt n H.le, pay12_apply]
  unfold score
  by_cases ht : t.val < n.toNat
  · rw [if_pos ht, if_pos ht, ← H.good.raw_eq ht]
    refine (if_pos rfl).trans ?_
    unfold raw
    have c0 := fun c => (pay8_apply x6 b t c).trans (cd_eq H 0 (by omega) t c)
    have c1 := fun c => (pay10_apply x6 b t c).trans (cd_eq H 1 (by omega) t c)
    have c2 := fun c => (pay13_apply x6 b t c).trans (cd_eq H 2 (by omega) t c)
    have c3 := fun c => (pay16_apply x6 b t c).trans (cd_eq H 3 (by omega) t c)
    have m0 := (pay9_apply x6 b t).trans (mt_eq H t 64)
    have m1 := (pay11_apply x6 b t).trans (mt_eq H t 65)
    have m2 := (pay14_apply x6 b t).trans (mt_eq H t 66)
    have m3 := (pay17_apply x6 b t).trans (mt_eq H t 67)
    refine congrArg (· * SC) ?_
    refine congrArg₂ (· + ·) (congrArg₂ (· + ·) (congrArg₂ (· + ·) (congrArg₂ (· + ·) ?_ ?_) ?_) ?_) ?_
    · exact Finset.sum_congr rfl fun k _ => congrArg₂ (· * ·) (H.hqr k) ((pay6_apply x6 b t _).trans (mt_eq H t _))
    · exact congrArg₂ (· * ·) (Finset.sum_congr rfl fun c _ => congrArg₂ (· * ·) (H.hq _) (c0 c)) m0
    · exact congrArg₂ (· * ·) (Finset.sum_congr rfl fun c _ => congrArg₂ (· * ·) (H.hq _) (c1 c)) m1
    · exact congrArg₂ (· * ·) (Finset.sum_congr rfl fun c _ => congrArg₂ (· * ·) ((pay15_apply x2 b h c).trans (H.hq _)) (c2 c)) m2
    · exact congrArg₂ (· * ·) (Finset.sum_congr rfl fun c _ => congrArg₂ (· * ·) (H.hq _) (c3 c)) m3
  · rw [if_neg ht, if_neg ht]
    exact (if_neg (by decide)).trans ninf

theorem scNew_at : scNew x2 x3 x4 x5 (ix3 b h 0) = ((σn q nl qr kr : ℝ) : EReal) := by
  unfold scNew
  rw [pay18_apply, ← H.good.rawNew_eq]
  unfold rawNew
  simp only [H.hq, H.hnl, H.hqr, H.hkr]

theorem top_at : ∃ M : ℝ, top x0 x2 x3 x4 x5 x6 (ix3 b h 0) = (M : EReal) := by
  obtain ⟨M, hM⟩ := max_real Finset.univ (fun t : Fin 4096 => score n.toNat (σ W q qr) t.val) (σn q nl qr kr) (fun t => score_ne_top _ _ _) ⊥ (by simp)
  refine ⟨M, ?_⟩
  unfold top
  rw [pay20_apply, max_comm, ninf]
  have e : (fun t : Fin 4096 => k0_pay19 (k0_pay5 x6) (k0_pay6 x6) x2 (k0_pay12 x6 x2 x3) (k0_pay13 x6) (k0_pay14 x6) (k0_pay15 x2) x0 (ix3 b h t)) = fun t => score n.toNat (σ W q qr) t.val :=
    funext fun t => sc_at H t
  rw [e, show k0_pay18 x2 x3 (k0_pay7 x4) x5 (ix3 b h 0) = _ from scNew_at H]
  exact hM

/-- The logarithm of the softmax's mass. -/
theorem logMass_at : k0_pay22 (scNew x2 x3 x4 x5) (top x0 x2 x3 x4 x5 x6) (dif x0 x2 x3 x4 x5 x6) (ix3 b h 0) = ((logMass n.toNat (σ W q qr) (σn q nl qr kr) : ℝ) : EReal) := by
  obtain ⟨M, hM⟩ := top_at H
  rw [pay22_apply, hM, scNew_at H]
  have e : ∀ t : Fin 4096, dif x0 x2 x3 x4 x5 x6 (ix3 b h t) = score n.toNat (σ W q qr) t.val - (M : EReal) := fun t => by
    unfold dif
    rw [pay21_apply]
    exact congrArg₂ (· - ·) (sc_at H t) hM
  simp only [e]
  rw [mass_whole, log_coe_pos _ (mass_pos _ _ _ _ _), ← EReal.coe_add, logMass_of _ _ _ M H.le H.le]

theorem lse_at (hc : x1 (ix3 b 0 0) = FloatOps.sitofp (F := Ideal) .f32 (n + 1#32)) :
    k0_pay25 (scNew x2 x3 x4 x5) (top x0 x2 x3 x4 x5 x6) (dif x0 x2 x3 x4 x5 x6) x1 (ix3 b 0 h) = lseOf W q nl qr kr n := by
  rw [pay25_apply, logMass_at H, hc]
  rfl

/-- One column of the first result, from the weights: the group `g`'s columns. -/
theorem out_at (g : ℕ) (hg : g < 4) (c : Fin 512) (x : Fin 128) (hx : c.val = 128 * g + x.val) (cdv : Fin 4096 → EReal) (scv : Fin 4096 → EReal)
    (hcd : ∀ t, cdv t = cd (words x6 b.val) g t.val x) (hsc : ∀ t, scv t = mt (words x6 b.val) t.val ⟨64 + g, by omega⟩) :
    (∑ t : Fin 4096, k0_pay23 (scNew x2 x3 x4 x5) (sc x0 x2 x3 x6) (top x0 x2 x3 x4 x5 x6) (dif x0 x2 x3 x4 x5 x6) (ix3 b h t) * scv t * cdv t)
      + k0_pay24 (scNew x2 x3 x4 x5) (top x0 x2 x3 x4 x5 x6) (dif x0 x2 x3 x4 x5 x6) (ix3 b h 0) * x4 (ix3 b 0 c) = outOf W q nl qr kr n c := by
  unfold outOf
  rw [pay24_apply, logMass_at H, scNew_at H, H.hnl]
  simp only [pay23_apply, logMass_at H, sc_at H]
  rw [← average_log, (H.good.nl c).eq]
  refine weighted_whole _ _ _ _ _ _ _ _ fun t ht => ?_
  rw [hsc, hcd, mt_eq H, cd_eq H g hg, ← H.good.value_eq c ht]
  unfold value
  have eg : c.val / 128 = g := by omega
  have ex : (⟨c.val % 128, by omega⟩ : Fin 128) = x := Fin.ext (by show c.val % 128 = x.val; omega)
  simp only [eg, ex]

end

end Cert.Attend.ReferenceIdeal

end
-- ==== Proof.Value.RefHost.lean ====
/- What the reference's host operations leave in the arrays it reads, at an index: the pages gathered, the lengths, the counts, the
   new latent and the rotated key. -/
module

public import proofs.«01_k».proof.Proof.Gen.ReferenceIdeal.Value
public import Idealize.ShloMosaic.Lib.Routing.OpsSet
public import Idealize.ShloMosaic.Lib.StableHlo.ReadAt
public import Idealize.ShloMosaic.Lib.Pointwise

@[expose] public section

noncomputable section

namespace Cert.Attend.ReferenceIdeal

open Cert.ReferenceIdeal Cert.ReferenceIdeal.Gen Idealize.ShloMosaic Idealize.ShloMosaic.TcCoe
open Idealize.SL.Sem

variable (m : (ℓ : Loc nD τ sig) → Buf (Elt Ideal) ℓ)

/-- The arguments a core holds at launch. -/
abbrev pageA (c : Dev nD) : IVec S120x256 32 := m ((c.tc : Thread nD τ).loc main_arg0)
abbrev lenA (c : Dev nD) : IVec S120 32 := m ((c.tc : Thread nD τ).loc main_arg1)
abbrev qA (c : Dev nD) : FVec Ideal S120x32x512 .bf16 := m ((c.tc : Thread nD τ).loc main_arg2)
abbrev qrA (c : Dev nD) : FVec Ideal S120x32x64 .bf16 := m ((c.tc : Thread nD τ).loc main_arg3)
abbrev nlA (c : Dev nD) : FVec Ideal S120x512 .bf16 := m ((c.tc : Thread nD τ).loc main_arg4)
abbrev krA (c : Dev nD) : FVec Ideal S120x64 .bf16 := m ((c.tc : Thread nD τ).loc main_arg5)
abbrev kvA (c : Dev nD) : IVec S38400x24x128 32 := m ((c.tc : Thread nD τ).loc main_arg6)

theorem host_nl (c : Dev nD) (b : Fin 120) (j : Fin 512) : V m c main_v13 (ix3 b 0 j) = nlA m c (ix2 b j) := by
  unfold V
  after_reads_at

theorem host_kr (c : Dev nD) (b : Fin 120) (k : Fin 64) : V m c main_v14 (ix3 b 0 k) = krA m c (ix2 b k) := by
  unfold V
  after_reads_at

theorem host_len (c : Dev nD) (b : Fin 120) : V m c main_v11 (ix3 b 0 0) = lenA m c (ix1 b) := by
  unfold V
  after_reads_at

theorem host_count (c : Dev nD) (b : Fin 120) : V m c main_v12 (ix3 b 0 0) = FloatOps.sitofp (F := Ideal) .f32 (lenA m c (ix1 b) + 1#32) := by
  unfold V
  after_reads_at
  rfl

theorem gather_at (x : IVec S38400x24x128 32) (idx : IVec S120x256x1 32) (b : Fin 120) (p : Fin 256) (r : Fin 24) (k : Fin 128) :
    Host.gather gather_S38400x24x128_S120x256x1_S120x256x24x128_23_0_n_n_0_2_124128 x idx (ix4 b p r k)
      = x (ix3 ⟨min (idx (ix3 b p 0)).toInt.toNat 38399, by omega⟩ r k) := by
  unfold Host.gather
  refine congrArg x (funext fun a => Fin.ext ?_)
  set d := gather_S38400x24x128_S120x256x1_S120x256x24x128_23_0_n_n_0_2_124128 with hd
  show d.start (ix4 b p r k) idx a + d.batchCoord (ix4 b p r k) a + d.offCoord (ix4 b p r k) a = _
  rw [GatherDims.batchCoord_eq_zero _ _ _ List.not_mem_nil, Nat.add_zero]
  match a with
  | ⟨0, _⟩ =>
    show d.start (ix4 b p r k) idx 0 + d.offCoord (ix4 b p r k) 0 = _
    rw [GatherDims.offCoord_eq_zero _ _ _ (fun h => ((GatherDims.mem_sKept _ _).mp h).1 (List.mem_singleton.mpr rfl)), Nat.add_zero]
    unfold GatherDims.start
    rw [dif_pos (show (0 : Fin 3) ∈ d.startIndexMap from List.mem_singleton.mpr rfl)]
    have hsi : d.siIdx (ix4 b p r k) ⟨List.idxOf (0 : Fin 3) d.startIndexMap, List.idxOf_lt_length_iff.2 (List.mem_singleton.mpr rfl)⟩ = ix3 b p 0 := by
      funext a'; refine Fin.ext ?_
      fin_cases a' <;> rfl
    exact congrArg (fun j => min (idx j).toInt.toNat 38399) hsi
  | ⟨1, _⟩ =>
    show d.start (ix4 b p r k) idx 1 + d.offCoord (ix4 b p r k) 1 = _
    unfold GatherDims.start
    rw [dif_neg (show (1 : Fin 3) ∉ d.startIndexMap from by decide), Nat.zero_add]
    rfl
  | ⟨2, _⟩ =>
    show d.start (ix4 b p r k) idx 2 + d.offCoord (ix4 b p r k) 2 = _
    unfold GatherDims.start
    rw [dif_neg (show (2 : Fin 3) ∉ d.startIndexMap from by decide), Nat.zero_add]
    rfl

theorem host_words (c : Dev nD) (b : Fin 120) (p : Fin 256) (r : Fin 24) (k : Fin 128) (hp : (pageA m c (ix2 b p)).toNat < 38400) :
    V m c main_v10 (ix2 ⟨(b.val * 256 + p.val) * 24 + r.val, by omega⟩ k) = kvA m c (ix3 ⟨(pageA m c (ix2 b p)).toNat, hp⟩ r k) := by
  unfold V
  after_reads_simp
  all_goals try simp -implicitDefEqProofs only [StableHlo.TRef.toBuf, StableHlo.TRef.ofBuf, cast_cast, cast_eq]
  all_goals clean_types
  have e : ∀ I : IVec S120x256x1 32, I (ix3 b p 0) = pageA m c (ix2 b p) → Host.gather gather_S38400x24x128_S120x256x1_S120x256x24x128_23_0_n_n_0_2_124128 (kvA m c) I (ix4 b p r k)
      = kvA m c (ix3 ⟨(pageA m c (ix2 b p)).toNat, hp⟩ r k) := by
    intro I hI
    rw [gather_at]
    refine congrArg (fun z => kvA m c (ix3 z r k)) (Fin.ext ?_)
    show min (I (ix3 b p 0)).toInt.toNat 38399 = _
    rw [hI, BitVec.toInt_eq_toNat_of_lt (by omega), Int.toNat_natCast]
    exact min_eq_left (by omega)
  generalize hI : broadcastInDim S120x256x1 (![0, 1] : Fin S120x256.rank → Fin S120x256x1.rank) bcast_S120x256_S120x256x1_0_1 (_ : IVec S120x256 32) = I
  have hI' : I (ix3 b p 0) = pageA m c (ix2 b p) := by
    rw [← hI]
    refine Eq.trans ?_ (Routing.wrap_of_lt (pageA m c (ix2 b p)) (IntOp.addi (pageA m c (ix2 b p)) 38400#32) (by omega))
    pointwise
  rw [← e I hI']
  generalize Host.gather gather_S38400x24x128_S120x256x1_S120x256x24x128_23_0_n_n_0_2_124128 (kvA m c) I = X
  pointwise

end Cert.Attend.ReferenceIdeal

end
-- ==== Proof.Value.RefArray.lean ====
/- The reference's two result arrays at an index: its one point reads every operand whole and writes both results whole. -/
module

public import proofs.«01_k».proof.Proof.Value.RefRow
public import proofs.«01_k».proof.Proof.Value.RefHost
public import proofs.«01_k».proof.Proof.Value.Asked
public import Idealize.ShloMosaic.Lib.Pipeline.ValueKit

@[expose] public section

set_option maxRecDepth 16384

noncomputable section

namespace Cert.Attend.ReferenceIdeal

open Cert.ReferenceIdeal Cert.ReferenceIdeal.Gen Idealize.ShloMosaic Idealize.ShloMosaic.TcCoe
open Idealize.ShloMosaic.Pipeline (Dat)

/-- A column of a group is outside another group's rectangle. -/
theorem off_rect (b : Fin 120) (h : Fin 32) (o : ℕ) (inb) (c : Fin 512) (hc : c.val < o ∨ o + 128 ≤ c.val) :
    (ix3 b h c : S120x32x512.Idx) ∉ (Rect.unit (s := S120x32x512) ![0, 0, o] S120x32x128.size inb).set := by
  intro hm
  have e := Rect.mem_set_unit.1 hm (2 : Fin 3)
  have h1 : o ≤ c.val := e.1
  have h2 : c.val < o + 128 := e.2
  omega

/-- Off the last piece. -/
theorem skip (r : Rect S120x32x512) (w : r.shape.Idx → Elt Ideal .bf16) (L : List (View.Piece (Elt Ideal) S120x32x512 .bf16)) (y : S120x32x512.Idx) (hy : y ∉ r.set) :
    View.canon (⟨r, w⟩ :: L) y = View.canon L y := View.canon_cons_of_not_mem _ _ hy
/-- Under the last piece. -/
theorem under (r : Rect S120x32x512) (w : r.shape.Idx → Elt Ideal .bf16) (L : List (View.Piece (Elt Ideal) S120x32x512 .bf16)) (y : S120x32x512.Idx) (x : r.shape.Idx) (e : y = r.emb x) :
    View.canon (⟨r, w⟩ :: L) y = w x := by rw [e]; exact View.canon_cons_emb _ _ _ _

/-- A column of a group is under its own rectangle. -/
theorem in_rect (b : Fin 120) (h : Fin 32) (o : ℕ) (inb) (c : Fin 512) (x : Fin 128) (hc : c.val = o + x.val) :
    (ix3 b h c : S120x32x512.Idx) = (Rect.unit (s := S120x32x512) ![0, 0, o] S120x32x128.size inb).emb (ix3 b h x) := by
  funext a; apply Fin.ext
  match a with
  | ⟨0, _⟩ => show b.val = 0 + 1 * b.val; omega
  | ⟨1, _⟩ => show h.val = 0 + 1 * h.val; omega
  | ⟨2, _⟩ => show c.val = o + 1 * x.val; omega

/-! The four pieces of the first block, at a column of each group. -/
theorem piece0 (p3 p2 p1 p0 : Vec Ideal S120x32x128 .bf16) (b : Fin 120) (h : Fin 32) (x : Fin 128) :
    View.canon (Val := Elt Ideal) (s := S120x32x512) (e := .bf16) [⟨r0_10, p3⟩, ⟨r0_9, p2⟩, ⟨r0_8, p1⟩, ⟨r0_7, p0⟩] (ix3 b h ⟨x.val, by omega⟩) = p0 (ix3 b h x) := by
  have hx := x.isLt
  refine (skip r0_10 p3 _ _ (off_rect b h 384 inb_S120x32x512_S120x32x128_0_0_384 _ (by show x.val < 384 ∨ _; omega))).trans ?_
  refine (skip r0_9 p2 _ _ (off_rect b h 256 inb_S120x32x512_S120x32x128_0_0_256 _ (by show x.val < 256 ∨ _; omega))).trans ?_
  refine (skip r0_8 p1 _ _ (off_rect b h 128 inb_S120x32x512_S120x32x128_0_0_128 _ (by show x.val < 128 ∨ _; omega))).trans ?_
  exact under r0_7 p0 _ _ (ix3 b h x) (in_rect b h 0 inb_S120x32x512_S120x32x128_0_0_0 _ x (by show x.val = 0 + x.val; omega))
theorem piece1 (p3 p2 p1 p0 : Vec Ideal S120x32x128 .bf16) (b : Fin 120) (h : Fin 32) (x : Fin 128) :
    View.canon (Val := Elt Ideal) (s := S120x32x512) (e := .bf16) [⟨r0_10, p3⟩, ⟨r0_9, p2⟩, ⟨r0_8, p1⟩, ⟨r0_7, p0⟩] (ix3 b h ⟨128 + x.val, by omega⟩) = p1 (ix3 b h x) := by
  have hx := x.isLt
  refine (skip r0_10 p3 _ _ (off_rect b h 384 inb_S120x32x512_S120x32x128_0_0_384 _ (by show 128 + x.val < 384 ∨ _; omega))).trans ?_
  refine (skip r0_9 p2 _ _ (off_rect b h 256 inb_S120x32x512_S120x32x128_0_0_256 _ (by show 128 + x.val < 256 ∨ _; omega))).trans ?_
  exact under r0_8 p1 _ _ (ix3 b h x) (in_rect b h 128 inb_S120x32x512_S120x32x128_0_0_128 _ x rfl)
theorem piece2 (p3 p2 p1 p0 : Vec Ideal S120x32x128 .bf16) (b : Fin 120) (h : Fin 32) (x : Fin 128) :
    View.canon (Val := Elt Ideal) (s := S120x32x512) (e := .bf16) [⟨r0_10, p3⟩, ⟨r0_9, p2⟩, ⟨r0_8, p1⟩, ⟨r0_7, p0⟩] (ix3 b h ⟨256 + x.val, by omega⟩) = p2 (ix3 b h x) := by
  have hx := x.isLt
  refine (skip r0_10 p3 _ _ (off_rect b h 384 inb_S120x32x512_S120x32x128_0_0_384 _ (by show 256 + x.val < 384 ∨ _; omega))).trans ?_
  exact under r0_9 p2 _ _ (ix3 b h x) (in_rect b h 256 inb_S120x32x512_S120x32x128_0_0_256 _ x rfl)
theorem piece3 (p3 p2 p1 p0 : Vec Ideal S120x32x128 .bf16) (b : Fin 120) (h : Fin 32) (x : Fin 128) :
    View.canon (Val := Elt Ideal) (s := S120x32x512) (e := .bf16) [⟨r0_10, p3⟩, ⟨r0_9, p2⟩, ⟨r0_8, p1⟩, ⟨r0_7, p0⟩] (ix3 b h ⟨384 + x.val, by omega⟩) = p3 (ix3 b h x) := by
  have hx := x.isLt
  exact under r0_10 p3 _ _ (ix3 b h x) (in_rect b h 384 inb_S120x32x512_S120x32x128_0_0_384 _ x rfl)

/-! The two blocks at an index, from the operands whole. -/

section
variable (x0 : Vec Ideal S120x1x1 .i32) (x1 : Vec Ideal S120x1x1 .f32) (x2 : Vec Ideal S120x32x512 .bf16) (x3 : Vec Ideal S120x32x64 .bf16) (x4 : Vec Ideal S120x1x512 .bf16)
  (x5 : Vec Ideal S120x1x64 .bf16) (x6 : Vec Ideal S737280x128 .i32)

theorem zero2 : (![0, 0] : Fin 2 → ℕ) = fun _ => 0 := by decide
theorem zero3 : (![0, 0, 0] : Fin 3 → ℕ) = fun _ => 0 := by decide

theorem ld0 : View.ld x0 r0_5 = x0 := View.ld_unit_zero (S := S120x1x1) zero3 _ x0
theorem ld1 : View.ld x1 r0_5 = x1 := View.ld_unit_zero (S := S120x1x1) zero3 _ x1
theorem ld2 : View.ld x2 r0_1 = x2 := View.ld_unit_zero (S := S120x32x512) zero3 _ x2
theorem ld3 : View.ld x3 r0_2 = x3 := View.ld_unit_zero (S := S120x32x64) zero3 _ x3
theorem ld4 : View.ld x4 r0_3 = x4 := View.ld_unit_zero (S := S120x1x512) zero3 _ x4
theorem ld5 : View.ld x5 r0_4 = x5 := View.ld_unit_zero (S := S120x1x64) zero3 _ x5
theorem ld6 : View.ld x6 r0_0 = x6 := View.ld_unit_zero (S := S737280x128) zero2 _ x6

theorem p30 : k0_pay30 x0 x1 x2 x3 x4 x5 x6 = k0_pay5 x6 := by unfold k0_pay30; rw [ld6]
theorem p31 : k0_pay31 x0 x1 x2 x3 x4 x5 x6 = k0_pay6 x6 := by unfold k0_pay31; rw [ld6]
theorem p32 : k0_pay32 x0 x1 x2 x3 x4 x5 x6 = k0_pay7 x4 := by unfold k0_pay32; rw [ld4]
theorem p33 : k0_pay33 x0 x1 x2 x3 x4 x5 x6 = k0_pay12 x6 x2 x3 := by unfold k0_pay33; rw [ld6, ld2, ld3]
theorem p34 : k0_pay34 x0 x1 x2 x3 x4 x5 x6 = k0_pay13 x6 := by unfold k0_pay34; rw [ld6]
theorem p35 : k0_pay35 x0 x1 x2 x3 x4 x5 x6 = k0_pay14 x6 := by unfold k0_pay35; rw [ld6]
theorem p36 : k0_pay36 x0 x1 x2 x3 x4 x5 x6 = k0_pay15 x2 := by unfold k0_pay36; rw [ld2]
theorem p37 : k0_pay37 x0 x1 x2 x3 x4 x5 x6 = scNew x2 x3 x4 x5 := by unfold k0_pay37 scNew; rw [ld2, ld3, ld5, p32]
theorem p38 : k0_pay38 x0 x1 x2 x3 x4 x5 x6 = sc x0 x2 x3 x6 := by unfold k0_pay38 sc; rw [ld2, ld0, p30, p31, p33, p34, p35, p36]
theorem p39 : k0_pay39 x0 x1 x2 x3 x4 x5 x6 = top x0 x2 x3 x4 x5 x6 := by unfold k0_pay39 top; rw [ld2, ld3, ld5, ld0, p30, p31, p32, p33, p34, p35, p36]
theorem p40 : k0_pay40 x0 x1 x2 x3 x4 x5 x6 = dif x0 x2 x3 x4 x5 x6 := by unfold k0_pay40 dif; rw [ld2, ld3, ld5, ld0, p30, p31, p32, p33, p34, p35, p36]
theorem p41 : k0_pay41 x0 x1 x2 x3 x4 x5 x6 = k0_pay23 (scNew x2 x3 x4 x5) (sc x0 x2 x3 x6) (top x0 x2 x3 x4 x5 x6) (dif x0 x2 x3 x4 x5 x6) := by
  unfold k0_pay41; rw [p37, p38, p39, p40]
theorem p42 : k0_pay42 x0 x1 x2 x3 x4 x5 x6 = k0_pay24 (scNew x2 x3 x4 x5) (top x0 x2 x3 x4 x5 x6) (dif x0 x2 x3 x4 x5 x6) := by
  unfold k0_pay42; rw [p37, p39, p40]

variable {x0 x1 x2 x3 x4 x5 x6}
variable {q nl : Fin 512 → EReal} {qr kr : Fin 64 → EReal} {b : Fin 120} {h : Fin 32} {W : ℕ → ℕ → Fin 128 → BitVec 32} {n : BitVec 32}
  (H : Holds x0 x2 x3 x4 x5 x6 b h W q nl qr kr n)
include H

/-- The second block. -/
theorem lseBlock_at (hc : x1 (ix3 b 0 0) = FloatOps.sitofp (F := Ideal) .f32 (n + 1#32)) : out0_8 x0 x1 x2 x3 x4 x5 x6 (ix3 b 0 h) = lseOf W q nl qr kr n := by
  unfold out0_8
  rw [p37, p39, p40, ld1]
  have e : (ix3 b 0 h : S120x1x32.Idx) = r0_6.emb (ix3 b 0 h) := by
    funext a; apply Fin.ext
    match a with
    | ⟨0, _⟩ => show b.val = 0 + 1 * b.val; omega
    | ⟨1, _⟩ => rfl
    | ⟨2, _⟩ => show h.val = 0 + 1 * h.val; omega
  rw [e]
  refine (View.canon_cons_emb _ _ _ _).trans ?_
  exact lse_at H hc

/-- The first block. -/
theorem outBlock_at (c : Fin 512) : out0_7 x0 x1 x2 x3 x4 x5 x6 (ix3 b h c) = outOf W q nl qr kr n c := by
  unfold out0_7
  rw [p30, p31, p32, p34, p35, p37, p38, p39, p40, p41, p42, ld6]
  rcases (by omega : c.val < 128 ∨ (128 ≤ c.val ∧ c.val < 256) ∨ (256 ≤ c.val ∧ c.val < 384) ∨ 384 ≤ c.val) with hc | hc | hc | hc
  · have e : c = ⟨c.val - 0, by omega⟩ := Fin.ext (by show c.val = c.val - 0; omega)
    conv_lhs => rw [e]
    refine (piece0 _ _ _ _ b h ⟨c.val - 0, by omega⟩).trans ((pay26_apply _ _ _ _ _ _ _ _ _ _).trans ?_)
    have e' : (⟨c.val - 0, by omega⟩ : Fin 512) = c := Fin.ext (by show c.val - 0 = c.val; omega)
    refine Eq.trans ?_ (out_at H 0 (by omega) c ⟨c.val - 0, by omega⟩ (by show c.val = 128 * 0 + (c.val - 0); omega) (fun t => k0_pay8 x6 (ix3 b t ⟨c.val - 0, by omega⟩)) (fun t => k0_pay9 x6 (ix3 b 0 t)) (fun t => pay8_apply x6 b t _) (fun t => pay9_apply x6 b t))
    rw [e']
  · have e : c = ⟨128 + (c.val - 128), by omega⟩ := Fin.ext (by show c.val = 128 + (c.val - 128); omega)
    conv_lhs => rw [e]
    refine (piece1 _ _ _ _ b h ⟨c.val - 128, by omega⟩).trans ((pay1_apply _ _ _ _ _ _ _ _ _ _).trans ?_)
    have e' : (⟨128 + (c.val - 128), by omega⟩ : Fin 512) = c := Fin.ext (by show 128 + (c.val - 128) = c.val; omega)
    refine Eq.trans ?_ (out_at H 1 (by omega) c ⟨c.val - 128, by omega⟩ (by show c.val = 128 * 1 + (c.val - 128); omega) (fun t => k0_pay10 x6 (ix3 b t ⟨c.val - 128, by omega⟩)) (fun t => k0_pay11 x6 (ix3 b 0 t)) (fun t => pay10_apply x6 b t _) (fun t => pay11_apply x6 b t))
    rw [e']
  · have e : c = ⟨256 + (c.val - 256), by omega⟩ := Fin.ext (by show c.val = 256 + (c.val - 256); omega)
    conv_lhs => rw [e]
    refine (piece2 _ _ _ _ b h ⟨c.val - 256, by omega⟩).trans ((pay2_apply _ _ _ _ _ _ _ _).trans ?_)
    have e' : (⟨256 + (c.val - 256), by omega⟩ : Fin 512) = c := Fin.ext (by show 256 + (c.val - 256) = c.val; omega)
    refine Eq.trans ?_ (out_at H 2 (by omega) c ⟨c.val - 256, by omega⟩ (by show c.val = 128 * 2 + (c.val - 256); omega) (fun t => k0_pay13 x6 (ix3 b t ⟨c.val - 256, by omega⟩)) (fun t => k0_pay14 x6 (ix3 b 0 t)) (fun t => pay13_apply x6 b t _) (fun t => pay14_apply x6 b t))
    rw [e']
  · have e : c = ⟨384 + (c.val - 384), by omega⟩ := Fin.ext (by show c.val = 384 + (c.val - 384); omega)
    conv_lhs => rw [e]
    refine (piece3 _ _ _ _ b h ⟨c.val - 384, by omega⟩).trans ((pay3_apply _ _ _ _ _ _ _ _).trans ?_)
    have e' : (⟨384 + (c.val - 384), by omega⟩ : Fin 512) = c := Fin.ext (by show 384 + (c.val - 384) = c.val; omega)
    refine Eq.trans ?_ (out_at H 3 (by omega) c ⟨c.val - 384, by omega⟩ (by show c.val = 128 * 3 + (c.val - 384); omega) (fun t => k0_pay16 (k0_pay5 x6) (ix3 b t ⟨c.val - 384, by omega⟩)) (fun t => k0_pay17 (k0_pay6 x6) (ix3 b 0 t)) (fun t => pay16_apply x6 b t _) (fun t => pay17_apply x6 b t))
    rw [e']
end

/-! The arrays. -/

variable (m : (ℓ : Loc nD τ sig) → Buf (Elt Ideal) ℓ) (c : Dev nD)

/-! Every operand's one block is the whole array. -/
theorem iblk0 : iblk m c 0 t0_0 = V m c main_v11 := by
  funext j
  have e : win0_0.index t0_0 = fun _ => 0 := rfl
  blk_ext [iblk, V, e]
theorem iblk1 : iblk m c 1 t0_0 = V m c main_v12 := by
  funext j
  have e : win0_1.index t0_0 = fun _ => 0 := rfl
  blk_ext [iblk, V, e]
theorem iblk2 : iblk m c 2 t0_0 = V m c main_arg2 := by
  funext j
  have e : win0_2.index t0_0 = fun _ => 0 := rfl
  blk_ext [iblk, V, e]
theorem iblk3 : iblk m c 3 t0_0 = V m c main_arg3 := by
  funext j
  have e : win0_3.index t0_0 = fun _ => 0 := rfl
  blk_ext [iblk, V, e]
theorem iblk4 : iblk m c 4 t0_0 = V m c main_v13 := by
  funext j
  have e : win0_4.index t0_0 = fun _ => 0 := rfl
  blk_ext [iblk, V, e]
theorem iblk5 : iblk m c 5 t0_0 = V m c main_v14 := by
  funext j
  have e : win0_5.index t0_0 = fun _ => 0 := rfl
  blk_ext [iblk, V, e]
theorem iblk6 : iblk m c 6 t0_0 = V m c main_v10 := by
  funext j
  have e : win0_6.index t0_0 = fun _ => 0 := rfl
  blk_ext [iblk, V, e]

variable (H : Fine (pageA m c) (lenA m c) (qA m c) (qrA m c) (nlA m c) (krA m c) (kvA m c))
include H

/-- What the point reads. -/
theorem holds (b : Fin 120) (h : Fin 32) : Holds (V m c main_v11) (V m c main_arg2) (V m c main_arg3) (V m c main_v13) (V m c main_v14) (V m c main_v10) b h
    (pageWords (pageA m c) (kvA m c) b) (fun j => qA m c (ix3 b h j)) (fun j => nlA m c (ix2 b j)) (fun k => qrA m c (ix3 b h k)) (fun k => krA m c (ix2 b k)) (lenA m c (ix1 b)) where
  le := H.len b
  good := H.good b h _
  hn := host_len m c b
  hq j := by rw [V_main_arg2]
  hqr k := by rw [V_main_arg3]
  hnl j := host_nl m c b j
  hkr k := host_kr m c b k
  hW p r k hp hr := by
    have hpg := H.page b ⟨p, hp⟩
    refine Eq.trans ?_ ((host_words m c b ⟨p, hp⟩ ⟨r, hr⟩ k hpg).trans ?_)
    · unfold words
      refine congrArg (fun z => V m c main_v10 (ix2 z k)) (Fin.ext ?_)
      exact Nat.mod_eq_of_lt (by have := b.isLt; omega)
    · unfold pageWords
      have e1 : (⟨p % 256, Nat.mod_lt _ (by decide)⟩ : Fin 256) = ⟨p, hp⟩ := Fin.ext (Nat.mod_eq_of_lt hp)
      have e2 : (⟨r % 24, Nat.mod_lt _ (by decide)⟩ : Fin 24) = ⟨r, hr⟩ := Fin.ext (Nat.mod_eq_of_lt hr)
      rw [e2]
      refine congrArg (fun z => kvA m c (ix3 z ⟨r, hr⟩ k)) (Fin.ext ?_)
      show (pageA m c (ix2 b ⟨p, hp⟩)).toNat = (pageA m c (ix2 b ⟨p % 256, Nat.mod_lt _ (by decide)⟩)).toNat % 38400
      rw [e1, Nat.mod_eq_of_lt hpg]

/-- The attention output. -/
theorem out_array (b : Fin 120) (h : Fin 32) (j : Fin 512) : (dats m 0 c).arrAt 7 cfg0.N (ix3 b h j)
    = outAt (pageA m c) (lenA m c) (qA m c) (qrA m c) (nlA m c) (krA m c) (kvA m c) b h j := by
  have e : (dats m 0 c).arrAt 7 cfg0.N = out0_7 (iblk m c 0 t0_0) (iblk m c 1 t0_0) (iblk m c 2 t0_0) (iblk m c 3 t0_0) (iblk m c 4 t0_0) (iblk m c 5 t0_0) (iblk m c 6 t0_0) := by
    refine (dats m 0 c).arrAt_eq_of_after_last 7 t0_0 (by decide +kernel) _ fun y => ?_
    blk_simp
    rw [after0_7]
  rw [e, iblk0, iblk1, iblk2, iblk3, iblk4, iblk5, iblk6]
  exact outBlock_at (holds m c H b h) j

/-- The log-sum-exp. -/
theorem lse_array (b : Fin 120) (h : Fin 32) : (dats m 0 c).arrAt 8 cfg0.N (ix3 b 0 h)
    = lseAt (pageA m c) (lenA m c) (qA m c) (qrA m c) (nlA m c) (krA m c) (kvA m c) b h := by
  have e : (dats m 0 c).arrAt 8 cfg0.N = out0_8 (iblk m c 0 t0_0) (iblk m c 1 t0_0) (iblk m c 2 t0_0) (iblk m c 3 t0_0) (iblk m c 4 t0_0) (iblk m c 5 t0_0) (iblk m c 6 t0_0) := by
    refine (dats m 0 c).arrAt_eq_of_after_last 8 t0_0 (by decide +kernel) _ fun y => ?_
    blk_simp
    rw [after0_8]
  rw [e, iblk0, iblk1, iblk2, iblk3, iblk4, iblk5, iblk6]
  exact lseBlock_at (holds m c H b h) (host_count m c b)

end Cert.Attend.ReferenceIdeal

end
-- ==== Proof.Value.Finite.lean ====
/- What the precondition says of the arguments: page numbers and lengths in range, no code the format reserves for NaN, and no
   infinite or NaN bf16 value. -/
module

public import proofs.«01_k».proof.Proof.Value.Asked
public import proofs.«01_k».proof.Proof.KernelIdeal.Range
public import proofs.«01_k».proof.Defs

@[expose] public section

set_option maxRecDepth 16384

noncomputable section

namespace Cert.Attend

open Idealize.ShloMosaic

/-- The one fp8 code that is not a real is all ones below the sign. -/
theorem e4m3_real (b : BitVec 8) (h : b.toNat % 128 ≠ 127) : IsReal (Ideal.e4m3fn b) := by
  have hd : ¬ ((b.extractLsb' 3 4).toNat = 15 ∧ (b.extractLsb' 0 3).toNat = 7) := by
    rintro ⟨h1, h2⟩
    refine h ?_
    rw [BitVec.extractLsb'_toNat] at h1 h2
    simp only [Nat.shiftRight_eq_div_pow] at h1 h2
    omega
  unfold Ideal.e4m3fn
  simp only
  rw [if_neg hd]
  split <;> exact ⟨_, rfl⟩

theorem code_real (w : BitVec 32) (i : ℕ) (h : (w.toNat >>> (8 * i)) % 128 ≠ 127) : IsReal (codeOf w i) := by
  refine e4m3_real _ ?_
  rw [BitVec.extractLsb'_toNat]
  omega

theorem half_real (w : BitVec 32) (i : ℕ) (h : (w.toNat >>> (16 * i)) / 128 % 256 ≠ 255) : IsReal (halfOf w i) := by
  refine ieee_real 8 7 _ ?_
  rw [BitVec.extractLsb'_toNat, BitVec.extractLsb'_toNat]
  rw [show (2 : ℕ) ^ FTy.bf16.bits = 65536 from rfl]
  simp only [Nat.shiftRight_eq_div_pow] at h ⊢
  omega

/-- A value of magnitude below infinity is a real. -/
theorem real_of_abs (x : EReal) (h : Ideal.cmp .olt (max x (-x)) (Ideal.ofBits FTy.bf16 0x7F80#16) = 1#1) : IsReal x := by
  have et : Ideal.ofBits FTy.bf16 0x7F80#16 = ⊤ := by simp [Ideal.ofBits, Ideal.ieee]
  rw [et] at h
  have hl : max x (-x) < ⊤ := by
    by_contra hn
    simp [Ideal.cmp, hn] at h
  induction x using EReal.rec with
  | bot => simp at hl
  | top => simp at hl
  | coe a => exact ⟨a, rfl⟩

theorem ne_of_cmpi {w : ℕ} (a b : BitVec w) (h : IntOp.cmpi .ne a b = 1#1) : a ≠ b := by
  intro e
  subst e
  simp [IntOp.cmpi] at h

theorem low7 (x : BitVec 32) (h : IntOp.cmpi .ne (IntOp.andi x 127#32) 127#32 = 1#1) : x.toNat % 128 ≠ 127 := by
  intro e
  refine ne_of_cmpi _ _ h (BitVec.eq_of_toNat_eq ?_)
  show (x &&& 127#32).toNat = 127
  rw [BitVec.toNat_and]
  show x.toNat &&& (2 ^ 7 - 1) = 127
  rw [Nat.and_two_pow_sub_one_eq_mod]
  exact e

theorem exp8 (x : BitVec 32) (h : IntOp.cmpi .ne (IntOp.andi x 32640#32) 32640#32 = 1#1) : x.toNat / 128 % 256 ≠ 255 := by
  intro e
  refine ne_of_cmpi _ _ h (BitVec.eq_of_toNat_eq ?_)
  show (x &&& 32640#32).toNat = 32640
  rw [BitVec.toNat_and]
  show x.toNat &&& 32640 = 32640
  have e1 : x.toNat >>> 7 &&& (2 ^ 8 - 1) = 255 := by
    rw [Nat.and_two_pow_sub_one_eq_mod, Nat.shiftRight_eq_div_pow]
    exact e
  refine Nat.eq_of_testBit_eq fun j => ?_
  rw [Nat.testBit_and]
  by_cases hj : 7 ≤ j ∧ j < 15
  · have e2 := congrArg (fun n => n.testBit (j - 7)) e1
    simp only [Nat.testBit_and, Nat.testBit_shiftRight] at e2
    rw [show 7 + (j - 7) = j by omega] at e2
    have e3 : Nat.testBit 255 (j - 7) = true := by
      have : j - 7 < 8 := by omega
      interval_cases (j - 7) <;> rfl
    have e4 : Nat.testBit (2 ^ 8 - 1) (j - 7) = true := e3
    rw [e3, e4, Bool.and_true] at e2
    rw [e2, Bool.true_and]
  · have e3 : Nat.testBit 32640 j = false := by
      by_cases h7 : j < 7
      · interval_cases j <;> rfl
      · exact Nat.testBit_lt_two_pow (lt_of_lt_of_le (by decide : 32640 < 2 ^ 15) (Nat.pow_le_pow_right (by decide) (by omega)))
    rw [e3, Bool.and_false]

theorem shift (x : BitVec 32) (k : ℕ) (hk : k < 32) : (IntOp.shrui .host x (BitVec.ofNat 32 k)).toNat = x.toNat >>> k := by
  have e : (BitVec.ofNat 32 k).toNat = k := by rw [BitVec.toNat_ofNat]; omega
  unfold IntOp.shrui
  rw [if_pos (by omega)]
  show (x >>> (BitVec.ofNat 32 k).toNat).toNat = _
  rw [e, BitVec.toNat_ushiftRight]

end Cert.Attend

namespace Cert.Attend.KernelIdeal

open Cert.KernelIdeal Cert.KernelIdeal.Gen
open Idealize.ShloMosaic Idealize.ShloMosaic.TcCoe

/-- The side conditions of the precondition's operations. -/
theorem finiteFacts : Cert.Pre_in_range_finite.Facts :=
  ⟨by decide, by decide, by decide, by decide, by decide, by decide, by decide, by decide, by decide, by decide⟩

/-- The precondition on plain arrays. -/
theorem fine_of [hP : Cert.Pre_in_range_finite.Facts] (pg : IVec S120x256 32) (ln : IVec S120 32) (q : FVec Ideal S120x32x512 .bf16) (qr : FVec Ideal S120x32x64 .bf16)
    (nl : FVec Ideal S120x512 .bf16) (kr : FVec Ideal S120x64 .bf16) (kv : IVec S38400x24x128 32)
    (h0 : (Cert.Pre_in_range_finite.fn (F := Ideal) pg ln q qr nl kr kv).1 = fun _ => 1#1)
    (h1 : (Cert.Pre_in_range_finite.fn (F := Ideal) pg ln q qr nl kr kv).2.1 = fun _ => 1#1)
    (h2 : (Cert.Pre_in_range_finite.fn (F := Ideal) pg ln q qr nl kr kv).2.2.1 = fun _ => 1#1)
    (h3 : (Cert.Pre_in_range_finite.fn (F := Ideal) pg ln q qr nl kr kv).2.2.2.1 = fun _ => 1#1)
    (h4 : (Cert.Pre_in_range_finite.fn (F := Ideal) pg ln q qr nl kr kv).2.2.2.2.1 = fun _ => 1#1)
    (h5 : (Cert.Pre_in_range_finite.fn (F := Ideal) pg ln q qr nl kr kv).2.2.2.2.2.1 = fun _ => 1#1)
    (h6 : (Cert.Pre_in_range_finite.fn (F := Ideal) pg ln q qr nl kr kv).2.2.2.2.2.2.1 = fun _ => 1#1)
    (h7 : (Cert.Pre_in_range_finite.fn (F := Ideal) pg ln q qr nl kr kv).2.2.2.2.2.2.2.1 = fun _ => 1#1)
    (h8 : (Cert.Pre_in_range_finite.fn (F := Ideal) pg ln q qr nl kr kv).2.2.2.2.2.2.2.2.1 = fun _ => 1#1)
    (h9 : (Cert.Pre_in_range_finite.fn (F := Ideal) pg ln q qr nl kr kv).2.2.2.2.2.2.2.2.2.1 = fun _ => 1#1)
    (h10 : (Cert.Pre_in_range_finite.fn (F := Ideal) pg ln q qr nl kr kv).2.2.2.2.2.2.2.2.2.2.1 = fun _ => 1#1)
    (h11 : (Cert.Pre_in_range_finite.fn (F := Ideal) pg ln q qr nl kr kv).2.2.2.2.2.2.2.2.2.2.2 = fun _ => 1#1) :
    Fine pg ln q qr nl kr kv := by
  have c0 : ∀ i, IntOp.andi (IntOp.cmpi .sge (pg i) 0#32) (IntOp.cmpi .slt (pg i) 38400#32) = 1#1 := fun i => congrFun h0 i
  have c1 : ∀ i, IntOp.andi (IntOp.cmpi .sge (ln i) 0#32) (IntOp.cmpi .sle (ln i) 4096#32) = 1#1 := fun i => congrFun h1 i
  have code : ∀ (P : Fin 38400) (r : Fin 16) (k : Fin 128) (i : ℕ), i < 4 → ((kv (ix3 P ⟨r.val, by omega⟩ k)).toNat >>> (8 * i)) % 128 ≠ 127 := by
    intro P r k i hi
    have e : ∀ o : S38400x24x128.Slices ![0, 0, 0] Cert.Pre_in_range_finite.S38400x16x128, extractStridedSlice Cert.Pre_in_range_finite.S38400x16x128 ![0, 0, 0] kv o (ix3 P r k) = kv (ix3 P ⟨r.val, by omega⟩ k) := by
      intro o; pointwise
    have a8 := congrFun h8 (ix3 P r k)
    have a9 := congrFun h9 (ix3 P r k)
    have a10 := congrFun h10 (ix3 P r k)
    have a11 := congrFun h11 (ix3 P r k)
    interval_cases i
    · exact low7 _ ((e hP.slices_S38400x24x128_S38400x16x128_0_0_0) ▸ a8)
    · have := low7 _ a9
      rw [← shift _ (8 * 1) (by omega), ← e hP.slices_S38400x24x128_S38400x16x128_0_0_0]; exact this
    · have := low7 _ a10
      rw [← shift _ (8 * 2) (by omega), ← e hP.slices_S38400x24x128_S38400x16x128_0_0_0]; exact this
    · have := low7 _ a11
      rw [← shift _ (8 * 3) (by omega), ← e hP.slices_S38400x24x128_S38400x16x128_0_0_0]; exact this
  have half : ∀ (P : Fin 38400) (r : Fin 8) (k : Fin 128) (i : ℕ), i < 2 → ((kv (ix3 P ⟨16 + r.val, by omega⟩ k)).toNat >>> (16 * i)) / 128 % 256 ≠ 255 := by
    intro P r k i hi
    have e : ∀ o : S38400x24x128.Slices ![0, 16, 0] Cert.Pre_in_range_finite.S38400x8x128, extractStridedSlice Cert.Pre_in_range_finite.S38400x8x128 ![0, 16, 0] kv o (ix3 P r k) = kv (ix3 P ⟨16 + r.val, by omega⟩ k) := by
      intro o; pointwise
    have a6 := congrFun h6 (ix3 P r k)
    have a7 := congrFun h7 (ix3 P r k)
    interval_cases i
    · exact exp8 _ ((e hP.slices_S38400x24x128_S38400x8x128_0_16_0) ▸ a6)
    · have := exp8 _ a7
      rw [← shift _ (16 * 1) (by omega), ← e hP.slices_S38400x24x128_S38400x8x128_0_16_0]; exact this
  constructor
  · exact fun b p => below_of_signed _ 38400#32 (by decide) (c0 _)
  · exact fun b => most_of_signed _ 4096#32 (by decide) (c1 _)
  · intro b g t c hg
    unfold Attend.cd pageWords
    refine code_real _ _ ?_
    have hr : 4 * g + t / 4 % 4 < 16 := by omega
    have e : (⟨(4 * g + t / 4 % 4) % 24, Nat.mod_lt _ (by decide)⟩ : Fin 24) = ⟨4 * g + t / 4 % 4, by omega⟩ := Fin.ext (Nat.mod_eq_of_lt (by omega))
    rw [e]
    exact code _ ⟨4 * g + t / 4 % 4, hr⟩ c (t % 4) (by omega)
  · intro b t k
    unfold Attend.mt pageWords
    refine half_real _ _ ?_
    have e : (⟨(16 + t / 2 % 8) % 24, Nat.mod_lt _ (by decide)⟩ : Fin 24) = ⟨16 + t / 2 % 8, by omega⟩ := Fin.ext (Nat.mod_eq_of_lt (by omega))
    rw [e]
    exact half _ ⟨t / 2 % 8, by omega⟩ k (t % 2) (by omega)
  · exact fun j => real_of_abs _ (congrFun h2 j)
  · exact fun j => real_of_abs _ (congrFun h4 j)
  · exact fun j => real_of_abs _ (congrFun h3 j)
  · exact fun j => real_of_abs _ (congrFun h5 j)

end Cert.Attend.KernelIdeal

end
-- ==== Proof.Value.Agree.lean ====
/- The kernel and the reference leave the same two arrays: each is, at every index, the same function of the arguments. -/
module

public import proofs.«01_k».proof.Proof.Value.KernelArray
public import proofs.«01_k».proof.Proof.Value.RefArray
public import proofs.«01_k».proof.Proof.Value.Finite
public import proofs.«01_k».proof.Proof.Gen.ReferenceIdeal.Frame

@[expose] public section

set_option maxRecDepth 16384

noncomputable section

namespace Cert.Attend.KernelIdeal

open Cert.KernelIdeal Cert.KernelIdeal.Gen
open Idealize.ShloMosaic Idealize.ShloMosaic.TcCoe

variable (m : (ℓ : Loc nD τ sig) → Buf (Elt Ideal) ℓ)

/-- The precondition, of the arguments at launch. -/
theorem fine [hP : Cert.Pre_in_range_finite.Facts] (h : Cert.Pre_KernelIdeal_in_range_finite m) (c : Dev nD) :
    Fine (pageA m c) (lenA m c) (qA m c) (qrA m c) (nlA m c) (krA m c) (kvA m c) := by
  obtain ⟨h0, h1, h2, h3, h4, h5, h6, h7, h8, h9, h10, h11⟩ := h c
  exact fine_of _ _ _ _ _ _ _ h0 h1 h2 h3 h4 h5 h6 h7 h8 h9 h10 h11

theorem lens_fine (H : ∀ c, Fine (pageA m c) (lenA m c) (qA m c) (qrA m c) (nlA m c) (krA m c) (kvA m c)) : ∀ x, (lens m x : BitVec 32).toNat ≤ 4096 := by
  intro x
  rw [lens_eq m 0, show x = ix1 (x 0) from funext fun a => match a with | ⟨0, _⟩ => rfl]
  exact (H 0).len _

theorem tabs_fine (H : ∀ c, Fine (pageA m c) (lenA m c) (qA m c) (qrA m c) (nlA m c) (krA m c) (kvA m c)) : ∀ x, (tabs m x : BitVec 32).toNat < 38400 := by
  intro x
  rw [tabs_eq m 0, show x = ix2 (x 0) (x 1) from funext fun a => match a with | ⟨0, _⟩ => rfl | ⟨1, _⟩ => rfl]
  exact (H 0).page _ _

end Cert.Attend.KernelIdeal

namespace Cert.Attend

open Idealize.ShloMosaic Idealize.ShloMosaic.TcCoe

/-- The middle axis of the log-sum-exp has one index. -/
theorem idx_lse (y : (Shape.mk 3 ![120, 1, 32]).Idx) : y = ix3 (y 0) 0 (y 2) := by
  funext a
  match a with
  | ⟨0, _⟩ => rfl
  | ⟨1, _⟩ => exact Subsingleton.elim (α := Fin 1) _ _
  | ⟨2, _⟩ => rfl

/-- The kernel's frame under the value claim's precondition. -/
theorem frame_finite [hP : Cert.Pre_in_range_finite.Facts] :
    Cert.quiescent_KernelIdeal_pre_in_range_finite (hKernelIdeal := Cert.KernelIdeal.Gen.facts) (hPre_in_range_finite := hP) := by
  intro m g hpre
  exact KernelIdeal.frame m g (KernelIdeal.lens_fine m (KernelIdeal.fine m hpre)) (KernelIdeal.tabs_fine m (KernelIdeal.fine m hpre)) (KernelIdeal.ok m)

/-- The value claim. -/
theorem agree [hP : Cert.Pre_in_range_finite.Facts] :
    Cert.algebraic_KernelIdeal_ReferenceIdeal_pre_in_range_finite (hKernelIdeal := Cert.KernelIdeal.Gen.facts) (hReferenceIdeal := Cert.ReferenceIdeal.Gen.facts) (hPre_in_range_finite := hP) := by
  intro m g m' g' hpre hargs
  have H := KernelIdeal.fine m hpre
  have hl := KernelIdeal.lens_fine m H
  have hw := KernelIdeal.tabs_fine m H
  have hO := KernelIdeal.ok m
  have H' : ∀ c, Fine (ReferenceIdeal.pageA m' c) (ReferenceIdeal.lenA m' c) (ReferenceIdeal.qA m' c) (ReferenceIdeal.qrA m' c) (ReferenceIdeal.nlA m' c) (ReferenceIdeal.krA m' c) (ReferenceIdeal.kvA m' c) := by
    intro c
    obtain ⟨e0, e1, e2, e3, e4, e5, e6⟩ := hargs c
    have h := H c
    unfold ReferenceIdeal.pageA ReferenceIdeal.lenA ReferenceIdeal.qA ReferenceIdeal.qrA ReferenceIdeal.nlA ReferenceIdeal.krA ReferenceIdeal.kvA
    rw [e0, e1, e2, e3, e4, e5, e6]
    exact h
  refine ⟨fun c => (KernelIdeal.dats m hO 0 c).arrAt 4 (KernelIdeal.cfgM m hO).N, fun c => (KernelIdeal.dats m hO 0 c).arrAt 5 (KernelIdeal.cfgM m hO).N, ?_, ?_⟩
  · refine (θ_run _ _ _).mono (fun r h c => ⟨(h.1 c).1 4, (h.1 c).1 5, h.2.1 c⟩) (θ_run_and (KernelIdeal.run_main m g hl hw hO) (KernelIdeal.frame m g hl hw hO))
  · refine (θ_run _ _ _).mono (fun r h c => ⟨(h c).1.trans ?_, (h c).2.1.trans ?_, (h c).2.2⟩) (Cert.ReferenceIdeal.Value.run_blocks m' g')
    · funext y
      obtain ⟨e0, e1, e2, e3, e4, e5, e6⟩ := hargs c
      have ey : y = ix3 (y 0) (y 1) (y 2) := eq_ix3 y
      have a := KernelIdeal.out_array m hO c (H c) (y 0) (y 1) (y 2)
      have b := ReferenceIdeal.out_array m' c (H' c) (y 0) (y 1) (y 2)
      rw [ey]
      refine b.trans (Eq.trans ?_ a.symm)
      unfold ReferenceIdeal.pageA ReferenceIdeal.lenA ReferenceIdeal.qA ReferenceIdeal.qrA ReferenceIdeal.nlA ReferenceIdeal.krA ReferenceIdeal.kvA
      rw [e0, e1, e2, e3, e4, e5, e6]
    · funext y
      obtain ⟨e0, e1, e2, e3, e4, e5, e6⟩ := hargs c
      have ey : y = (ix3 (y 0 : Fin 120) (0 : Fin 1) (y 2 : Fin 32) : (Shape.mk 3 ![120, 1, 32]).Idx) := idx_lse y
      have a := KernelIdeal.lse_array m hO c (H c) (y 0) (y 2)
      have b := ReferenceIdeal.lse_array m' c (H' c) (y 0) (y 2)
      rw [ey]
      refine b.trans (Eq.trans ?_ a.symm)
      unfold ReferenceIdeal.pageA ReferenceIdeal.lenA ReferenceIdeal.qA ReferenceIdeal.qrA ReferenceIdeal.nlA ReferenceIdeal.krA ReferenceIdeal.kvA
      rw [e0, e1, e2, e3, e4, e5, e6]

end Cert.Attend

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Range
public import proofs.«01_k».proof.Proof.KernelIdeal.Range
public import proofs.«01_k».proof.Proof.Value.Agree

@[expose] public section

noncomputable section

/-- The shape facts the range precondition states. -/
theorem Cert.Attend.rangeFacts : Cert.Pre_in_range.Facts := ⟨by decide, by decide⟩

theorem Cert.Proof.claim : Cert.Claim :=
  ⟨Cert.Kernel.Gen.facts, Cert.KernelIdeal.Gen.facts, Cert.ReferenceIdeal.Gen.facts, Cert.Attend.rangeFacts, Cert.Attend.KernelIdeal.finiteFacts,
    Cert.Attend.frame_Kernel (hP := Cert.Attend.rangeFacts), Cert.Attend.frame_KernelIdeal (hP := Cert.Attend.rangeFacts),
    Cert.Attend.frame_finite (hP := Cert.Attend.KernelIdeal.finiteFacts),
    fun m ρ _ => Cert.ReferenceIdeal.Gen.frame m ρ, fun m ρ _ => Cert.ReferenceIdeal.Gen.frame m ρ, trivial,
    Cert.Attend.agree (hP := Cert.Attend.KernelIdeal.finiteFacts)⟩
